-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v91) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)) →
    ∃ (v0 : (c : Dev Cert.Kernel2Ideal.nD) → Buf (Elt Ideal) ((c.tc : Thread Cert.Kernel2Ideal.nD Cert.Kernel2Ideal.τ).loc Cert.Kernel2Ideal.main_v11)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v11) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v55) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v31_0)) (v1 : (c : Dev Cert.Kernel3Ideal.nD) → Buf (Elt Ideal) ((c.tc : Thread Cert.Kernel3Ideal.nD Cert.Kernel3Ideal.τ).loc Cert.Kernel3Ideal.main_v31_1)) (v2 : (c : Dev Cert.Kernel3Ideal.nD) → Buf (Elt Ideal) ((c.tc : Thread Cert.Kernel3Ideal.nD Cert.Kernel3Ideal.τ).loc Cert.Kernel3Ideal.main_v31_2)) (v3 : (c : Dev Cert.Kernel3Ideal.nD) → Buf (Elt Ideal) ((c.tc : Thread Cert.Kernel3Ideal.nD Cert.Kernel3Ideal.τ).loc Cert.Kernel3Ideal.main_v31_3)) (v4 : (c : Dev Cert.Kernel3Ideal.nD) → Buf (Elt Ideal) ((c.tc : Thread Cert.Kernel3Ideal.nD Cert.Kernel3Ideal.τ).loc Cert.Kernel3Ideal.main_v31_4)) (v5 : (c : Dev Cert.Kernel3Ideal.nD) → Buf (Elt Ideal) ((c.tc : Thread Cert.Kernel3Ideal.nD Cert.Kernel3Ideal.τ).loc Cert.Kernel3Ideal.main_v31_5)) (v6 : (c : Dev Cert.Kernel3Ideal.nD) → Buf (Elt Ideal) ((c.tc : Thread Cert.Kernel3Ideal.nD Cert.Kernel3Ideal.τ).loc Cert.Kernel3Ideal.main_v31_6)) (v7 : (c : Dev Cert.Kernel3Ideal.nD) → Buf (Elt Ideal) ((c.tc : Thread Cert.Kernel3Ideal.nD Cert.Kernel3Ideal.τ).loc Cert.Kernel3Ideal.main_v31_7)) (v8 : (c : Dev Cert.Kernel3Ideal.nD) → Buf (Elt Ideal) ((c.tc : Thread Cert.Kernel3Ideal.nD Cert.Kernel3Ideal.τ).loc Cert.Kernel3Ideal.main_v31_8)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v31_0) = v0 c
          ∧ r.2.mem ((c.tc : Thread Cert.Kernel3Ideal.nD Cert.Kernel3Ideal.τ).loc Cert.Kernel3Ideal.main_v31_1) = v1 c
          ∧ r.2.mem ((c.tc : Thread Cert.Kernel3Ideal.nD Cert.Kernel3Ideal.τ).loc Cert.Kernel3Ideal.main_v31_2) = v2 c
          ∧ r.2.mem ((c.tc : Thread Cert.Kernel3Ideal.nD Cert.Kernel3Ideal.τ).loc Cert.Kernel3Ideal.main_v31_3) = v3 c
          ∧ r.2.mem ((c.tc : Thread Cert.Kernel3Ideal.nD Cert.Kernel3Ideal.τ).loc Cert.Kernel3Ideal.main_v31_4) = v4 c
          ∧ r.2.mem ((c.tc : Thread Cert.Kernel3Ideal.nD Cert.Kernel3Ideal.τ).loc Cert.Kernel3Ideal.main_v31_5) = v5 c
          ∧ r.2.mem ((c.tc : Thread Cert.Kernel3Ideal.nD Cert.Kernel3Ideal.τ).loc Cert.Kernel3Ideal.main_v31_6) = v6 c
          ∧ r.2.mem ((c.tc : Thread Cert.Kernel3Ideal.nD Cert.Kernel3Ideal.τ).loc Cert.Kernel3Ideal.main_v31_7) = v7 c
          ∧ r.2.mem ((c.tc : Thread Cert.Kernel3Ideal.nD Cert.Kernel3Ideal.τ).loc Cert.Kernel3Ideal.main_v31_8) = v8 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v195) = v0 c
          ∧ r.2.mem ((c.tc : Thread Cert.Reference3Ideal.nD Cert.Reference3Ideal.τ).loc Cert.Reference3Ideal.main_v196) = v1 c
          ∧ r.2.mem ((c.tc : Thread Cert.Reference3Ideal.nD Cert.Reference3Ideal.τ).loc Cert.Reference3Ideal.main_v22) = v2 c
          ∧ r.2.mem ((c.tc : Thread Cert.Reference3Ideal.nD Cert.Reference3Ideal.τ).loc Cert.Reference3Ideal.main_v99) = v3 c
          ∧ r.2.mem ((c.tc : Thread Cert.Reference3Ideal.nD Cert.Reference3Ideal.τ).loc Cert.Reference3Ideal.main_v198) = v4 c
          ∧ r.2.mem ((c.tc : Thread Cert.Reference3Ideal.nD Cert.Reference3Ideal.τ).loc Cert.Reference3Ideal.main_v199) = v5 c
          ∧ r.2.mem ((c.tc : Thread Cert.Reference3Ideal.nD Cert.Reference3Ideal.τ).loc Cert.Reference3Ideal.main_v202) = v6 c
          ∧ r.2.mem ((c.tc : Thread Cert.Reference3Ideal.nD Cert.Reference3Ideal.τ).loc Cert.Reference3Ideal.main_v205) = v7 c
          ∧ r.2.mem ((c.tc : Thread Cert.Reference3Ideal.nD Cert.Reference3Ideal.τ).loc Cert.Reference3Ideal.main_v213) = v8 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)) →
    ∃ (v0 : (c : Dev Cert.Kernel4Ideal.nD) → Buf (Elt Ideal) ((c.tc : Thread Cert.Kernel4Ideal.nD Cert.Kernel4Ideal.τ).loc Cert.Kernel4Ideal.main_v38_0)) (v1 : (c : Dev Cert.Kernel4Ideal.nD) → Buf (Elt Ideal) ((c.tc : Thread Cert.Kernel4Ideal.nD Cert.Kernel4Ideal.τ).loc Cert.Kernel4Ideal.main_v38_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v38_0) = v0 c
          ∧ r.2.mem ((c.tc : Thread Cert.Kernel4Ideal.nD Cert.Kernel4Ideal.τ).loc Cert.Kernel4Ideal.main_v38_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v78) = v0 c
          ∧ r.2.mem ((c.tc : Thread Cert.Reference4Ideal.nD Cert.Reference4Ideal.τ).loc Cert.Reference4Ideal.main_v80) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
-- ==== Kernel.lean ====
abbrev S8x4096x2048 : Shape := ⟨3, ![8, 4096, 2048]⟩
abbrev S2x512 : Shape := ⟨2, ![2, 512]⟩
abbrev S1x128 : Shape := ⟨2, ![1, 128]⟩
abbrev S8x4096x512 : Shape := ⟨3, ![8, 4096, 512]⟩
abbrev S1x2048x2048 : Shape := ⟨3, ![1, 2048, 2048]⟩
abbrev S1x2048x512 : Shape := ⟨3, ![1, 2048, 512]⟩
abbrev S4x128x128 : Shape := ⟨3, ![4, 128, 128]⟩
abbrev S512 : Shape := ⟨1, ![512]⟩
abbrev S1x512 : Shape := ⟨2, ![1, 512]⟩
abbrev S64x64 : Shape := ⟨2, ![64, 64]⟩
abbrev S1x128x128 : Shape := ⟨3, ![1, 128, 128]⟩
abbrev S128x128 : Shape := ⟨2, ![128, 128]⟩
abbrev S1x64x2048 : Shape := ⟨3, ![1, 64, 2048]⟩
abbrev S64x2048 : Shape := ⟨2, ![64, 2048]⟩
abbrev S64x512 : Shape := ⟨2, ![64, 512]⟩
abbrev S64x128 : Shape := ⟨2, ![64, 128]⟩
abbrev S1x64x512 : Shape := ⟨3, ![1, 64, 512]⟩
abbrev S64 : Shape := ⟨1, ![64]⟩
abbrev S64x1 : Shape := ⟨2, ![64, 1]⟩
abbrev S1x64x128 : Shape := ⟨3, ![1, 64, 128]⟩

abbrev nBuf : Space → Nat
  | .hbm => 4
  | .vmem => 7
  | .smem => 0
  | _ => 0

abbrev bufTy : (tb : Table) → Fin (tcTables nBuf tb) → BufTy
  | .hbm, ⟨0, _⟩ => ⟨S8x4096x2048, .bf16⟩
  | .hbm, ⟨1, _⟩ => ⟨S2x512, .f32⟩
  | .hbm, ⟨2, _⟩ => ⟨S1x128, .f32⟩
  | .hbm, ⟨3, _⟩ => ⟨S8x4096x512, .bf16⟩
  | .local _ .vmem, ⟨0, _⟩ => ⟨S1x2048x2048, .bf16⟩
  | .local _ .vmem, ⟨1, _⟩ => ⟨S1x2048x2048, .bf16⟩
  | .local _ .vmem, ⟨2, _⟩ => ⟨S2x512, .f32⟩
  | .local _ .vmem, ⟨3, _⟩ => ⟨S1x128, .f32⟩
  | .local _ .vmem, ⟨4, _⟩ => ⟨S1x2048x512, .bf16⟩
  | .local _ .vmem, ⟨5, _⟩ => ⟨S1x2048x512, .bf16⟩
  | .local _ .vmem, ⟨6, _⟩ => ⟨S4x128x128, .f32⟩
  | _, _ => ⟨S8x4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![8, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S2x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReferenceIdeal.lean ====
abbrev S8x4096x2048 : Shape := ⟨3, ![8, 4096, 2048]⟩
abbrev S2x512 : Shape := ⟨2, ![2, 512]⟩
abbrev S1x128 : Shape := ⟨2, ![1, 128]⟩
abbrev S_ : Shape := ⟨0, ![]⟩
abbrev S512 : Shape := ⟨1, ![512]⟩
abbrev S1x512 : Shape := ⟨2, ![1, 512]⟩
abbrev S8x4096x512 : Shape := ⟨3, ![8, 4096, 512]⟩
abbrev S1x1x512 : Shape := ⟨3, ![1, 1, 512]⟩
abbrev S8x64x64x4x128 : Shape := ⟨5, ![8, 64, 64, 4, 128]⟩
abbrev S8x4x64x64x128 : Shape := ⟨5, ![8, 4, 64, 64, 128]⟩
abbrev S8x4x64x1x128 : Shape := ⟨5, ![8, 4, 64, 1, 128]⟩
abbrev S64x64 : Shape := ⟨2, ![64, 64]⟩
abbrev S8x4x64x64x64 : Shape := ⟨5, ![8, 4, 64, 64, 64]⟩
abbrev S64x8x4x64x128 : Shape := ⟨5, ![64, 8, 4, 64, 128]⟩
abbrev S64x8x4x128x128 : Shape := ⟨5, ![64, 8, 4, 128, 128]⟩
abbrev S8x4x64x128 : Shape := ⟨4, ![8, 4, 64, 128]⟩
abbrev S64x8x4x128 : Shape := ⟨4, ![64, 8, 4, 128]⟩
abbrev S8x4x128x128 : Shape := ⟨4, ![8, 4, 128, 128]⟩
abbrev S1x8x4x128 : Shape := ⟨4, ![1, 8, 4, 128]⟩
abbrev S8x4x128 : Shape := ⟨3, ![8, 4, 128]⟩
abbrev S1x8x4x128x128 : Shape := ⟨5, ![1, 8, 4, 128, 128]⟩
abbrev S1x8x4x64x128 : Shape := ⟨5, ![1, 8, 4, 64, 128]⟩
abbrev S8x4x128x1 : Shape := ⟨4, ![8, 4, 128, 1]⟩
abbrev S8x4096x4x128 : Shape := ⟨4, ![8, 4096, 4, 128]⟩
abbrev S8x4096x4 : Shape := ⟨3, ![8, 4096, 4]⟩
abbrev S8x4096x4x1 : Shape := ⟨4, ![8, 4096, 4, 1]⟩
abbrev S128 : Shape := ⟨1, ![128]⟩
abbrev S1x1x1x128 : Shape := ⟨4, ![1, 1, 1, 128]⟩

abbrev nBuf : Space → Nat
  | .hbm => 178
  | .vmem => 0
  | .smem => 0
  | _ => 0

abbrev hbmTy0_0 (i : Nat) : BufTy := match i % 128 with
  | 0 => ⟨S8x4096x2048, .bf16⟩
  | 1 => ⟨S2x512, .f32⟩
  | 2 => ⟨S1x128, .f32⟩
  | 3 => ⟨S_, .f32⟩
  | 4 => ⟨S512, .f32⟩
  | 5 => ⟨S_, .f32⟩
  | 6 => ⟨S512, .f32⟩
  | 7 => ⟨S512, .f32⟩
  | 8 => ⟨S1x512, .f32⟩
  | 9 => ⟨S2x512, .f32⟩
  | 10 => ⟨S2x512, .f32⟩
  | 11 => ⟨S2x512, .f32⟩
  | 12 => ⟨S_, .f32⟩
  | 13 => ⟨S512, .f32⟩
  | 14 => ⟨S1x512, .f32⟩
  | 15 => ⟨S2x512, .f32⟩
  | 16 => ⟨S2x512, .f32⟩
  | 17 => ⟨S_, .f32⟩
  | 18 => ⟨S_, .f32⟩
  | 19 => ⟨S2x512, .f32⟩
  | 20 => ⟨S1x512, .f32⟩
  | 21 => ⟨S512, .f32⟩
  | 22 => ⟨S8x4096x512, .bf16⟩
  | 23 => ⟨S8x4096x512, .f32⟩
  | 24 => ⟨S8x4096x512, .bf16⟩
  | 25 => ⟨S8x4096x512, .f32⟩
  | 26 => ⟨S8x4096x512, .bf16⟩
  | 27 => ⟨S8x4096x512, .f32⟩
  | 28 => ⟨S_, .f32⟩
  | 29 => ⟨S512, .f32⟩
  | 30 => ⟨S512, .f32⟩
  | 31 => ⟨S8x4096x512, .f32⟩
  | 32 => ⟨S8x4096x512, .f32⟩
  | 33 => ⟨S_, .f32⟩
  | 34 => ⟨S8x4096x512, .f32⟩
  | 35 => ⟨S8x4096x512, .f32⟩
  | 36 => ⟨S_, .f32⟩
  | 37 => ⟨S8x4096x512, .f32⟩
  | 38 => ⟨S8x4096x512, .f32⟩
  | 39 => ⟨S1x1x512, .f32⟩
  | 40 => ⟨S8x4096x512, .f32⟩
  | 41 => ⟨S8x4096x512, .f32⟩
  | 42 => ⟨S1x1x512, .f32⟩
  | 43 => ⟨S8x4096x512, .f32⟩
  | 44 => ⟨S8x4096x512, .f32⟩
  | 45 => ⟨S_, .f32⟩
  | 46 => ⟨S8x4096x512, .f32⟩
  | 47 => ⟨S8x4096x512, .f32⟩
  | 48 => ⟨S8x64x64x4x128, .f32⟩
  | 49 => ⟨S8x4x64x64x128, .f32⟩
  | 50 => ⟨S8x64x64x4x128, .f32⟩
  | 51 => ⟨S8x4x64x64x128, .f32⟩
  | 52 => ⟨S8x64x64x4x128, .f32⟩
  | 53 => ⟨S8x4x64x64x128, .f32⟩
  | 54 => ⟨S8x4096x512, .f32⟩
  | 55 => ⟨S8x64x64x4x128, .f32⟩
  | 56 => ⟨S8x4x64x64x128, .f32⟩
  | 57 => ⟨S_, .f32⟩
  | 58 => ⟨S_, .f32⟩
  | 59 => ⟨S8x4x64x64x128, .f32⟩
  | 60 => ⟨S8x4x64x1x128, .f32⟩
  | 61 => ⟨S8x4x64x64x128, .f32⟩
  | 62 => ⟨S8x4x64x64x128, .f32⟩
  | 63 => ⟨S8x4x64x64x128, .f32⟩
  | 64 => ⟨S8x4x64x64x128, .f32⟩
  | 65 => ⟨S8x4x64x64x128, .f32⟩
  | 66 => ⟨S_, .i1⟩
  | 67 => ⟨S64x64, .i1⟩
  | 68 => ⟨S64x64, .i32⟩
  | 69 => ⟨S_, .i32⟩
  | 70 => ⟨S64x64, .i32⟩
  | 71 => ⟨S64x64, .i32⟩
  | 72 => ⟨S64x64, .i32⟩
  | 73 => ⟨S64x64, .i1⟩
  | 74 => ⟨S_, .i1⟩
  | 75 => ⟨S64x64, .i1⟩
  | 76 => ⟨S64x64, .i1⟩
  | 77 => ⟨S8x4x64x64x64, .f32⟩
  | 78 => ⟨S_, .f32⟩
  | 79 => ⟨S_, .f32⟩
  | 80 => ⟨S8x4x64x64x64, .i1⟩
  | 81 => ⟨S8x4x64x64x64, .f32⟩
  | 82 => ⟨S8x4x64x64x64, .f32⟩
  | 83 => ⟨S64x8x4x64x128, .f32⟩
  | 84 => ⟨S8x4x64x64x128, .f32⟩
  | 85 => ⟨S8x4x64x64x128, .f32⟩
  | 86 => ⟨S8x4x64x64x128, .f32⟩
  | 87 => ⟨S8x4x64x64x128, .f32⟩
  | 88 => ⟨S64x8x4x128x128, .f32⟩
  | 89 => ⟨S8x4x64x128, .f32⟩
  | 90 => ⟨S8x4x64x128, .f32⟩
  | 91 => ⟨S64x8x4x128, .f32⟩
  | 92 => ⟨S_, .f32⟩
  | 93 => ⟨S8x4x128x128, .f32⟩
  | 94 => ⟨S64x8x4x64x128, .f32⟩
  | 95 => ⟨S_, .f32⟩
  | 96 => ⟨S64x8x4x64x128, .f32⟩
  | 97 => ⟨S_, .i32⟩
  | 98 => ⟨S64x8x4x128, .f32⟩
  | 99 => ⟨S64x8x4x128x128, .f32⟩
  | 100 => ⟨S64x8x4x64x128, .f32⟩
  | 101 => ⟨S64x8x4x64x128, .f32⟩
  | 102 => ⟨S_, .i32⟩
  | 103 => ⟨S8x4x128x128, .f32⟩
  | 104 => ⟨S64x8x4x64x128, .f32⟩
  | 105 => ⟨S_, .i32⟩
  | 106 => ⟨S_, .i1⟩
  | 107 => ⟨S_, .i32⟩
  | 108 => ⟨S_, .i32⟩
  | 109 => ⟨S_, .i32⟩
  | 110 => ⟨S1x8x4x128, .f32⟩
  | 111 => ⟨S8x4x128, .f32⟩
  | 112 => ⟨S_, .i32⟩
  | 113 => ⟨S_, .i32⟩
  | 114 => ⟨S_, .i32⟩
  | 115 => ⟨S_, .i32⟩
  | 116 => ⟨S1x8x4x128x128, .f32⟩
  | 117 => ⟨S8x4x128x128, .f32⟩
  | 118 => ⟨S_, .i32⟩
  | 119 => ⟨S_, .i32⟩
  | 120 => ⟨S_, .i32⟩
  | 121 => ⟨S_, .i32⟩
  | 122 => ⟨S1x8x4x64x128, .f32⟩
  | 123 => ⟨S8x4x64x128, .f32⟩
  | 124 => ⟨S_, .i32⟩
  | 125 => ⟨S_, .i32⟩
  | 126 => ⟨S_, .i32⟩
  | 127 => ⟨S_, .i32⟩
  | _ => ⟨S8x4096x2048, .bf16⟩

abbrev hbmTy0_1 (i : Nat) : BufTy := match i % 128 with
  | 0 => ⟨S1x8x4x64x128, .f32⟩
  | 1 => ⟨S8x4x64x128, .f32⟩
  | 2 => ⟨S8x4x128x1, .f32⟩
  | 3 => ⟨S8x4x128x128, .f32⟩
  | 4 => ⟨S8x4x128x128, .f32⟩
  | 5 => ⟨S8x4x128x128, .f32⟩
  | 6 => ⟨S8x4x64x128, .f32⟩
  | 7 => ⟨S8x4x64x128, .f32⟩
  | 8 => ⟨S1x8x4x64x128, .f32⟩
  | 9 => ⟨S_, .i32⟩
  | 10 => ⟨S_, .i32⟩
  | 11 => ⟨S_, .i32⟩
  | 12 => ⟨S_, .i32⟩
  | 13 => ⟨S64x8x4x64x128, .f32⟩
  | 14 => ⟨S_, .i32⟩
  | 15 => ⟨S_, .i32⟩
  | 16 => ⟨S8x64x64x4x128, .f32⟩
  | 17 => ⟨S8x4096x4x128, .f32⟩
  | 18 => ⟨S8x4096x512, .bf16⟩
  | 19 => ⟨S8x4096x512, .f32⟩
  | 20 => ⟨S8x4096x4x128, .f32⟩
  | 21 => ⟨S_, .f32⟩
  | 22 => ⟨S8x4096x4, .f32⟩
  | 23 => ⟨S8x4096x4x1, .f32⟩
  | 24 => ⟨S_, .f32⟩
  | 25 => ⟨S8x4096x4x1, .f32⟩
  | 26 => ⟨S8x4096x4x1, .f32⟩
  | 27 => ⟨S_, .f32⟩
  | 28 => ⟨S8x4096x4x1, .f32⟩
  | 29 => ⟨S8x4096x4x1, .f32⟩
  | 30 => ⟨S8x4096x4x1, .f32⟩
  | 31 => ⟨S8x4096x4x128, .f32⟩
  | 32 => ⟨S8x4096x4x128, .f32⟩
  | 33 => ⟨S128, .f32⟩
  | 34 => ⟨S1x1x1x128, .f32⟩
  | 35 => ⟨S8x4096x4x128, .f32⟩
  | 36 => ⟨S8x4096x4x128, .f32⟩
  | 37 => ⟨S8x4096x4x128, .f32⟩
  | 38 => ⟨S8x4096x4x128, .f32⟩
  | 39 => ⟨S8x4096x4x128, .f32⟩
  | 40 => ⟨S_, .f32⟩
  | 41 => ⟨S8x4096x4x128, .f32⟩
  | 42 => ⟨S8x4096x4x128, .f32⟩
  | 43 => ⟨S_, .f32⟩
  | 44 => ⟨S8x4096x4x128, .f32⟩
  | 45 => ⟨S8x4096x4x128, .f32⟩
  | 46 => ⟨S8x4096x4x128, .f32⟩
  | 47 => ⟨S8x4096x4x128, .f32⟩
  | 48 => ⟨S8x4096x512, .f32⟩
  | 49 => ⟨S8x4096x512, .bf16⟩
  | _ => ⟨S8x4096x2048, .bf16⟩

abbrev hbmTy (i : Nat) : BufTy := match i / 128 with
  | 0 => hbmTy0_0 i
  | 1 => hbmTy0_1 i
  | _ => ⟨S8x4096x2048, .bf16⟩

abbrev bufTy : (tb : Table) → Fin (tcTables nBuf tb) → BufTy
  | .hbm, ⟨i, _⟩ => hbmTy i
  | _, _ => ⟨S8x4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_call0_call0_cst : Ref sig .tc := ⟨.hbm, 17, rfl⟩
abbrev main_call0_call0_v0 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_2 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_3 : Ref sig .tc := ⟨.hbm, 33, rfl⟩
abbrev main_v24 : Ref sig .tc := ⟨.hbm, 34, rfl⟩
abbrev main_v25 : Ref sig .tc := ⟨.hbm, 35, rfl⟩
abbrev main_cst_4 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_cst_5 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_call1_call0_cst : Ref sig .tc := ⟨.hbm, 57, rfl⟩
abbrev main_call1_call0_v0 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_c : Ref sig .tc := ⟨.hbm, 66, rfl⟩
abbrev main_v52 : Ref sig .tc := ⟨.hbm, 67, rfl⟩
abbrev main_call2_v0 : Ref sig .tc := ⟨.hbm, 68, rfl⟩
abbrev main_call2_c : Ref sig .tc := ⟨.hbm, 69, rfl⟩
abbrev main_call2_v1 : Ref sig .tc := ⟨.hbm, 70, rfl⟩
abbrev main_call2_v2 : Ref sig .tc := ⟨.hbm, 71, rfl⟩
abbrev main_call2_v3 : Ref sig .tc := ⟨.hbm, 72, rfl⟩
abbrev main_call2_v4 : Ref sig .tc := ⟨.hbm, 73, rfl⟩
abbrev main_call2_c_0 : Ref sig .tc := ⟨.hbm, 74, rfl⟩
abbrev main_call2_v5 : Ref sig .tc := ⟨.hbm, 75, rfl⟩
abbrev main_v53 : Ref sig .tc := ⟨.hbm, 76, rfl⟩
abbrev main_v54 : Ref sig .tc := ⟨.hbm, 77, rfl⟩
abbrev main_cst_6 : Ref sig .tc := ⟨.hbm, 78, rfl⟩
abbrev main_call3_v0 : Ref sig .tc := ⟨.hbm, 79, rfl⟩
abbrev main_call3_v1 : Ref sig .tc := ⟨.hbm, 80, rfl⟩
abbrev main_call3_v2 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_cst_7 : Ref sig .tc := ⟨.hbm, 92, rfl⟩
abbrev main_v65 : Ref sig .tc := ⟨.hbm, 93, rfl⟩
abbrev main_v66 : Ref sig .tc := ⟨.hbm, 94, rfl⟩
abbrev main_cst_8 : Ref sig .tc := ⟨.hbm, 95, rfl⟩
abbrev main_v67 : Ref sig .tc := ⟨.hbm, 96, rfl⟩
abbrev main_c_9 : Ref sig .tc := ⟨.hbm, 97, rfl⟩
abbrev main_v68_0 : Ref sig .tc := ⟨.hbm, 98, rfl⟩
abbrev main_v68_1 : Ref sig .tc := ⟨.hbm, 99, rfl⟩
abbrev main_v68_2 : Ref sig .tc := ⟨.hbm, 100, rfl⟩
abbrev main_v68_3 : Ref sig .tc := ⟨.hbm, 101, rfl⟩
abbrev main_v68_4 : Ref sig .tc := ⟨.hbm, 102, rfl⟩
abbrev main_v68_5 : Ref sig .tc := ⟨.hbm, 103, rfl⟩
abbrev main_v68_6 : Ref sig .tc := ⟨.hbm, 104, rfl⟩
abbrev main_while0c_c_19 : Ref sig .tc := ⟨.hbm, 105, rfl⟩
abbrev main_while0c_v92 : Ref sig .tc := ⟨.hbm, 106, rfl⟩
abbrev main_while0b_call4_c : Ref sig .tc := ⟨.hbm, 107, rfl⟩
abbrev main_while0b_call4_c_0 : Ref sig .tc := ⟨.hbm, 108, rfl⟩
abbrev main_while0b_call4_c_1 : Ref sig .tc := ⟨.hbm, 109, rfl⟩
abbrev main_while0b_call4_v0 : Ref sig .tc := ⟨.hbm, 110, rfl⟩
abbrev main_while0b_v92 : Ref sig .tc := ⟨.hbm, 111, rfl⟩
abbrev main_while0b_call5_c : Ref sig .tc := ⟨.hbm, 112, rfl⟩
abbrev main_while0b_call5_c_0 : Ref sig .tc := ⟨.hbm, 113, rfl⟩
abbrev main_while0b_call5_c_1 : Ref sig .tc := ⟨.hbm, 114, rfl⟩
abbrev main_while0b_call5_c_2 : Ref sig .tc := ⟨.hbm, 115, rfl⟩
abbrev main_while0b_call5_v0 : Ref sig .tc := ⟨.hbm, 116, rfl⟩
abbrev main_while0b_v93 : Ref sig .tc := ⟨.hbm, 117, rfl⟩
abbrev main_while0b_call6_c : Ref sig .tc := ⟨.hbm, 118, rfl⟩
abbrev main_while0b_call6_c_0 : Ref sig .tc := ⟨.hbm, 119, rfl⟩
abbrev main_while0b_call6_c_1 : Ref sig .tc := ⟨.hbm, 120, rfl⟩
abbrev main_while0b_call6_c_2 : Ref sig .tc := ⟨.hbm, 121, rfl⟩
abbrev main_while0b_call6_v0 : Ref sig .tc := ⟨.hbm, 122, rfl⟩
abbrev main_while0b_v94 : Ref sig .tc := ⟨.hbm, 123, rfl⟩
abbrev main_while0b_call7_c : Ref sig .tc := ⟨.hbm, 124, rfl⟩
abbrev main_while0b_call7_c_0 : Ref sig .tc := ⟨.hbm, 125, rfl⟩
abbrev main_while0b_call7_c_1 : Ref sig .tc := ⟨.hbm, 126, rfl⟩
abbrev main_while0b_call7_c_2 : Ref sig .tc := ⟨.hbm, 127, rfl⟩
abbrev main_while0b_call7_v0 : Ref sig .tc := ⟨.hbm, 128, rfl⟩
abbrev main_while0b_v95 : Ref sig .tc := ⟨.hbm, 129, rfl⟩
abbrev main_while0b_v96 : Ref sig .tc := ⟨.hbm, 130, rfl⟩
abbrev main_while0b_v97 : Ref sig .tc := ⟨.hbm, 131, rfl⟩
abbrev main_while0b_v98 : Ref sig .tc := ⟨.hbm, 132, rfl⟩
abbrev main_while0b_v99 : Ref sig .tc := ⟨.hbm, 133, rfl⟩
abbrev main_while0b_v100 : Ref sig .tc := ⟨.hbm, 134, rfl⟩
abbrev main_while0b_v101 : Ref sig .tc := ⟨.hbm, 135, rfl⟩
abbrev main_while0b_call8_v0 : Ref sig .tc := ⟨.hbm, 136, rfl⟩
abbrev main_while0b_call8_c : Ref sig .tc := ⟨.hbm, 137, rfl⟩
abbrev main_while0b_call8_c_0 : Ref sig .tc := ⟨.hbm, 138, rfl⟩
abbrev main_while0b_call8_c_1 : Ref sig .tc := ⟨.hbm, 139, rfl⟩
abbrev main_while0b_call8_c_2 : Ref sig .tc := ⟨.hbm, 140, rfl⟩
abbrev main_while0b_v102 : Ref sig .tc := ⟨.hbm, 141, rfl⟩
abbrev main_while0b_c_19 : Ref sig .tc := ⟨.hbm, 142, rfl⟩
abbrev main_while0b_v103 : Ref sig .tc := ⟨.hbm, 143, rfl⟩
abbrev main_v69 : Ref sig .tc := ⟨.hbm, 144, rfl⟩
abbrev main_v70 : Ref sig .tc := ⟨.hbm, 145, rfl⟩
abbrev main_v71 : Ref sig .tc := ⟨.hbm, 146, rfl⟩
abbrev main_v72 : Ref sig .tc := ⟨.hbm, 147, rfl⟩
abbrev main_v73 : Ref sig .tc := ⟨.hbm, 148, rfl⟩
abbrev main_cst_10 : Ref sig .tc := ⟨.hbm, 149, rfl⟩
abbrev main_v74 : Ref sig .tc := ⟨.hbm, 150, rfl⟩
abbrev main_v75 : Ref sig .tc := ⟨.hbm, 151, rfl⟩
abbrev main_cst_11 : Ref sig .tc := ⟨.hbm, 152, rfl⟩
abbrev main_v76 : Ref sig .tc := ⟨.hbm, 153, rfl⟩
abbrev main_v77 : Ref sig .tc := ⟨.hbm, 154, rfl⟩
abbrev main_cst_12 : Ref sig .tc := ⟨.hbm, 155, rfl⟩
abbrev main_v78 : Ref sig .tc := ⟨.hbm, 156, rfl⟩
abbrev main_v79 : Ref sig .tc := ⟨.hbm, 157, rfl⟩
abbrev main_v80 : Ref sig .tc := ⟨.hbm, 158, rfl⟩
abbrev main_v81 : Ref sig .tc := ⟨.hbm, 159, rfl⟩
abbrev main_v82 : Ref sig .tc := ⟨.hbm, 160, rfl⟩
abbrev main_v83 : Ref sig .tc := ⟨.hbm, 161, rfl⟩
abbrev main_v84 : Ref sig .tc := ⟨.hbm, 162, rfl⟩
abbrev main_v85 : Ref sig .tc := ⟨.hbm, 163, rfl⟩
abbrev main_v86 : Ref sig .tc := ⟨.hbm, 164, rfl⟩
abbrev main_v87 : Ref sig .tc := ⟨.hbm, 165, rfl⟩
abbrev main_call9_v0 : Ref sig .tc := ⟨.hbm, 166, rfl⟩
abbrev main_call9_v1 : Ref sig .tc := ⟨.hbm, 167, rfl⟩
abbrev main_call9_cst : Ref sig .tc := ⟨.hbm, 168, rfl⟩
abbrev main_call9_v2 : Ref sig .tc := ⟨.hbm, 169, rfl⟩
abbrev main_call9_v3 : Ref sig .tc := ⟨.hbm, 170, rfl⟩
abbrev main_call9_cst_0 : Ref sig .tc := ⟨.hbm, 171, rfl⟩
abbrev main_call9_v4 : Ref sig .tc := ⟨.hbm, 172, rfl⟩
abbrev main_call9_v5 : Ref sig .tc := ⟨.hbm, 173, rfl⟩
abbrev main_v88 : Ref sig .tc := ⟨.hbm, 174, rfl⟩
abbrev main_v89 : Ref sig .tc := ⟨.hbm, 175, rfl⟩
abbrev main_v90 : Ref sig .tc := ⟨.hbm, 176, rfl⟩
abbrev main_v91 : Ref sig .tc := ⟨.hbm, 177, rfl⟩

abbrev nD : Nat := 1
abbrev τ : Topo := Topo.v7x

variable {F : FTy → Type} [FloatOps F]

abbrev main_while0_count : Scf.Loop 32 := ⟨0#32, 64#32, 1#32⟩
-- ==== Kernel2.lean ====
abbrev S8x4096x1024 : Shape := ⟨3, ![8, 4096, 1024]⟩
abbrev S8x4096x512 : Shape := ⟨3, ![8, 4096, 512]⟩
abbrev S8x512x4096 : Shape := ⟨3, ![8, 512, 4096]⟩
abbrev S8x4096x2048 : Shape := ⟨3, ![8, 4096, 2048]⟩
abbrev S1x512x1024 : Shape := ⟨3, ![1, 512, 1024]⟩
abbrev S1x1024x1024 : Shape := ⟨3, ![1, 1024, 1024]⟩
abbrev S1x1024 : Shape := ⟨2, ![1, 1024]⟩
abbrev S1x1024x4096 : Shape := ⟨3, ![1, 1024, 4096]⟩
abbrev S1x4096x1024 : Shape := ⟨3, ![1, 4096, 1024]⟩
abbrev S1024 : Shape := ⟨1, ![1024]⟩
abbrev S512x1024 : Shape := ⟨2, ![512, 1024]⟩
abbrev S1024x1024 : Shape := ⟨2, ![1024, 1024]⟩
abbrev S1024x4096 : Shape := ⟨2, ![1024, 4096]⟩
abbrev S4096x1024 : Shape := ⟨2, ![4096, 1024]⟩
abbrev S1x512x512 : Shape := ⟨3, ![1, 512, 512]⟩
abbrev S1x512x2048 : Shape := ⟨3, ![1, 512, 2048]⟩
abbrev S512x512 : Shape := ⟨2, ![512, 512]⟩
abbrev S512x2048 : Shape := ⟨2, ![512, 2048]⟩
abbrev S512 : Shape := ⟨1, ![512]⟩
abbrev S512x1 : Shape := ⟨2, ![512, 1]⟩

abbrev nBuf : Space → Nat
  | .hbm => 23
  | .vmem => 17
  | .smem => 0
  | _ => 0

abbrev bufTy : (tb : Table) → Fin (tcTables nBuf tb) → BufTy
  | .hbm, ⟨0, _⟩ => ⟨S8x4096x1024, .f32⟩
  | .hbm, ⟨1, _⟩ => ⟨S8x4096x512, .bf16⟩
  | .hbm, ⟨2, _⟩ => ⟨S8x512x4096, .bf16⟩
  | .hbm, ⟨3, _⟩ => ⟨S8x4096x2048, .bf16⟩
  | .hbm, ⟨4, _⟩ => ⟨S1x512x1024, .f32⟩
  | .hbm, ⟨5, _⟩ => ⟨S1x512x1024, .f32⟩
  | .hbm, ⟨6, _⟩ => ⟨S1x1024x1024, .f32⟩
  | .hbm, ⟨7, _⟩ => ⟨S1x1024, .f32⟩
  | .hbm, ⟨8, _⟩ => ⟨S1x1024x4096, .f32⟩
  | .hbm, ⟨9, _⟩ => ⟨S1x4096x1024, .f32⟩
  | .hbm, ⟨10, _⟩ => ⟨S1024, .f32⟩
  | .hbm, ⟨11, _⟩ => ⟨S512x1024, .f32⟩
  | .hbm, ⟨12, _⟩ => ⟨S512x1024, .bf16⟩
  | .hbm, ⟨13, _⟩ => ⟨S512x1024, .f32⟩
  | .hbm, ⟨14, _⟩ => ⟨S512x1024, .bf16⟩
  | .hbm, ⟨15, _⟩ => ⟨S1024x1024, .f32⟩
  | .hbm, ⟨16, _⟩ => ⟨S1024x1024, .bf16⟩
  | .hbm, ⟨17, _⟩ => ⟨S1024x4096, .f32⟩
  | .hbm, ⟨18, _⟩ => ⟨S1024x4096, .bf16⟩
  | .hbm, ⟨19, _⟩ => ⟨S4096x1024, .f32⟩
  | .hbm, ⟨20, _⟩ => ⟨S4096x1024, .bf16⟩
  | .hbm, ⟨21, _⟩ => ⟨S1x1024, .f32⟩
  | .hbm, ⟨22, _⟩ => ⟨S8x4096x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x512x512, .bf16⟩
  | .local _ .vmem, ⟨3, _⟩ => ⟨S1x512x512, .bf16⟩
  | .local _ .vmem, ⟨4, _⟩ => ⟨S1x512x512, .bf16⟩
  | .local _ .vmem, ⟨5, _⟩ => ⟨S1x512x512, .bf16⟩
  | .local _ .vmem, ⟨6, _⟩ => ⟨S1x512x2048, .bf16⟩
  | .local _ .vmem, ⟨7, _⟩ => ⟨S1x512x2048, .bf16⟩
  | .local _ .vmem, ⟨8, _⟩ => ⟨S512x1024, .bf16⟩
  | .local _ .vmem, ⟨9, _⟩ => ⟨S512x1024, .bf16⟩
  | .local _ .vmem, ⟨10, _⟩ => ⟨S1024x1024, .bf16⟩
  | .local _ .vmem, ⟨11, _⟩ => ⟨S1x1024, .f32⟩
  | .local _ .vmem, ⟨12, _⟩ => ⟨S1024x4096, .bf16⟩
  | .local _ .vmem, ⟨13, _⟩ => ⟨S4096x1024, .bf16⟩
  | .local _ .vmem, ⟨14, _⟩ => ⟨S1x1024, .f32⟩
  | .local _ .vmem, ⟨15, _⟩ => ⟨S1x512x1024, .f32⟩
  | .local _ .vmem, ⟨16, _⟩ => ⟨S1x512x1024, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg11_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem11_1 : DmaSem sig := 16

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1024x4096 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S4096x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S1x512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== Reference2Ideal.lean ====
abbrev S8x4096x1024 : Shape := ⟨3, ![8, 4096, 1024]⟩
abbrev S8x4096x512 : Shape := ⟨3, ![8, 4096, 512]⟩
abbrev S8x512x4096 : Shape := ⟨3, ![8, 512, 4096]⟩
abbrev S8x4096x2048 : Shape := ⟨3, ![8, 4096, 2048]⟩
abbrev S1x512x1024 : Shape := ⟨3, ![1, 512, 1024]⟩
abbrev S1x1024x1024 : Shape := ⟨3, ![1, 1024, 1024]⟩
abbrev S1x1024 : Shape := ⟨2, ![1, 1024]⟩
abbrev S1x1024x4096 : Shape := ⟨3, ![1, 1024, 4096]⟩
abbrev S1x4096x1024 : Shape := ⟨3, ![1, 4096, 1024]⟩
abbrev S1024 : Shape := ⟨1, ![1024]⟩
abbrev S_ : Shape := ⟨0, ![]⟩
abbrev S512x1024 : Shape := ⟨2, ![512, 1024]⟩
abbrev S1024x1024 : Shape := ⟨2, ![1024, 1024]⟩
abbrev S8x4096 : Shape := ⟨2, ![8, 4096]⟩
abbrev S8x4096x1 : Shape := ⟨3, ![8, 4096, 1]⟩
abbrev S1x1x1024 : Shape := ⟨3, ![1, 1, 1024]⟩
abbrev S1024x4096 : Shape := ⟨2, ![1024, 4096]⟩
abbrev S8x4096x4096 : Shape := ⟨3, ![8, 4096, 4096]⟩
abbrev S4096x1024 : Shape := ⟨2, ![4096, 1024]⟩

abbrev nBuf : Space → Nat
  | .hbm => 77
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S8x4096x512, .bf16⟩
  | .hbm, ⟨2, _⟩ => ⟨S8x512x4096, .bf16⟩
  | .hbm, ⟨3, _⟩ => ⟨S8x4096x2048, .bf16⟩
  | .hbm, ⟨4, _⟩ => ⟨S1x512x1024, .f32⟩
  | .hbm, ⟨5, _⟩ => ⟨S1x512x1024, .f32⟩
  | .hbm, ⟨6, _⟩ => ⟨S1x1024x1024, .f32⟩
  | .hbm, ⟨7, _⟩ => ⟨S1x1024, .f32⟩
  | .hbm, ⟨8, _⟩ => ⟨S1x1024x4096, .f32⟩
  | .hbm, ⟨9, _⟩ => ⟨S1x4096x1024, .f32⟩
  | .hbm, ⟨10, _⟩ => ⟨S1024, .f32⟩
  | .hbm, ⟨11, _⟩ => ⟨S8x4096x512, .f32⟩
  | .hbm, ⟨12, _⟩ => ⟨S8x512x4096, .f32⟩
  | .hbm, ⟨13, _⟩ => ⟨S8x4096x512, .f32⟩
  | .hbm, ⟨14, _⟩ => ⟨S8x4096x2048, .f32⟩
  | .hbm, ⟨15, _⟩ => ⟨S8x4096x2048, .f32⟩
  | .hbm, ⟨16, _⟩ => ⟨S8x4096x2048, .f32⟩
  | .hbm, ⟨17, _⟩ => ⟨S_, .f32⟩
  | .hbm, ⟨18, _⟩ => ⟨S8x4096x2048, .f32⟩
  | .hbm, ⟨19, _⟩ => ⟨S8x4096x2048, .f32⟩
  | .hbm, ⟨20, _⟩ => ⟨S_, .f32⟩
  | .hbm, ⟨21, _⟩ => ⟨S8x4096x2048, .f32⟩
  | .hbm, ⟨22, _⟩ => ⟨S8x4096x2048, .f32⟩
  | .hbm, ⟨23, _⟩ => ⟨S8x4096x1024, .f32⟩
  | .hbm, ⟨24, _⟩ => ⟨S8x4096x1024, .f32⟩
  | .hbm, ⟨25, _⟩ => ⟨S512x1024, .f32⟩
  | .hbm, ⟨26, _⟩ => ⟨S8x4096x1024, .f32⟩
  | .hbm, ⟨27, _⟩ => ⟨S8x4096x1024, .f32⟩
  | .hbm, ⟨28, _⟩ => ⟨S512x1024, .f32⟩
  | .hbm, ⟨29, _⟩ => ⟨S8x4096x1024, .f32⟩
  | .hbm, ⟨30, _⟩ => ⟨S8x4096x1024, .f32⟩
  | .hbm, ⟨31, _⟩ => ⟨S8x4096x1024, .f32⟩
  | .hbm, ⟨32, _⟩ => ⟨S1024x1024, .f32⟩
  | .hbm, ⟨33, _⟩ => ⟨S8x4096x1024, .f32⟩
  | .hbm, ⟨34, _⟩ => ⟨S8x4096x1024, .f32⟩
  | .hbm, ⟨35, _⟩ => ⟨S1024, .f32⟩
  | .hbm, ⟨36, _⟩ => ⟨S8x4096x1024, .f32⟩
  | .hbm, ⟨37, _⟩ => ⟨S_, .f32⟩
  | .hbm, ⟨38, _⟩ => ⟨S8x4096, .f32⟩
  | .hbm, ⟨39, _⟩ => ⟨S8x4096x1, .f32⟩
  | .hbm, ⟨40, _⟩ => ⟨S_, .f32⟩
  | .hbm, ⟨41, _⟩ => ⟨S8x4096x1, .f32⟩
  | .hbm, ⟨42, _⟩ => ⟨S8x4096x1, .f32⟩
  | .hbm, ⟨43, _⟩ => ⟨S_, .f32⟩
  | .hbm, ⟨44, _⟩ => ⟨S8x4096x1, .f32⟩
  | .hbm, ⟨45, _⟩ => ⟨S8x4096x1, .f32⟩
  | .hbm, ⟨46, _⟩ => ⟨S8x4096x1, .f32⟩
  | .hbm, ⟨47, _⟩ => ⟨S8x4096x1024, .f32⟩
  | .hbm, ⟨48, _⟩ => ⟨S8x4096x1024, .f32⟩
  | .hbm, ⟨49, _⟩ => ⟨S1x1x1024, .f32⟩
  | .hbm, ⟨50, _⟩ => ⟨S8x4096x1024, .f32⟩
  | .hbm, ⟨51, _⟩ => ⟨S8x4096x1024, .f32⟩
  | .hbm, ⟨52, _⟩ => ⟨S1024x4096, .f32⟩
  | .hbm, ⟨53, _⟩ => ⟨S8x4096x4096, .f32⟩
  | .hbm, ⟨54, _⟩ => ⟨S_, .f32⟩
  | .hbm, ⟨55, _⟩ => ⟨S8x4096x4096, .f32⟩
  | .hbm, ⟨56, _⟩ => ⟨S8x4096x4096, .f32⟩
  | .hbm, ⟨57, _⟩ => ⟨S8x4096x4096, .f32⟩
  | .hbm, ⟨58, _⟩ => ⟨S4096x1024, .f32⟩
  | .hbm, ⟨59, _⟩ => ⟨S8x4096x1024, .f32⟩
  | .hbm, ⟨60, _⟩ => ⟨S8x4096x1024, .f32⟩
  | .hbm, ⟨61, _⟩ => ⟨S8x4096x1024, .f32⟩
  | .hbm, ⟨62, _⟩ => ⟨S_, .f32⟩
  | .hbm, ⟨63, _⟩ => ⟨S8x4096, .f32⟩
  | .hbm, ⟨64, _⟩ => ⟨S8x4096x1, .f32⟩
  | .hbm, ⟨65, _⟩ => ⟨S_, .f32⟩
  | .hbm, ⟨66, _⟩ => ⟨S8x4096x1, .f32⟩
  | .hbm, ⟨67, _⟩ => ⟨S8x4096x1, .f32⟩
  | .hbm, ⟨68, _⟩ => ⟨S_, .f32⟩
  | .hbm, ⟨69, _⟩ => ⟨S8x4096x1, .f32⟩
  | .hbm, ⟨70, _⟩ => ⟨S8x4096x1, .f32⟩
  | .hbm, ⟨71, _⟩ => ⟨S8x4096x1, .f32⟩
  | .hbm, ⟨72, _⟩ => ⟨S8x4096x1024, .f32⟩
  | .hbm, ⟨73, _⟩ => ⟨S8x4096x1024, .f32⟩
  | .hbm, ⟨74, _⟩ => ⟨S1x1x1024, .f32⟩
  | .hbm, ⟨75, _⟩ => ⟨S8x4096x1024, .f32⟩
  | .hbm, ⟨76, _⟩ => ⟨S8x4096x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_cst : Ref sig .tc := ⟨.hbm, 17, rfl⟩
abbrev main_v6 : Ref sig .tc := ⟨.hbm, 18, rfl⟩
abbrev main_v7 : Ref sig .tc := ⟨.hbm, 19, rfl⟩
abbrev main_cst_0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_1 : Ref sig .tc := ⟨.hbm, 37, rfl⟩
abbrev main_v24 : Ref sig .tc := ⟨.hbm, 38, rfl⟩
abbrev main_v25 : Ref sig .tc := ⟨.hbm, 39, rfl⟩
abbrev main_cst_2 : Ref sig .tc := ⟨.hbm, 40, rfl⟩
abbrev main_v26 : Ref sig .tc := ⟨.hbm, 41, rfl⟩
abbrev main_v27 : Ref sig .tc := ⟨.hbm, 42, rfl⟩
abbrev main_cst_3 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_call0_cst : Ref sig .tc := ⟨.hbm, 54, rfl⟩
abbrev main_call0_v0 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_cst_4 : Ref sig .tc := ⟨.hbm, 62, rfl⟩
abbrev main_v44 : Ref sig .tc := ⟨.hbm, 63, rfl⟩
abbrev main_v45 : Ref sig .tc := ⟨.hbm, 64, rfl⟩
abbrev main_cst_5 : Ref sig .tc := ⟨.hbm, 65, rfl⟩
abbrev main_v46 : Ref sig .tc := ⟨.hbm, 66, rfl⟩
abbrev main_v47 : Ref sig .tc := ⟨.hbm, 67, rfl⟩
abbrev main_cst_6 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩

abbrev nD : Nat := 1
abbrev τ : Topo := Topo.v7x

variable {F : FTy → Type} [FloatOps F]
-- ==== Kernel3.lean ====
abbrev S8x4096x1024 : Shape := ⟨3, ![8, 4096, 1024]⟩
abbrev S8x4096 : Shape := ⟨2, ![8, 4096]⟩
abbrev S1x1024 : Shape := ⟨2, ![1, 1024]⟩
abbrev S1x1024x5400 : Shape := ⟨3, ![1, 1024, 5400]⟩
abbrev S1024x5400 : Shape := ⟨2, ![1024, 5400]⟩
abbrev S1024x2048 : Shape := ⟨2, ![1024, 2048]⟩
abbrev S1024x128 : Shape := ⟨2, ![1024, 128]⟩
abbrev S1024x4224 : Shape := ⟨2, ![1024, 4224]⟩
abbrev S1024x24 : Shape := ⟨2, ![1024, 24]⟩
abbrev S1024x2x12 : Shape := ⟨3, ![1024, 2, 12]⟩
abbrev S_ : Shape := ⟨0, ![]⟩
abbrev S1024x2x16 : Shape := ⟨3, ![1024, 2, 16]⟩
abbrev S1024x32 : Shape := ⟨2, ![1024, 32]⟩
abbrev S1024x512 : Shape := ⟨2, ![1024, 512]⟩
abbrev S1024x1184 : Shape := ⟨2, ![1024, 1184]⟩
abbrev S1184x1024 : Shape := ⟨2, ![1184, 1024]⟩
abbrev S8 : Shape := ⟨1, ![8]⟩
abbrev S8x1 : Shape := ⟨2, ![8, 1]⟩
abbrev S8x1x4096 : Shape := ⟨3, ![8, 1, 4096]⟩
abbrev S8x4096x2048 : Shape := ⟨3, ![8, 4096, 2048]⟩
abbrev S8x4096x128 : Shape := ⟨3, ![8, 4096, 128]⟩
abbrev S8x4096x256 : Shape := ⟨3, ![8, 4096, 256]⟩
abbrev S8x512x4096 : Shape := ⟨3, ![8, 512, 4096]⟩
abbrev S8x320x4096 : Shape := ⟨3, ![8, 320, 4096]⟩
abbrev S8x32x4096 : Shape := ⟨3, ![8, 32, 4096]⟩
abbrev S1x512x1024 : Shape := ⟨3, ![1, 512, 1024]⟩
abbrev S1x1x512 : Shape := ⟨3, ![1, 1, 512]⟩
abbrev S1x512x2048 : Shape := ⟨3, ![1, 512, 2048]⟩
abbrev S1x512x128 : Shape := ⟨3, ![1, 512, 128]⟩
abbrev S1x512x256 : Shape := ⟨3, ![1, 512, 256]⟩
abbrev S1x512x512 : Shape := ⟨3, ![1, 512, 512]⟩
abbrev S1x320x512 : Shape := ⟨3, ![1, 320, 512]⟩
abbrev S1x32x512 : Shape := ⟨3, ![1, 32, 512]⟩
abbrev S512x1024 : Shape := ⟨2, ![512, 1024]⟩
abbrev S512 : Shape := ⟨1, ![512]⟩
abbrev S512x1 : Shape := ⟨2, ![512, 1]⟩
abbrev S1024x1024 : Shape := ⟨2, ![1024, 1024]⟩
abbrev S512x128 : Shape := ⟨2, ![512, 128]⟩
abbrev S1x512 : Shape := ⟨2, ![1, 512]⟩
abbrev S8x512 : Shape := ⟨2, ![8, 512]⟩
abbrev S512x512 : Shape := ⟨2, ![512, 512]⟩
abbrev S48x512 : Shape := ⟨2, ![48, 512]⟩
abbrev S384x1024 : Shape := ⟨2, ![384, 1024]⟩
abbrev S384x512 : Shape := ⟨2, ![384, 512]⟩
abbrev S512x384 : Shape := ⟨2, ![512, 384]⟩
abbrev S256x1024 : Shape := ⟨2, ![256, 1024]⟩
abbrev S256x512 : Shape := ⟨2, ![256, 512]⟩
abbrev S16x512 : Shape := ⟨2, ![16, 512]⟩
abbrev S64x512 : Shape := ⟨2, ![64, 512]⟩
abbrev S320x512 : Shape := ⟨2, ![320, 512]⟩
abbrev S32x1024 : Shape := ⟨2, ![32, 1024]⟩
abbrev S32x512 : Shape := ⟨2, ![32, 512]⟩

abbrev nBuf : Space → Nat
  | .hbm => 50
  | .vmem => 26
  | .smem => 0
  | _ => 0

abbrev bufTy : (tb : Table) → Fin (tcTables nBuf tb) → BufTy
  | .hbm, ⟨0, _⟩ => ⟨S8x4096x1024, .f32⟩
  | .hbm, ⟨1, _⟩ => ⟨S8x4096, .i32⟩
  | .hbm, ⟨2, _⟩ => ⟨S1x1024, .f32⟩
  | .hbm, ⟨3, _⟩ => ⟨S1x1024x5400, .f32⟩
  | .hbm, ⟨4, _⟩ => ⟨S1024x5400, .f32⟩
  | .hbm, ⟨5, _⟩ => ⟨S1024x2048, .f32⟩
  | .hbm, ⟨6, _⟩ => ⟨S1024x2048, .f32⟩
  | .hbm, ⟨7, _⟩ => ⟨S1024x128, .f32⟩
  | .hbm, ⟨8, _⟩ => ⟨S1024x4224, .f32⟩
  | .hbm, ⟨9, _⟩ => ⟨S1024x4224, .bf16⟩
  | .hbm, ⟨10, _⟩ => ⟨S1024x24, .f32⟩
  | .hbm, ⟨11, _⟩ => ⟨S1024x2x12, .f32⟩
  | .hbm, ⟨12, _⟩ => ⟨S_, .i32⟩
  | .hbm, ⟨13, _⟩ => ⟨S_, .f32⟩
  | .hbm, ⟨14, _⟩ => ⟨S1024x2x16, .f32⟩
  | .hbm, ⟨15, _⟩ => ⟨S1024x32, .f32⟩
  | .hbm, ⟨16, _⟩ => ⟨S1024x512, .f32⟩
  | .hbm, ⟨17, _⟩ => ⟨S1024x128, .f32⟩
  | .hbm, ⟨18, _⟩ => ⟨S1024x128, .f32⟩
  | .hbm, ⟨19, _⟩ => ⟨S1024x128, .f32⟩
  | .hbm, ⟨20, _⟩ => ⟨S1024x128, .f32⟩
  | .hbm, ⟨21, _⟩ => ⟨S1024x128, .f32⟩
  | .hbm, ⟨22, _⟩ => ⟨S1024x1184, .f32⟩
  | .hbm, ⟨23, _⟩ => ⟨S1024x1184, .bf16⟩
  | .hbm, ⟨24, _⟩ => ⟨S1184x1024, .bf16⟩
  | .hbm, ⟨25, _⟩ => ⟨S8, .f32⟩
  | .hbm, ⟨26, _⟩ => ⟨S_, .f32⟩
  | .hbm, ⟨27, _⟩ => ⟨S8, .f32⟩
  | .hbm, ⟨28, _⟩ => ⟨S8, .f32⟩
  | .hbm, ⟨29, _⟩ => ⟨S_, .f32⟩
  | .hbm, ⟨30, _⟩ => ⟨S8, .f32⟩
  | .hbm, ⟨31, _⟩ => ⟨S8, .f32⟩
  | .hbm, ⟨32, _⟩ => ⟨S8, .f32⟩
  | .hbm, ⟨33, _⟩ => ⟨S_, .f32⟩
  | .hbm, ⟨34, _⟩ => ⟨S8, .f32⟩
  | .hbm, ⟨35, _⟩ => ⟨S8, .f32⟩
  | .hbm, ⟨36, _⟩ => ⟨S_, .f32⟩
  | .hbm, ⟨37, _⟩ => ⟨S8, .f32⟩
  | .hbm, ⟨38, _⟩ => ⟨S8, .f32⟩
  | .hbm, ⟨39, _⟩ => ⟨S8x1, .f32⟩
  | .hbm, ⟨40, _⟩ => ⟨S8x1x4096, .i32⟩
  | .hbm, ⟨41, _⟩ => ⟨S8x4096x2048, .bf16⟩
  | .hbm, ⟨42, _⟩ => ⟨S8x4096x2048, .bf16⟩
  | .hbm, ⟨43, _⟩ => ⟨S8x4096x128, .f32⟩
  | .hbm, ⟨44, _⟩ => ⟨S8x4096x128, .f32⟩
  | .hbm, ⟨45, _⟩ => ⟨S8x4096x256, .bf16⟩
  | .hbm, ⟨46, _⟩ => ⟨S8x4096x128, .bf16⟩
  | .hbm, ⟨47, _⟩ => ⟨S8x512x4096, .bf16⟩
  | .hbm, ⟨48, _⟩ => ⟨S8x320x4096, .bf16⟩
  | .hbm, ⟨49, _⟩ => ⟨S8x32x4096, .f32⟩
  | .local _ .vmem, ⟨0, _⟩ => ⟨S1x512x1024, .f32⟩
  | .local _ .vmem, ⟨1, _⟩ => ⟨S1x512x1024, .f32⟩
  | .local _ .vmem, ⟨2, _⟩ => ⟨S1x1x512, .i32⟩
  | .local _ .vmem, ⟨3, _⟩ => ⟨S1x1x512, .i32⟩
  | .local _ .vmem, ⟨4, _⟩ => ⟨S1x1024, .f32⟩
  | .local _ .vmem, ⟨5, _⟩ => ⟨S8x1, .f32⟩
  | .local _ .vmem, ⟨6, _⟩ => ⟨S1024x4224, .bf16⟩
  | .local _ .vmem, ⟨7, _⟩ => ⟨S1184x1024, .bf16⟩
  | .local _ .vmem, ⟨8, _⟩ => ⟨S1x512x2048, .bf16⟩
  | .local _ .vmem, ⟨9, _⟩ => ⟨S1x512x2048, .bf16⟩
  | .local _ .vmem, ⟨10, _⟩ => ⟨S1x512x2048, .bf16⟩
  | .local _ .vmem, ⟨11, _⟩ => ⟨S1x512x2048, .bf16⟩
  | .local _ .vmem, ⟨12, _⟩ => ⟨S1x512x128, .f32⟩
  | .local _ .vmem, ⟨13, _⟩ => ⟨S1x512x128, .f32⟩
  | .local _ .vmem, ⟨14, _⟩ => ⟨S1x512x128, .f32⟩
  | .local _ .vmem, ⟨15, _⟩ => ⟨S1x512x128, .f32⟩
  | .local _ .vmem, ⟨16, _⟩ => ⟨S1x512x256, .bf16⟩
  | .local _ .vmem, ⟨17, _⟩ => ⟨S1x512x256, .bf16⟩
  | .local _ .vmem, ⟨18, _⟩ => ⟨S1x512x128, .bf16⟩
  | .local _ .vmem, ⟨19, _⟩ => ⟨S1x512x128, .bf16⟩
  | .local _ .vmem, ⟨20, _⟩ => ⟨S1x512x512, .bf16⟩
  | .local _ .vmem, ⟨21, _⟩ => ⟨S1x512x512, .bf16⟩
  | .local _ .vmem, ⟨22, _⟩ => ⟨S1x320x512, .bf16⟩
  | .local _ .vmem, ⟨23, _⟩ => ⟨S1x320x512, .bf16⟩
  | .local _ .vmem, ⟨24, _⟩ => ⟨S1x32x512, .f32⟩
  | .local _ .vmem, ⟨25, _⟩ => ⟨S1x32x512, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_c : Ref sig .tc := ⟨.hbm, 12, rfl⟩
abbrev main_call0_v0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst : Ref sig .tc := ⟨.hbm, 26, rfl⟩
abbrev main_v20 : Ref sig .tc := ⟨.hbm, 27, rfl⟩
abbrev main_v21 : Ref sig .tc := ⟨.hbm, 28, rfl⟩
abbrev main_cst_0 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_cst_1 : Ref sig .tc := ⟨.hbm, 33, rfl⟩
abbrev main_v25 : Ref sig .tc := ⟨.hbm, 34, rfl⟩
abbrev main_v26 : Ref sig .tc := ⟨.hbm, 35, rfl⟩
abbrev main_cst_2 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31_0 : Ref sig .tc := ⟨.hbm, 41, rfl⟩
abbrev main_v31_1 : Ref sig .tc := ⟨.hbm, 42, rfl⟩
abbrev main_v31_2 : Ref sig .tc := ⟨.hbm, 43, rfl⟩
abbrev main_v31_3 : Ref sig .tc := ⟨.hbm, 44, rfl⟩
abbrev main_v31_4 : Ref sig .tc := ⟨.hbm, 45, rfl⟩
abbrev main_v31_5 : Ref sig .tc := ⟨.hbm, 46, rfl⟩
abbrev main_v31_6 : Ref sig .tc := ⟨.hbm, 47, rfl⟩
abbrev main_v31_7 : Ref sig .tc := ⟨.hbm, 48, rfl⟩
abbrev main_v31_8 : Ref sig .tc := ⟨.hbm, 49, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg14_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24
abbrev cc0_sem14_1 : DmaSem sig := 25

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x512 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S8x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x4224 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1184x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x512x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x512x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x512x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x512x128 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x512x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x320x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x32x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]
-- ==== Reference3Ideal.lean ====
abbrev S8x4096x1024 : Shape := ⟨3, ![8, 4096, 1024]⟩
abbrev S8x4096 : Shape := ⟨2, ![8, 4096]⟩
abbrev S1x1024 : Shape := ⟨2, ![1, 1024]⟩
abbrev S1x1024x5400 : Shape := ⟨3, ![1, 1024, 5400]⟩
abbrev S_ : Shape := ⟨0, ![]⟩
abbrev S8x4096x1 : Shape := ⟨3, ![8, 4096, 1]⟩
abbrev S1024 : Shape := ⟨1, ![1024]⟩
abbrev S1x1x1024 : Shape := ⟨3, ![1, 1, 1024]⟩
abbrev S1024x5400 : Shape := ⟨2, ![1024, 5400]⟩
abbrev S8x4096x5400 : Shape := ⟨3, ![8, 4096, 5400]⟩
abbrev S8x4096x2048 : Shape := ⟨3, ![8, 4096, 2048]⟩
abbrev S8x4096x512 : Shape := ⟨3, ![8, 4096, 512]⟩
abbrev S8x4096x768 : Shape := ⟨3, ![8, 4096, 768]⟩
abbrev S8x4096x24 : Shape := ⟨3, ![8, 4096, 24]⟩
abbrev S8x4096x128 : Shape := ⟨3, ![8, 4096, 128]⟩
abbrev S8x4096x8x64 : Shape := ⟨4, ![8, 4096, 8, 64]⟩
abbrev S8 : Shape := ⟨1, ![8]⟩
abbrev S1x1x8 : Shape := ⟨3, ![1, 1, 8]⟩
abbrev S8x4096x8 : Shape := ⟨3, ![8, 4096, 8]⟩
abbrev S8x4096x1x8 : Shape := ⟨4, ![8, 4096, 1, 8]⟩
abbrev S8x4096x8x8 : Shape := ⟨4, ![8, 4096, 8, 8]⟩
abbrev S8x4096x8x48 : Shape := ⟨4, ![8, 4096, 8, 48]⟩
abbrev S8x4096x2x64 : Shape := ⟨4, ![8, 4096, 2, 64]⟩
abbrev S8x4096x2x8 : Shape := ⟨4, ![8, 4096, 2, 8]⟩
abbrev S8x4096x2x48 : Shape := ⟨4, ![8, 4096, 2, 48]⟩
abbrev S4096 : Shape := ⟨1, ![4096]⟩
abbrev S4096x1 : Shape := ⟨2, ![4096, 1]⟩
abbrev S128 : Shape := ⟨1, ![128]⟩
abbrev S1x128 : Shape := ⟨2, ![1, 128]⟩
abbrev S4096x128 : Shape := ⟨2, ![4096, 128]⟩
abbrev S16 : Shape := ⟨1, ![16]⟩
abbrev S8x4096x2x16 : Shape := ⟨4, ![8, 4096, 2, 16]⟩
abbrev S8x4096x2x80 : Shape := ⟨4, ![8, 4096, 2, 80]⟩
abbrev S8x4096x160 : Shape := ⟨3, ![8, 4096, 160]⟩
abbrev S8x4096x2x12 : Shape := ⟨4, ![8, 4096, 2, 12]⟩
abbrev S8x4096x256 : Shape := ⟨3, ![8, 4096, 256]⟩
abbrev S8x512x4096 : Shape := ⟨3, ![8, 512, 4096]⟩
abbrev S8x4096x320 : Shape := ⟨3, ![8, 4096, 320]⟩
abbrev S8x320x4096 : Shape := ⟨3, ![8, 320, 4096]⟩
abbrev S8x4096x32 : Shape := ⟨3, ![8, 4096, 32]⟩
abbrev S8x32x4096 : Shape := ⟨3, ![8, 32, 4096]⟩

abbrev nBuf : Space → Nat
  | .hbm => 260
  | .vmem => 0
  | .smem => 0
  | _ => 0

abbrev hbmTy0_0 (i : Nat) : BufTy := match i % 128 with
  | 0 => ⟨S8x4096x1024, .f32⟩
  | 1 => ⟨S8x4096, .i32⟩
  | 2 => ⟨S1x1024, .f32⟩
  | 3 => ⟨S1x1024x5400, .f32⟩
  | 4 => ⟨S8x4096x1024, .f32⟩
  | 5 => ⟨S_, .f32⟩
  | 6 => ⟨S8x4096, .f32⟩
  | 7 => ⟨S8x4096x1, .f32⟩
  | 8 => ⟨S_, .f32⟩
  | 9 => ⟨S8x4096x1, .f32⟩
  | 10 => ⟨S8x4096x1, .f32⟩
  | 11 => ⟨S_, .f32⟩
  | 12 => ⟨S8x4096x1, .f32⟩
  | 13 => ⟨S8x4096x1, .f32⟩
  | 14 => ⟨S8x4096x1, .f32⟩
  | 15 => ⟨S8x4096x1024, .f32⟩
  | 16 => ⟨S8x4096x1024, .f32⟩
  | 17 => ⟨S1024, .f32⟩
  | 18 => ⟨S1x1x1024, .f32⟩
  | 19 => ⟨S8x4096x1024, .f32⟩
  | 20 => ⟨S8x4096x1024, .f32⟩
  | 21 => ⟨S1024x5400, .f32⟩
  | 22 => ⟨S8x4096x5400, .f32⟩
  | 23 => ⟨S8x4096x2048, .f32⟩
  | 24 => ⟨S8x4096x512, .f32⟩
  | 25 => ⟨S8x4096x768, .f32⟩
  | 26 => ⟨S8x4096x24, .f32⟩
  | 27 => ⟨S8x4096x2048, .f32⟩
  | 28 => ⟨S8x4096x128, .f32⟩
  | 29 => ⟨S8x4096x128, .f32⟩
  | 30 => ⟨S8x4096x128, .f32⟩
  | 31 => ⟨S8x4096x128, .f32⟩
  | 32 => ⟨S8x4096x128, .f32⟩
  | 33 => ⟨S8x4096x128, .f32⟩
  | 34 => ⟨S8x4096x8x64, .f32⟩
  | 35 => ⟨S8, .f32⟩
  | 36 => ⟨S_, .f32⟩
  | 37 => ⟨S8, .f32⟩
  | 38 => ⟨S8, .f32⟩
  | 39 => ⟨S_, .f32⟩
  | 40 => ⟨S8, .f32⟩
  | 41 => ⟨S8, .f32⟩
  | 42 => ⟨S8, .f32⟩
  | 43 => ⟨S_, .f32⟩
  | 44 => ⟨S8, .f32⟩
  | 45 => ⟨S8, .f32⟩
  | 46 => ⟨S_, .f32⟩
  | 47 => ⟨S8, .f32⟩
  | 48 => ⟨S8, .f32⟩
  | 49 => ⟨S8x4096, .f32⟩
  | 50 => ⟨S8x4096x1, .f32⟩
  | 51 => ⟨S1x1x8, .f32⟩
  | 52 => ⟨S8x4096x8, .f32⟩
  | 53 => ⟨S8x4096x8, .f32⟩
  | 54 => ⟨S8x4096x8, .f32⟩
  | 55 => ⟨S8x4096x8, .f32⟩
  | 56 => ⟨S8x4096x1x8, .f32⟩
  | 57 => ⟨S8x4096x8, .f32⟩
  | 58 => ⟨S8x4096x1x8, .f32⟩
  | 59 => ⟨S8x4096x8x8, .f32⟩
  | 60 => ⟨S8x4096x8x8, .f32⟩
  | 61 => ⟨S8x4096x8x48, .f32⟩
  | 62 => ⟨S8x4096x8x8, .f32⟩
  | 63 => ⟨S8x4096x8x8, .f32⟩
  | 64 => ⟨S8x4096x8x8, .f32⟩
  | 65 => ⟨S8x4096x8x8, .f32⟩
  | 66 => ⟨S8x4096x8x8, .f32⟩
  | 67 => ⟨S8x4096x8x8, .f32⟩
  | 68 => ⟨S8x4096x8x8, .f32⟩
  | 69 => ⟨S8x4096x8x8, .f32⟩
  | 70 => ⟨S8x4096x8x8, .f32⟩
  | 71 => ⟨S8x4096x8x8, .f32⟩
  | 72 => ⟨S8x4096x8x64, .f32⟩
  | 73 => ⟨S_, .f32⟩
  | 74 => ⟨S8x4096x8x64, .f32⟩
  | 75 => ⟨S8x4096x8x64, .f32⟩
  | 76 => ⟨S8x4096x2x64, .f32⟩
  | 77 => ⟨S8, .f32⟩
  | 78 => ⟨S_, .f32⟩
  | 79 => ⟨S8, .f32⟩
  | 80 => ⟨S8, .f32⟩
  | 81 => ⟨S_, .f32⟩
  | 82 => ⟨S8, .f32⟩
  | 83 => ⟨S8, .f32⟩
  | 84 => ⟨S8, .f32⟩
  | 85 => ⟨S_, .f32⟩
  | 86 => ⟨S8, .f32⟩
  | 87 => ⟨S8, .f32⟩
  | 88 => ⟨S_, .f32⟩
  | 89 => ⟨S8, .f32⟩
  | 90 => ⟨S8, .f32⟩
  | 91 => ⟨S8x4096, .f32⟩
  | 92 => ⟨S8x4096x1, .f32⟩
  | 93 => ⟨S1x1x8, .f32⟩
  | 94 => ⟨S8x4096x8, .f32⟩
  | 95 => ⟨S8x4096x8, .f32⟩
  | 96 => ⟨S8x4096x8, .f32⟩
  | 97 => ⟨S8x4096x8, .f32⟩
  | 98 => ⟨S8x4096x1x8, .f32⟩
  | 99 => ⟨S8x4096x8, .f32⟩
  | 100 => ⟨S8x4096x1x8, .f32⟩
  | 101 => ⟨S8x4096x2x8, .f32⟩
  | 102 => ⟨S8x4096x2x8, .f32⟩
  | 103 => ⟨S8x4096x2x48, .f32⟩
  | 104 => ⟨S8x4096x2x8, .f32⟩
  | 105 => ⟨S8x4096x2x8, .f32⟩
  | 106 => ⟨S8x4096x2x8, .f32⟩
  | 107 => ⟨S8x4096x2x8, .f32⟩
  | 108 => ⟨S8x4096x2x8, .f32⟩
  | 109 => ⟨S8x4096x2x8, .f32⟩
  | 110 => ⟨S8x4096x2x8, .f32⟩
  | 111 => ⟨S8x4096x2x8, .f32⟩
  | 112 => ⟨S8x4096x2x8, .f32⟩
  | 113 => ⟨S8x4096x2x8, .f32⟩
  | 114 => ⟨S8x4096x2x64, .f32⟩
  | 115 => ⟨S8x4096x128, .f32⟩
  | 116 => ⟨S8x4096x2x64, .f32⟩
  | 117 => ⟨S8, .f32⟩
  | 118 => ⟨S_, .f32⟩
  | 119 => ⟨S8, .f32⟩
  | 120 => ⟨S8, .f32⟩
  | 121 => ⟨S_, .f32⟩
  | 122 => ⟨S8, .f32⟩
  | 123 => ⟨S8, .f32⟩
  | 124 => ⟨S8, .f32⟩
  | 125 => ⟨S_, .f32⟩
  | 126 => ⟨S8, .f32⟩
  | 127 => ⟨S8, .f32⟩
  | _ => ⟨S8x4096x1024, .f32⟩

abbrev hbmTy0_1 (i : Nat) : BufTy := match i % 128 with
  | 0 => ⟨S_, .f32⟩
  | 1 => ⟨S8, .f32⟩
  | 2 => ⟨S8, .f32⟩
  | 3 => ⟨S8x4096, .f32⟩
  | 4 => ⟨S8x4096x1, .f32⟩
  | 5 => ⟨S1x1x8, .f32⟩
  | 6 => ⟨S8x4096x8, .f32⟩
  | 7 => ⟨S8x4096x8, .f32⟩
  | 8 => ⟨S8x4096x8, .f32⟩
  | 9 => ⟨S8x4096x8, .f32⟩
  | 10 => ⟨S8x4096x1x8, .f32⟩
  | 11 => ⟨S8x4096x8, .f32⟩
  | 12 => ⟨S8x4096x1x8, .f32⟩
  | 13 => ⟨S8x4096x2x8, .f32⟩
  | 14 => ⟨S8x4096x2x8, .f32⟩
  | 15 => ⟨S8x4096x2x48, .f32⟩
  | 16 => ⟨S8x4096x2x8, .f32⟩
  | 17 => ⟨S8x4096x2x8, .f32⟩
  | 18 => ⟨S8x4096x2x8, .f32⟩
  | 19 => ⟨S8x4096x2x8, .f32⟩
  | 20 => ⟨S8x4096x2x8, .f32⟩
  | 21 => ⟨S8x4096x2x8, .f32⟩
  | 22 => ⟨S8x4096x2x8, .f32⟩
  | 23 => ⟨S8x4096x2x8, .f32⟩
  | 24 => ⟨S8x4096x2x8, .f32⟩
  | 25 => ⟨S8x4096x2x8, .f32⟩
  | 26 => ⟨S8x4096x2x64, .f32⟩
  | 27 => ⟨S8x4096x128, .f32⟩
  | 28 => ⟨S8x4096x2x64, .f32⟩
  | 29 => ⟨S8, .f32⟩
  | 30 => ⟨S_, .f32⟩
  | 31 => ⟨S8, .f32⟩
  | 32 => ⟨S8, .f32⟩
  | 33 => ⟨S_, .f32⟩
  | 34 => ⟨S8, .f32⟩
  | 35 => ⟨S8, .f32⟩
  | 36 => ⟨S8, .f32⟩
  | 37 => ⟨S_, .f32⟩
  | 38 => ⟨S8, .f32⟩
  | 39 => ⟨S8, .f32⟩
  | 40 => ⟨S_, .f32⟩
  | 41 => ⟨S8, .f32⟩
  | 42 => ⟨S8, .f32⟩
  | 43 => ⟨S8x4096, .f32⟩
  | 44 => ⟨S8x4096x1, .f32⟩
  | 45 => ⟨S1x1x8, .f32⟩
  | 46 => ⟨S8x4096x8, .f32⟩
  | 47 => ⟨S8x4096x8, .f32⟩
  | 48 => ⟨S8x4096x8, .f32⟩
  | 49 => ⟨S8x4096x8, .f32⟩
  | 50 => ⟨S8x4096x1x8, .f32⟩
  | 51 => ⟨S8x4096x8, .f32⟩
  | 52 => ⟨S8x4096x1x8, .f32⟩
  | 53 => ⟨S8x4096x2x8, .f32⟩
  | 54 => ⟨S8x4096x2x8, .f32⟩
  | 55 => ⟨S8x4096x2x48, .f32⟩
  | 56 => ⟨S8x4096x2x8, .f32⟩
  | 57 => ⟨S8x4096x2x8, .f32⟩
  | 58 => ⟨S8x4096x2x8, .f32⟩
  | 59 => ⟨S8x4096x2x8, .f32⟩
  | 60 => ⟨S8x4096x2x8, .f32⟩
  | 61 => ⟨S8x4096x2x8, .f32⟩
  | 62 => ⟨S8x4096x2x8, .f32⟩
  | 63 => ⟨S8x4096x2x8, .f32⟩
  | 64 => ⟨S8x4096x2x8, .f32⟩
  | 65 => ⟨S8x4096x2x8, .f32⟩
  | 66 => ⟨S8x4096x2x64, .f32⟩
  | 67 => ⟨S8x4096x128, .f32⟩
  | 68 => ⟨S4096, .i32⟩
  | 69 => ⟨S4096x1, .i32⟩
  | 70 => ⟨S_, .i32⟩
  | 71 => ⟨S_, .i32⟩
  | 72 => ⟨S4096x1, .i32⟩
  | 73 => ⟨S4096x1, .i32⟩
  | 74 => ⟨S4096x1, .i32⟩
  | 75 => ⟨S_, .i32⟩
  | 76 => ⟨S4096x1, .i32⟩
  | 77 => ⟨S4096x1, .i1⟩
  | 78 => ⟨S4096x1, .i32⟩
  | 79 => ⟨S4096x1, .i32⟩
  | 80 => ⟨S_, .i32⟩
  | 81 => ⟨S4096x1, .i32⟩
  | 82 => ⟨S4096x1, .i1⟩
  | 83 => ⟨S4096x1, .i1⟩
  | 84 => ⟨S_, .i32⟩
  | 85 => ⟨S4096x1, .i32⟩
  | 86 => ⟨S4096x1, .i32⟩
  | 87 => ⟨S4096x1, .i32⟩
  | 88 => ⟨S128, .i32⟩
  | 89 => ⟨S1x128, .i32⟩
  | 90 => ⟨S4096x128, .i32⟩
  | 91 => ⟨S4096x128, .i32⟩
  | 92 => ⟨S4096x128, .i1⟩
  | 93 => ⟨S4096x128, .f32⟩
  | 94 => ⟨S8x4096x128, .f32⟩
  | 95 => ⟨S16, .i32⟩
  | 96 => ⟨S_, .i32⟩
  | 97 => ⟨S16, .i32⟩
  | 98 => ⟨S16, .i1⟩
  | 99 => ⟨S16, .f32⟩
  | 100 => ⟨S8x4096x2x16, .f32⟩
  | 101 => ⟨S8x4096x2x64, .f32⟩
  | 102 => ⟨S8x4096x2x80, .f32⟩
  | 103 => ⟨S8x4096x160, .f32⟩
  | 104 => ⟨S8x4096x2x64, .f32⟩
  | 105 => ⟨S8x4096x2x80, .f32⟩
  | 106 => ⟨S8x4096x160, .f32⟩
  | 107 => ⟨S8x4096x2x12, .f32⟩
  | 108 => ⟨S_, .i32⟩
  | 109 => ⟨S_, .f32⟩
  | 110 => ⟨S8x4096x2x16, .f32⟩
  | 111 => ⟨S8x4096x2048, .bf16⟩
  | 112 => ⟨S8x4096x2048, .bf16⟩
  | 113 => ⟨S8x4096x256, .f32⟩
  | 114 => ⟨S8x4096x256, .bf16⟩
  | 115 => ⟨S8x4096x128, .bf16⟩
  | 116 => ⟨S8x4096x512, .f32⟩
  | 117 => ⟨S8x512x4096, .f32⟩
  | 118 => ⟨S8x512x4096, .bf16⟩
  | 119 => ⟨S8x4096x320, .f32⟩
  | 120 => ⟨S8x320x4096, .f32⟩
  | 121 => ⟨S8x320x4096, .bf16⟩
  | 122 => ⟨S8x4096x2x16, .f32⟩
  | 123 => ⟨S8x4096x2x16, .f32⟩
  | 124 => ⟨S_, .f32⟩
  | 125 => ⟨S8x4096x2x16, .f32⟩
  | 126 => ⟨S8x4096x2x16, .f32⟩
  | 127 => ⟨S_, .f32⟩
  | _ => ⟨S8x4096x1024, .f32⟩

abbrev hbmTy0_2 (i : Nat) : BufTy := match i % 128 with
  | 0 => ⟨S8x4096x2x16, .f32⟩
  | 1 => ⟨S8x4096x2x16, .f32⟩
  | 2 => ⟨S8x4096x32, .f32⟩
  | 3 => ⟨S8x32x4096, .f32⟩
  | _ => ⟨S8x4096x1024, .f32⟩

abbrev hbmTy (i : Nat) : BufTy := match i / 128 with
  | 0 => hbmTy0_0 i
  | 1 => hbmTy0_1 i
  | 2 => hbmTy0_2 i
  | _ => ⟨S8x4096x1024, .f32⟩

abbrev bufTy : (tb : Table) → Fin (tcTables nBuf tb) → BufTy
  | .hbm, ⟨i, _⟩ => hbmTy i
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_cst_2 : Ref sig .tc := ⟨.hbm, 36, rfl⟩
abbrev main_v29 : Ref sig .tc := ⟨.hbm, 37, rfl⟩
abbrev main_v30 : Ref sig .tc := ⟨.hbm, 38, rfl⟩
abbrev main_cst_3 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_cst_4 : Ref sig .tc := ⟨.hbm, 43, rfl⟩
abbrev main_v34 : Ref sig .tc := ⟨.hbm, 44, rfl⟩
abbrev main_v35 : Ref sig .tc := ⟨.hbm, 45, rfl⟩
abbrev main_cst_5 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_cst_6 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_cst_7 : Ref sig .tc := ⟨.hbm, 78, rfl⟩
abbrev main_v66 : Ref sig .tc := ⟨.hbm, 79, rfl⟩
abbrev main_v67 : Ref sig .tc := ⟨.hbm, 80, rfl⟩
abbrev main_cst_8 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev main_cst_9 : Ref sig .tc := ⟨.hbm, 85, rfl⟩
abbrev main_v71 : Ref sig .tc := ⟨.hbm, 86, rfl⟩
abbrev main_v72 : Ref sig .tc := ⟨.hbm, 87, rfl⟩
abbrev main_cst_10 : Ref sig .tc := ⟨.hbm, 88, rfl⟩
abbrev main_v73 : Ref sig .tc := ⟨.hbm, 89, rfl⟩
abbrev main_v74 : Ref sig .tc := ⟨.hbm, 90, rfl⟩
abbrev main_v75 : Ref sig .tc := ⟨.hbm, 91, rfl⟩
abbrev main_v76 : Ref sig .tc := ⟨.hbm, 92, rfl⟩
abbrev main_v77 : Ref sig .tc := ⟨.hbm, 93, rfl⟩
abbrev main_v78 : Ref sig .tc := ⟨.hbm, 94, rfl⟩
abbrev main_v79 : Ref sig .tc := ⟨.hbm, 95, rfl⟩
abbrev main_v80 : Ref sig .tc := ⟨.hbm, 96, rfl⟩
abbrev main_v81 : Ref sig .tc := ⟨.hbm, 97, rfl⟩
abbrev main_v82 : Ref sig .tc := ⟨.hbm, 98, rfl⟩
abbrev main_v83 : Ref sig .tc := ⟨.hbm, 99, rfl⟩
abbrev main_v84 : Ref sig .tc := ⟨.hbm, 100, rfl⟩
abbrev main_v85 : Ref sig .tc := ⟨.hbm, 101, rfl⟩
abbrev main_v86 : Ref sig .tc := ⟨.hbm, 102, rfl⟩
abbrev main_v87 : Ref sig .tc := ⟨.hbm, 103, rfl⟩
abbrev main_v88 : Ref sig .tc := ⟨.hbm, 104, rfl⟩
abbrev main_v89 : Ref sig .tc := ⟨.hbm, 105, rfl⟩
abbrev main_v90 : Ref sig .tc := ⟨.hbm, 106, rfl⟩
abbrev main_v91 : Ref sig .tc := ⟨.hbm, 107, rfl⟩
abbrev main_v92 : Ref sig .tc := ⟨.hbm, 108, rfl⟩
abbrev main_v93 : Ref sig .tc := ⟨.hbm, 109, rfl⟩
abbrev main_v94 : Ref sig .tc := ⟨.hbm, 110, rfl⟩
abbrev main_v95 : Ref sig .tc := ⟨.hbm, 111, rfl⟩
abbrev main_v96 : Ref sig .tc := ⟨.hbm, 112, rfl⟩
abbrev main_v97 : Ref sig .tc := ⟨.hbm, 113, rfl⟩
abbrev main_v98 : Ref sig .tc := ⟨.hbm, 114, rfl⟩
abbrev main_v99 : Ref sig .tc := ⟨.hbm, 115, rfl⟩
abbrev main_v100 : Ref sig .tc := ⟨.hbm, 116, rfl⟩
abbrev main_v101 : Ref sig .tc := ⟨.hbm, 117, rfl⟩
abbrev main_cst_11 : Ref sig .tc := ⟨.hbm, 118, rfl⟩
abbrev main_v102 : Ref sig .tc := ⟨.hbm, 119, rfl⟩
abbrev main_v103 : Ref sig .tc := ⟨.hbm, 120, rfl⟩
abbrev main_cst_12 : Ref sig .tc := ⟨.hbm, 121, rfl⟩
abbrev main_v104 : Ref sig .tc := ⟨.hbm, 122, rfl⟩
abbrev main_v105 : Ref sig .tc := ⟨.hbm, 123, rfl⟩
abbrev main_v106 : Ref sig .tc := ⟨.hbm, 124, rfl⟩
abbrev main_cst_13 : Ref sig .tc := ⟨.hbm, 125, rfl⟩
abbrev main_v107 : Ref sig .tc := ⟨.hbm, 126, rfl⟩
abbrev main_v108 : Ref sig .tc := ⟨.hbm, 127, rfl⟩
abbrev main_cst_14 : Ref sig .tc := ⟨.hbm, 128, rfl⟩
abbrev main_v109 : Ref sig .tc := ⟨.hbm, 129, rfl⟩
abbrev main_v110 : Ref sig .tc := ⟨.hbm, 130, rfl⟩
abbrev main_v111 : Ref sig .tc := ⟨.hbm, 131, rfl⟩
abbrev main_v112 : Ref sig .tc := ⟨.hbm, 132, rfl⟩
abbrev main_v113 : Ref sig .tc := ⟨.hbm, 133, rfl⟩
abbrev main_v114 : Ref sig .tc := ⟨.hbm, 134, rfl⟩
abbrev main_v115 : Ref sig .tc := ⟨.hbm, 135, rfl⟩
abbrev main_v116 : Ref sig .tc := ⟨.hbm, 136, rfl⟩
abbrev main_v117 : Ref sig .tc := ⟨.hbm, 137, rfl⟩
abbrev main_v118 : Ref sig .tc := ⟨.hbm, 138, rfl⟩
abbrev main_v119 : Ref sig .tc := ⟨.hbm, 139, rfl⟩
abbrev main_v120 : Ref sig .tc := ⟨.hbm, 140, rfl⟩
abbrev main_v121 : Ref sig .tc := ⟨.hbm, 141, rfl⟩
abbrev main_v122 : Ref sig .tc := ⟨.hbm, 142, rfl⟩
abbrev main_v123 : Ref sig .tc := ⟨.hbm, 143, rfl⟩
abbrev main_v124 : Ref sig .tc := ⟨.hbm, 144, rfl⟩
abbrev main_v125 : Ref sig .tc := ⟨.hbm, 145, rfl⟩
abbrev main_v126 : Ref sig .tc := ⟨.hbm, 146, rfl⟩
abbrev main_v127 : Ref sig .tc := ⟨.hbm, 147, rfl⟩
abbrev main_v128 : Ref sig .tc := ⟨.hbm, 148, rfl⟩
abbrev main_v129 : Ref sig .tc := ⟨.hbm, 149, rfl⟩
abbrev main_v130 : Ref sig .tc := ⟨.hbm, 150, rfl⟩
abbrev main_v131 : Ref sig .tc := ⟨.hbm, 151, rfl⟩
abbrev main_v132 : Ref sig .tc := ⟨.hbm, 152, rfl⟩
abbrev main_v133 : Ref sig .tc := ⟨.hbm, 153, rfl⟩
abbrev main_v134 : Ref sig .tc := ⟨.hbm, 154, rfl⟩
abbrev main_v135 : Ref sig .tc := ⟨.hbm, 155, rfl⟩
abbrev main_v136 : Ref sig .tc := ⟨.hbm, 156, rfl⟩
abbrev main_v137 : Ref sig .tc := ⟨.hbm, 157, rfl⟩
abbrev main_cst_15 : Ref sig .tc := ⟨.hbm, 158, rfl⟩
abbrev main_v138 : Ref sig .tc := ⟨.hbm, 159, rfl⟩
abbrev main_v139 : Ref sig .tc := ⟨.hbm, 160, rfl⟩
abbrev main_cst_16 : Ref sig .tc := ⟨.hbm, 161, rfl⟩
abbrev main_v140 : Ref sig .tc := ⟨.hbm, 162, rfl⟩
abbrev main_v141 : Ref sig .tc := ⟨.hbm, 163, rfl⟩
abbrev main_v142 : Ref sig .tc := ⟨.hbm, 164, rfl⟩
abbrev main_cst_17 : Ref sig .tc := ⟨.hbm, 165, rfl⟩
abbrev main_v143 : Ref sig .tc := ⟨.hbm, 166, rfl⟩
abbrev main_v144 : Ref sig .tc := ⟨.hbm, 167, rfl⟩
abbrev main_cst_18 : Ref sig .tc := ⟨.hbm, 168, rfl⟩
abbrev main_v145 : Ref sig .tc := ⟨.hbm, 169, rfl⟩
abbrev main_v146 : Ref sig .tc := ⟨.hbm, 170, rfl⟩
abbrev main_v147 : Ref sig .tc := ⟨.hbm, 171, rfl⟩
abbrev main_v148 : Ref sig .tc := ⟨.hbm, 172, rfl⟩
abbrev main_v149 : Ref sig .tc := ⟨.hbm, 173, rfl⟩
abbrev main_v150 : Ref sig .tc := ⟨.hbm, 174, rfl⟩
abbrev main_v151 : Ref sig .tc := ⟨.hbm, 175, rfl⟩
abbrev main_v152 : Ref sig .tc := ⟨.hbm, 176, rfl⟩
abbrev main_v153 : Ref sig .tc := ⟨.hbm, 177, rfl⟩
abbrev main_v154 : Ref sig .tc := ⟨.hbm, 178, rfl⟩
abbrev main_v155 : Ref sig .tc := ⟨.hbm, 179, rfl⟩
abbrev main_v156 : Ref sig .tc := ⟨.hbm, 180, rfl⟩
abbrev main_v157 : Ref sig .tc := ⟨.hbm, 181, rfl⟩
abbrev main_v158 : Ref sig .tc := ⟨.hbm, 182, rfl⟩
abbrev main_v159 : Ref sig .tc := ⟨.hbm, 183, rfl⟩
abbrev main_v160 : Ref sig .tc := ⟨.hbm, 184, rfl⟩
abbrev main_v161 : Ref sig .tc := ⟨.hbm, 185, rfl⟩
abbrev main_v162 : Ref sig .tc := ⟨.hbm, 186, rfl⟩
abbrev main_v163 : Ref sig .tc := ⟨.hbm, 187, rfl⟩
abbrev main_v164 : Ref sig .tc := ⟨.hbm, 188, rfl⟩
abbrev main_v165 : Ref sig .tc := ⟨.hbm, 189, rfl⟩
abbrev main_v166 : Ref sig .tc := ⟨.hbm, 190, rfl⟩
abbrev main_v167 : Ref sig .tc := ⟨.hbm, 191, rfl⟩
abbrev main_v168 : Ref sig .tc := ⟨.hbm, 192, rfl⟩
abbrev main_v169 : Ref sig .tc := ⟨.hbm, 193, rfl⟩
abbrev main_v170 : Ref sig .tc := ⟨.hbm, 194, rfl⟩
abbrev main_v171 : Ref sig .tc := ⟨.hbm, 195, rfl⟩
abbrev main_v172 : Ref sig .tc := ⟨.hbm, 196, rfl⟩
abbrev main_v173 : Ref sig .tc := ⟨.hbm, 197, rfl⟩
abbrev main_c : Ref sig .tc := ⟨.hbm, 198, rfl⟩
abbrev main_call0_v0 : Ref sig .tc := ⟨.hbm, 199, rfl⟩
abbrev main_call0_v1 : Ref sig .tc := ⟨.hbm, 200, rfl⟩
abbrev main_call0_v2 : Ref sig .tc := ⟨.hbm, 201, rfl⟩
abbrev main_call0_v3 : Ref sig .tc := ⟨.hbm, 202, rfl⟩
abbrev main_call0_v4 : Ref sig .tc := ⟨.hbm, 203, rfl⟩
abbrev main_call0_v5 : Ref sig .tc := ⟨.hbm, 204, rfl⟩
abbrev main_call0_v6 : Ref sig .tc := ⟨.hbm, 205, rfl⟩
abbrev main_call0_v7 : Ref sig .tc := ⟨.hbm, 206, rfl⟩
abbrev main_call0_v8 : Ref sig .tc := ⟨.hbm, 207, rfl⟩
abbrev main_call0_c : Ref sig .tc := ⟨.hbm, 208, rfl⟩
abbrev main_call0_v9 : Ref sig .tc := ⟨.hbm, 209, rfl⟩
abbrev main_call0_v10 : Ref sig .tc := ⟨.hbm, 210, rfl⟩
abbrev main_call0_v11 : Ref sig .tc := ⟨.hbm, 211, rfl⟩
abbrev main_call0_c_0 : Ref sig .tc := ⟨.hbm, 212, rfl⟩
abbrev main_call0_v12 : Ref sig .tc := ⟨.hbm, 213, rfl⟩
abbrev main_call0_v13 : Ref sig .tc := ⟨.hbm, 214, rfl⟩
abbrev main_v174 : Ref sig .tc := ⟨.hbm, 215, rfl⟩
abbrev main_v175 : Ref sig .tc := ⟨.hbm, 216, rfl⟩
abbrev main_v176 : Ref sig .tc := ⟨.hbm, 217, rfl⟩
abbrev main_v177 : Ref sig .tc := ⟨.hbm, 218, rfl⟩
abbrev main_v178 : Ref sig .tc := ⟨.hbm, 219, rfl⟩
abbrev main_v179 : Ref sig .tc := ⟨.hbm, 220, rfl⟩
abbrev main_v180 : Ref sig .tc := ⟨.hbm, 221, rfl⟩
abbrev main_v181 : Ref sig .tc := ⟨.hbm, 222, rfl⟩
abbrev main_v182 : Ref sig .tc := ⟨.hbm, 223, rfl⟩
abbrev main_c_19 : Ref sig .tc := ⟨.hbm, 224, rfl⟩
abbrev main_v183 : Ref sig .tc := ⟨.hbm, 225, rfl⟩
abbrev main_v184 : Ref sig .tc := ⟨.hbm, 226, rfl⟩
abbrev main_v185 : Ref sig .tc := ⟨.hbm, 227, rfl⟩
abbrev main_v186 : Ref sig .tc := ⟨.hbm, 228, rfl⟩
abbrev main_v187 : Ref sig .tc := ⟨.hbm, 229, rfl⟩
abbrev main_v188 : Ref sig .tc := ⟨.hbm, 230, rfl⟩
abbrev main_v189 : Ref sig .tc := ⟨.hbm, 231, rfl⟩
abbrev main_v190 : Ref sig .tc := ⟨.hbm, 232, rfl⟩
abbrev main_v191 : Ref sig .tc := ⟨.hbm, 233, rfl⟩
abbrev main_v192 : Ref sig .tc := ⟨.hbm, 234, rfl⟩
abbrev main_v193 : Ref sig .tc := ⟨.hbm, 235, rfl⟩
abbrev main_c_20 : Ref sig .tc := ⟨.hbm, 236, rfl⟩
abbrev main_call1_v0 : Ref sig .tc := ⟨.hbm, 237, rfl⟩
abbrev main_v194 : Ref sig .tc := ⟨.hbm, 238, rfl⟩
abbrev main_v195 : Ref sig .tc := ⟨.hbm, 239, rfl⟩
abbrev main_v196 : Ref sig .tc := ⟨.hbm, 240, rfl⟩
abbrev main_v197 : Ref sig .tc := ⟨.hbm, 241, rfl⟩
abbrev main_v198 : Ref sig .tc := ⟨.hbm, 242, rfl⟩
abbrev main_v199 : Ref sig .tc := ⟨.hbm, 243, rfl⟩
abbrev main_v200 : Ref sig .tc := ⟨.hbm, 244, rfl⟩
abbrev main_v201 : Ref sig .tc := ⟨.hbm, 245, rfl⟩
abbrev main_v202 : Ref sig .tc := ⟨.hbm, 246, rfl⟩
abbrev main_v203 : Ref sig .tc := ⟨.hbm, 247, rfl⟩
abbrev main_v204 : Ref sig .tc := ⟨.hbm, 248, rfl⟩
abbrev main_v205 : Ref sig .tc := ⟨.hbm, 249, rfl⟩
abbrev main_v206 : Ref sig .tc := ⟨.hbm, 250, rfl⟩
abbrev main_v207 : Ref sig .tc := ⟨.hbm, 251, rfl⟩
abbrev main_cst_21 : Ref sig .tc := ⟨.hbm, 252, rfl⟩
abbrev main_v208 : Ref sig .tc := ⟨.hbm, 253, rfl⟩
abbrev main_v209 : Ref sig .tc := ⟨.hbm, 254, rfl⟩
abbrev main_cst_22 : Ref sig .tc := ⟨.hbm, 255, rfl⟩
abbrev main_v210 : Ref sig .tc := ⟨.hbm, 256, rfl⟩
abbrev main_v211 : Ref sig .tc := ⟨.hbm, 257, rfl⟩
abbrev main_v212 : Ref sig .tc := ⟨.hbm, 258, rfl⟩
abbrev main_v213 : Ref sig .tc := ⟨.hbm, 259, rfl⟩

abbrev nD : Nat := 1
abbrev τ : Topo := Topo.v7x

variable {F : FTy → Type} [FloatOps F]
-- ==== Kernel4.lean ====
abbrev S8x4096x128 : Shape := ⟨3, ![8, 4096, 128]⟩
abbrev S1x32x64 : Shape := ⟨3, ![1, 32, 64]⟩
abbrev S1x2048x256 : Shape := ⟨3, ![1, 2048, 256]⟩
abbrev S1x256x64 : Shape := ⟨3, ![1, 256, 64]⟩
abbrev S32x64 : Shape := ⟨2, ![32, 64]⟩
abbrev S1x32x1x64 : Shape := ⟨4, ![1, 32, 1, 64]⟩
abbrev S1x32x2x64 : Shape := ⟨4, ![1, 32, 2, 64]⟩
abbrev S32x128 : Shape := ⟨2, ![32, 128]⟩
abbrev S2x2048 : Shape := ⟨2, ![2, 2048]⟩
abbrev S2048x256 : Shape := ⟨2, ![2048, 256]⟩
abbrev S32x64x256 : Shape := ⟨3, ![32, 64, 256]⟩
abbrev S_ : Shape := ⟨0, ![]⟩
abbrev S32x128x256 : Shape := ⟨3, ![32, 128, 256]⟩
abbrev S1x32x128x256 : Shape := ⟨4, ![1, 32, 128, 256]⟩
abbrev S2x32x128x256 : Shape := ⟨4, ![2, 32, 128, 256]⟩
abbrev S2x2x2048x256 : Shape := ⟨4, ![2, 2, 2048, 256]⟩
abbrev S256x64 : Shape := ⟨2, ![256, 64]⟩
abbrev S256x128 : Shape := ⟨2, ![256, 128]⟩
abbrev S1x256x128 : Shape := ⟨3, ![1, 256, 128]⟩
abbrev S2x256x128 : Shape := ⟨3, ![2, 256, 128]⟩
abbrev S64x256 : Shape := ⟨2, ![64, 256]⟩
abbrev S8x256x128 : Shape := ⟨3, ![8, 256, 128]⟩
abbrev S8x128x256 : Shape := ⟨3, ![8, 128, 256]⟩
abbrev S1x4096x128 : Shape := ⟨3, ![1, 4096, 128]⟩
abbrev S1x128x256 : Shape := ⟨3, ![1, 128, 256]⟩
abbrev S256x2048 : Shape := ⟨2, ![256, 2048]⟩
abbrev S1x2048 : Shape := ⟨2, ![1, 2048]⟩
abbrev S1x1x2048x256 : Shape := ⟨4, ![1, 1, 2048, 256]⟩
abbrev S256x256 : Shape := ⟨2, ![256, 256]⟩
abbrev S1x64x256 : Shape := ⟨3, ![1, 64, 256]⟩

abbrev nBuf : Space → Nat
  | .hbm => 60
  | .vmem => 14
  | .smem => 0
  | _ => 0

abbrev bufTy : (tb : Table) → Fin (tcTables nBuf tb) → BufTy
  | .hbm, ⟨0, _⟩ => ⟨S8x4096x128, .f32⟩
  | .hbm, ⟨1, _⟩ => ⟨S8x4096x128, .f32⟩
  | .hbm, ⟨2, _⟩ => ⟨S1x32x64, .f32⟩
  | .hbm, ⟨3, _⟩ => ⟨S1x32x64, .f32⟩
  | .hbm, ⟨4, _⟩ => ⟨S1x2048x256, .f32⟩
  | .hbm, ⟨5, _⟩ => ⟨S1x256x64, .f32⟩
  | .hbm, ⟨6, _⟩ => ⟨S1x2048x256, .f32⟩
  | .hbm, ⟨7, _⟩ => ⟨S1x256x64, .f32⟩
  | .hbm, ⟨8, _⟩ => ⟨S32x64, .f32⟩
  | .hbm, ⟨9, _⟩ => ⟨S1x32x1x64, .f32⟩
  | .hbm, ⟨10, _⟩ => ⟨S1x32x2x64, .f32⟩
  | .hbm, ⟨11, _⟩ => ⟨S32x128, .f32⟩
  | .hbm, ⟨12, _⟩ => ⟨S2x2048, .f32⟩
  | .hbm, ⟨13, _⟩ => ⟨S32x64, .f32⟩
  | .hbm, ⟨14, _⟩ => ⟨S1x32x1x64, .f32⟩
  | .hbm, ⟨15, _⟩ => ⟨S1x32x2x64, .f32⟩
  | .hbm, ⟨16, _⟩ => ⟨S32x128, .f32⟩
  | .hbm, ⟨17, _⟩ => ⟨S2x2048, .f32⟩
  | .hbm, ⟨18, _⟩ => ⟨S2048x256, .f32⟩
  | .hbm, ⟨19, _⟩ => ⟨S32x64x256, .f32⟩
  | .hbm, ⟨20, _⟩ => ⟨S_, .i32⟩
  | .hbm, ⟨21, _⟩ => ⟨S_, .f32⟩
  | .hbm, ⟨22, _⟩ => ⟨S32x128x256, .f32⟩
  | .hbm, ⟨23, _⟩ => ⟨S_, .i32⟩
  | .hbm, ⟨24, _⟩ => ⟨S_, .f32⟩
  | .hbm, ⟨25, _⟩ => ⟨S32x128x256, .f32⟩
  | .hbm, ⟨26, _⟩ => ⟨S1x32x128x256, .f32⟩
  | .hbm, ⟨27, _⟩ => ⟨S1x32x128x256, .f32⟩
  | .hbm, ⟨28, _⟩ => ⟨S2x32x128x256, .f32⟩
  | .hbm, ⟨29, _⟩ => ⟨S2x2x2048x256, .f32⟩
  | .hbm, ⟨30, _⟩ => ⟨S2x2x2048x256, .bf16⟩
  | .hbm, ⟨31, _⟩ => ⟨S2048x256, .f32⟩
  | .hbm, ⟨32, _⟩ => ⟨S32x64x256, .f32⟩
  | .hbm, ⟨33, _⟩ => ⟨S_, .i32⟩
  | .hbm, ⟨34, _⟩ => ⟨S_, .f32⟩
  | .hbm, ⟨35, _⟩ => ⟨S32x128x256, .f32⟩
  | .hbm, ⟨36, _⟩ => ⟨S_, .i32⟩
  | .hbm, ⟨37, _⟩ => ⟨S_, .f32⟩
  | .hbm, ⟨38, _⟩ => ⟨S32x128x256, .f32⟩
  | .hbm, ⟨39, _⟩ => ⟨S1x32x128x256, .f32⟩
  | .hbm, ⟨40, _⟩ => ⟨S1x32x128x256, .f32⟩
  | .hbm, ⟨41, _⟩ => ⟨S2x32x128x256, .f32⟩
  | .hbm, ⟨42, _⟩ => ⟨S2x2x2048x256, .f32⟩
  | .hbm, ⟨43, _⟩ => ⟨S2x2x2048x256, .bf16⟩
  | .hbm, ⟨44, _⟩ => ⟨S256x64, .f32⟩
  | .hbm, ⟨45, _⟩ => ⟨S_, .i32⟩
  | .hbm, ⟨46, _⟩ => ⟨S_, .f32⟩
  | .hbm, ⟨47, _⟩ => ⟨S256x128, .f32⟩
  | .hbm, ⟨48, _⟩ => ⟨S_, .i32⟩
  | .hbm, ⟨49, _⟩ => ⟨S_, .f32⟩
  | .hbm, ⟨50, _⟩ => ⟨S256x128, .f32⟩
  | .hbm, ⟨51, _⟩ => ⟨S1x256x128, .f32⟩
  | .hbm, ⟨52, _⟩ => ⟨S1x256x128, .f32⟩
  | .hbm, ⟨53, _⟩ => ⟨S2x256x128, .f32⟩
  | .hbm, ⟨54, _⟩ => ⟨S2x256x128, .bf16⟩
  | .hbm, ⟨55, _⟩ => ⟨S256x64, .f32⟩
  | .hbm, ⟨56, _⟩ => ⟨S64x256, .f32⟩
  | .hbm, ⟨57, _⟩ => ⟨S64x256, .bf16⟩
  | .hbm, ⟨58, _⟩ => ⟨S8x256x128, .bf16⟩
  | .hbm, ⟨59, _⟩ => ⟨S8x128x256, .bf16⟩
  | .local _ .vmem, ⟨0, _⟩ => ⟨S1x4096x128, .f32⟩
  | .local _ .vmem, ⟨1, _⟩ => ⟨S1x4096x128, .f32⟩
  | .local _ .vmem, ⟨2, _⟩ => ⟨S1x4096x128, .f32⟩
  | .local _ .vmem, ⟨3, _⟩ => ⟨S1x4096x128, .f32⟩
  | .local _ .vmem, ⟨4, _⟩ => ⟨S2x2048, .f32⟩
  | .local _ .vmem, ⟨5, _⟩ => ⟨S2x2048, .f32⟩
  | .local _ .vmem, ⟨6, _⟩ => ⟨S2x2x2048x256, .bf16⟩
  | .local _ .vmem, ⟨7, _⟩ => ⟨S2x2x2048x256, .bf16⟩
  | .local _ .vmem, ⟨8, _⟩ => ⟨S2x256x128, .bf16⟩
  | .local _ .vmem, ⟨9, _⟩ => ⟨S64x256, .bf16⟩
  | .local _ .vmem, ⟨10, _⟩ => ⟨S1x256x128, .bf16⟩
  | .local _ .vmem, ⟨11, _⟩ => ⟨S1x256x128, .bf16⟩
  | .local _ .vmem, ⟨12, _⟩ => ⟨S1x128x256, .bf16⟩
  | .local _ .vmem, ⟨13, _⟩ => ⟨S1x128x256, .bf16⟩
  | _, _ => ⟨S8x4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_c : Ref sig .tc := ⟨.hbm, 20, rfl⟩
abbrev main_call0_v0 : Ref sig .tc := ⟨.hbm, 21, rfl⟩
abbrev main_v12 : Ref sig .tc := ⟨.hbm, 22, rfl⟩
abbrev main_c_0 : Ref sig .tc := ⟨.hbm, 23, rfl⟩
abbrev main_call1_v0 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_c_1 : Ref sig .tc := ⟨.hbm, 33, rfl⟩
abbrev main_call2_v0 : Ref sig .tc := ⟨.hbm, 34, rfl⟩
abbrev main_v21 : Ref sig .tc := ⟨.hbm, 35, rfl⟩
abbrev main_c_2 : Ref sig .tc := ⟨.hbm, 36, rfl⟩
abbrev main_call3_v0 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_c_3 : Ref sig .tc := ⟨.hbm, 45, rfl⟩
abbrev main_call4_v0 : Ref sig .tc := ⟨.hbm, 46, rfl⟩
abbrev main_v29 : Ref sig .tc := ⟨.hbm, 47, rfl⟩
abbrev main_c_4 : Ref sig .tc := ⟨.hbm, 48, rfl⟩
abbrev main_call5_v0 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38_0 : Ref sig .tc := ⟨.hbm, 58, rfl⟩
abbrev main_v38_1 : Ref sig .tc := ⟨.hbm, 59, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_5 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x4096x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2x2x2048x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2x2x2048x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2x256x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S64x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1x256x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x128x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference4Ideal.lean ====
abbrev S8x4096x128 : Shape := ⟨3, ![8, 4096, 128]⟩
abbrev S1x32x64 : Shape := ⟨3, ![1, 32, 64]⟩
abbrev S1x2048x256 : Shape := ⟨3, ![1, 2048, 256]⟩
abbrev S1x256x64 : Shape := ⟨3, ![1, 256, 64]⟩
abbrev S255 : Shape := ⟨1, ![255]⟩
abbrev S255x1 : Shape := ⟨2, ![255, 1]⟩
abbrev S_ : Shape := ⟨0, ![]⟩
abbrev S32 : Shape := ⟨1, ![32]⟩
abbrev S1x32 : Shape := ⟨2, ![1, 32]⟩
abbrev S255x32 : Shape := ⟨2, ![255, 32]⟩
abbrev S32x64 : Shape := ⟨2, ![32, 64]⟩
abbrev S2048x256 : Shape := ⟨2, ![2048, 256]⟩
abbrev S256x64 : Shape := ⟨2, ![256, 64]⟩
abbrev S8x4096x2x64 : Shape := ⟨4, ![8, 4096, 2, 64]⟩
abbrev S255x32x1 : Shape := ⟨3, ![255, 32, 1]⟩
abbrev S8x255x32x2x64 : Shape := ⟨5, ![8, 255, 32, 2, 64]⟩
abbrev S1x1x32x1x64 : Shape := ⟨5, ![1, 1, 32, 1, 64]⟩
abbrev S8x255x2x32x64 : Shape := ⟨5, ![8, 255, 2, 32, 64]⟩
abbrev S8x255x2x2048 : Shape := ⟨4, ![8, 255, 2, 2048]⟩
abbrev S8x255x2x256 : Shape := ⟨4, ![8, 255, 2, 256]⟩
abbrev S8x255x2x64 : Shape := ⟨4, ![8, 255, 2, 64]⟩
abbrev S8x2x255x64 : Shape := ⟨4, ![8, 2, 255, 64]⟩
abbrev S8x255x128 : Shape := ⟨3, ![8, 255, 128]⟩
abbrev S8x2x64x255 : Shape := ⟨4, ![8, 2, 64, 255]⟩
abbrev S8x128x255 : Shape := ⟨3, ![8, 128, 255]⟩
abbrev S8x256x128 : Shape := ⟨3, ![8, 256, 128]⟩
abbrev S8x128x256 : Shape := ⟨3, ![8, 128, 256]⟩

abbrev nBuf : Space → Nat
  | .hbm => 106
  | .vmem => 0
  | .smem => 0
  | _ => 0

abbrev bufTy : (tb : Table) → Fin (tcTables nBuf tb) → BufTy
  | .hbm, ⟨0, _⟩ => ⟨S8x4096x128, .f32⟩
  | .hbm, ⟨1, _⟩ => ⟨S8x4096x128, .f32⟩
  | .hbm, ⟨2, _⟩ => ⟨S1x32x64, .f32⟩
  | .hbm, ⟨3, _⟩ => ⟨S1x32x64, .f32⟩
  | .hbm, ⟨4, _⟩ => ⟨S1x2048x256, .f32⟩
  | .hbm, ⟨5, _⟩ => ⟨S1x256x64, .f32⟩
  | .hbm, ⟨6, _⟩ => ⟨S1x2048x256, .f32⟩
  | .hbm, ⟨7, _⟩ => ⟨S1x256x64, .f32⟩
  | .hbm, ⟨8, _⟩ => ⟨S255, .i32⟩
  | .hbm, ⟨9, _⟩ => ⟨S255x1, .i32⟩
  | .hbm, ⟨10, _⟩ => ⟨S_, .i32⟩
  | .hbm, ⟨11, _⟩ => ⟨S255x1, .i32⟩
  | .hbm, ⟨12, _⟩ => ⟨S255x1, .i32⟩
  | .hbm, ⟨13, _⟩ => ⟨S32, .i32⟩
  | .hbm, ⟨14, _⟩ => ⟨S1x32, .i32⟩
  | .hbm, ⟨15, _⟩ => ⟨S255x32, .i32⟩
  | .hbm, ⟨16, _⟩ => ⟨S255x32, .i32⟩
  | .hbm, ⟨17, _⟩ => ⟨S255x32, .i32⟩
  | .hbm, ⟨18, _⟩ => ⟨S32x64, .f32⟩
  | .hbm, ⟨19, _⟩ => ⟨S2048x256, .f32⟩
  | .hbm, ⟨20, _⟩ => ⟨S256x64, .f32⟩
  | .hbm, ⟨21, _⟩ => ⟨S8x4096x2x64, .f32⟩
  | .hbm, ⟨22, _⟩ => ⟨S_, .i32⟩
  | .hbm, ⟨23, _⟩ => ⟨S255x32, .i32⟩
  | .hbm, ⟨24, _⟩ => ⟨S255x32, .i1⟩
  | .hbm, ⟨25, _⟩ => ⟨S_, .i32⟩
  | .hbm, ⟨26, _⟩ => ⟨S255x32, .i32⟩
  | .hbm, ⟨27, _⟩ => ⟨S255x32, .i32⟩
  | .hbm, ⟨28, _⟩ => ⟨S255x32, .i32⟩
  | .hbm, ⟨29, _⟩ => ⟨S255x32x1, .i32⟩
  | .hbm, ⟨30, _⟩ => ⟨S8x255x32x2x64, .f32⟩
  | .hbm, ⟨31, _⟩ => ⟨S1x1x32x1x64, .f32⟩
  | .hbm, ⟨32, _⟩ => ⟨S8x255x32x2x64, .f32⟩
  | .hbm, ⟨33, _⟩ => ⟨S8x255x32x2x64, .f32⟩
  | .hbm, ⟨34, _⟩ => ⟨S8x255x2x32x64, .f32⟩
  | .hbm, ⟨35, _⟩ => ⟨S8x255x2x2048, .f32⟩
  | .hbm, ⟨36, _⟩ => ⟨S8x255x2x256, .f32⟩
  | .hbm, ⟨37, _⟩ => ⟨S8x255x2x256, .f32⟩
  | .hbm, ⟨38, _⟩ => ⟨S8x255x2x256, .f32⟩
  | .hbm, ⟨39, _⟩ => ⟨S_, .f32⟩
  | .hbm, ⟨40, _⟩ => ⟨S8x255x2x256, .f32⟩
  | .hbm, ⟨41, _⟩ => ⟨S8x255x2x256, .f32⟩
  | .hbm, ⟨42, _⟩ => ⟨S8x255x2x256, .f32⟩
  | .hbm, ⟨43, _⟩ => ⟨S_, .f32⟩
  | .hbm, ⟨44, _⟩ => ⟨S8x255x2x256, .f32⟩
  | .hbm, ⟨45, _⟩ => ⟨S8x255x2x256, .f32⟩
  | .hbm, ⟨46, _⟩ => ⟨S8x255x2x256, .f32⟩
  | .hbm, ⟨47, _⟩ => ⟨S_, .f32⟩
  | .hbm, ⟨48, _⟩ => ⟨S8x255x2x256, .f32⟩
  | .hbm, ⟨49, _⟩ => ⟨S8x255x2x256, .f32⟩
  | .hbm, ⟨50, _⟩ => ⟨S_, .f32⟩
  | .hbm, ⟨51, _⟩ => ⟨S8x255x2x256, .f32⟩
  | .hbm, ⟨52, _⟩ => ⟨S8x255x2x256, .f32⟩
  | .hbm, ⟨53, _⟩ => ⟨S8x255x2x256, .f32⟩
  | .hbm, ⟨54, _⟩ => ⟨S8x255x2x64, .f32⟩
  | .hbm, ⟨55, _⟩ => ⟨S8x2x255x64, .f32⟩
  | .hbm, ⟨56, _⟩ => ⟨S32x64, .f32⟩
  | .hbm, ⟨57, _⟩ => ⟨S2048x256, .f32⟩
  | .hbm, ⟨58, _⟩ => ⟨S256x64, .f32⟩
  | .hbm, ⟨59, _⟩ => ⟨S8x4096x2x64, .f32⟩
  | .hbm, ⟨60, _⟩ => ⟨S_, .i32⟩
  | .hbm, ⟨61, _⟩ => ⟨S255x32, .i32⟩
  | .hbm, ⟨62, _⟩ => ⟨S255x32, .i1⟩
  | .hbm, ⟨63, _⟩ => ⟨S_, .i32⟩
  | .hbm, ⟨64, _⟩ => ⟨S255x32, .i32⟩
  | .hbm, ⟨65, _⟩ => ⟨S255x32, .i32⟩
  | .hbm, ⟨66, _⟩ => ⟨S255x32, .i32⟩
  | .hbm, ⟨67, _⟩ => ⟨S255x32x1, .i32⟩
  | .hbm, ⟨68, _⟩ => ⟨S8x255x32x2x64, .f32⟩
  | .hbm, ⟨69, _⟩ => ⟨S1x1x32x1x64, .f32⟩
  | .hbm, ⟨70, _⟩ => ⟨S8x255x32x2x64, .f32⟩
  | .hbm, ⟨71, _⟩ => ⟨S8x255x32x2x64, .f32⟩
  | .hbm, ⟨72, _⟩ => ⟨S8x255x2x32x64, .f32⟩
  | .hbm, ⟨73, _⟩ => ⟨S8x255x2x2048, .f32⟩
  | .hbm, ⟨74, _⟩ => ⟨S8x255x2x256, .f32⟩
  | .hbm, ⟨75, _⟩ => ⟨S8x255x2x256, .f32⟩
  | .hbm, ⟨76, _⟩ => ⟨S8x255x2x256, .f32⟩
  | .hbm, ⟨77, _⟩ => ⟨S_, .f32⟩
  | .hbm, ⟨78, _⟩ => ⟨S8x255x2x256, .f32⟩
  | .hbm, ⟨79, _⟩ => ⟨S8x255x2x256, .f32⟩
  | .hbm, ⟨80, _⟩ => ⟨S8x255x2x256, .f32⟩
  | .hbm, ⟨81, _⟩ => ⟨S_, .f32⟩
  | .hbm, ⟨82, _⟩ => ⟨S8x255x2x256, .f32⟩
  | .hbm, ⟨83, _⟩ => ⟨S8x255x2x256, .f32⟩
  | .hbm, ⟨84, _⟩ => ⟨S8x255x2x256, .f32⟩
  | .hbm, ⟨85, _⟩ => ⟨S_, .f32⟩
  | .hbm, ⟨86, _⟩ => ⟨S8x255x2x256, .f32⟩
  | .hbm, ⟨87, _⟩ => ⟨S8x255x2x256, .f32⟩
  | .hbm, ⟨88, _⟩ => ⟨S_, .f32⟩
  | .hbm, ⟨89, _⟩ => ⟨S8x255x2x256, .f32⟩
  | .hbm, ⟨90, _⟩ => ⟨S8x255x2x256, .f32⟩
  | .hbm, ⟨91, _⟩ => ⟨S8x255x2x256, .f32⟩
  | .hbm, ⟨92, _⟩ => ⟨S8x255x2x64, .f32⟩
  | .hbm, ⟨93, _⟩ => ⟨S8x2x255x64, .f32⟩
  | .hbm, ⟨94, _⟩ => ⟨S8x255x2x64, .f32⟩
  | .hbm, ⟨95, _⟩ => ⟨S8x255x128, .f32⟩
  | .hbm, ⟨96, _⟩ => ⟨S8x2x64x255, .f32⟩
  | .hbm, ⟨97, _⟩ => ⟨S8x128x255, .f32⟩
  | .hbm, ⟨98, _⟩ => ⟨S_, .i32⟩
  | .hbm, ⟨99, _⟩ => ⟨S_, .f32⟩
  | .hbm, ⟨100, _⟩ => ⟨S8x256x128, .f32⟩
  | .hbm, ⟨101, _⟩ => ⟨S8x256x128, .bf16⟩
  | .hbm, ⟨102, _⟩ => ⟨S_, .i32⟩
  | .hbm, ⟨103, _⟩ => ⟨S_, .f32⟩
  | .hbm, ⟨104, _⟩ => ⟨S8x128x256, .f32⟩
  | .hbm, ⟨105, _⟩ => ⟨S8x128x256, .bf16⟩
  | _, _ => ⟨S8x4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_c : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_c_0 : Ref sig .tc := ⟨.hbm, 22, rfl⟩
abbrev main_v13 : Ref sig .tc := ⟨.hbm, 23, rfl⟩
abbrev main_v14 : Ref sig .tc := ⟨.hbm, 24, rfl⟩
abbrev main_c_1 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_2 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_cst_3 : Ref sig .tc := ⟨.hbm, 47, rfl⟩
abbrev main_v34 : Ref sig .tc := ⟨.hbm, 48, rfl⟩
abbrev main_v35 : Ref sig .tc := ⟨.hbm, 49, rfl⟩
abbrev main_cst_4 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_c_5 : Ref sig .tc := ⟨.hbm, 60, rfl⟩
abbrev main_v45 : Ref sig .tc := ⟨.hbm, 61, rfl⟩
abbrev main_v46 : Ref sig .tc := ⟨.hbm, 62, rfl⟩
abbrev main_c_6 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_cst_7 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_cst_8 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_cst_9 : Ref sig .tc := ⟨.hbm, 85, rfl⟩
abbrev main_v66 : Ref sig .tc := ⟨.hbm, 86, rfl⟩
abbrev main_v67 : Ref sig .tc := ⟨.hbm, 87, rfl⟩
abbrev main_cst_10 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_c_11 : Ref sig .tc := ⟨.hbm, 98, rfl⟩
abbrev main_call0_v0 : Ref sig .tc := ⟨.hbm, 99, rfl⟩
abbrev main_v77 : Ref sig .tc := ⟨.hbm, 100, rfl⟩
abbrev main_v78 : Ref sig .tc := ⟨.hbm, 101, rfl⟩
abbrev main_c_12 : Ref sig .tc := ⟨.hbm, 102, rfl⟩
abbrev main_call1_v0 : Ref sig .tc := ⟨.hbm, 103, rfl⟩
abbrev main_v79 : Ref sig .tc := ⟨.hbm, 104, rfl⟩
abbrev main_v80 : Ref sig .tc := ⟨.hbm, 105, rfl⟩

abbrev nD : Nat := 1
abbrev τ : Topo := Topo.v7x

variable {F : FTy → Type} [FloatOps F]
-- ==== Proof.Hg.lean ====
/- The vocabulary of the HGRN2 kernel's body: one 64-row chunk at a time, the way the source writes it, and the chain of
   states that runs through the chunks of one grid point. -/
module

public import proofs.«01_k».proof.Proof.Gen.KernelIdeal.Value

@[expose] public section

noncomputable section

namespace Cert.KernelIdeal.Hg

open Cert.KernelIdeal Cert.KernelIdeal.Gen Idealize.ShloMosaic Idealize.ShloMosaic.TcCoe Idealize.SL.Sem

variable {F : FTy → Type} [FloatOps F]

/-! ## Where chunk `c` and head `h` lie -/

theorem rows_in (c : ℕ) : ∀ a, (![0, 64 * (c % 32), 0] : Fin 3 → Nat) a + S1x64x2048.size a ≤ S1x2048x2048.size a := by
  intro a; fin_cases a <;> simp [S1x64x2048, S1x2048x2048, Shape.size] <;> omega

theorem gate_in (c : ℕ) : ∀ a, (![0, 64 * (c % 32), 1536] : Fin 3 → Nat) a + S1x64x512.size a ≤ S1x2048x2048.size a := by
  intro a; fin_cases a <;> simp [S1x64x512, S1x2048x2048, Shape.size] <;> omega

theorem out_in (c h : ℕ) : ∀ a, (![0, 64 * (c % 32), 128 * (h % 4)] : Fin 3 → Nat) a + S1x64x128.size a ≤ S1x2048x512.size a := by
  intro a; fin_cases a <;> simp [S1x64x128, S1x2048x512, Shape.size] <;> omega

theorem st_in (h : ℕ) : ∀ a, (![h % 4, 0, 0] : Fin 3 → Nat) a + S1x128x128.size a ≤ S4x128x128.size a := by
  intro a; fin_cases a <;> simp [S1x128x128, S4x128x128, Shape.size] <;> omega

theorem head_slices (h : ℕ) : S64x512.Slices ![0, 128 * (h % 4)] S64x128 := by
  refine ⟨rfl, fun a => ?_⟩
  fin_cases a <;> simp [S64x128, S64x512, Shape.size] <;> omega

theorem head_slices1 (h : ℕ) : S1x512.Slices ![0, 128 * (h % 4)] S1x128 := by
  refine ⟨rfl, fun a => ?_⟩
  fin_cases a <;> simp [S1x128, S1x512, Shape.size] <;> omega

/-! ## One chunk -/

/-- The lower bound of the forget gate: the first row of the softmax over the two rows of the parameter. -/
def lower (x1 : Vec F S2x512 .f32) : FVec F S1x512 .f32 :=
  let e := exp (subf x1 (broadcastTo S2x512 (shapeCast S1x512 (multiReduction .maximumf [0] S512 x1 0xFF800000#32 reduces_S2x512_S512 (.inl rfl) rfl) shapeCasts_S512_S1x512) broadcasts_S1x512_S2x512))
  divf (extractStridedSlice S1x512 ![0, 0] e slices_S2x512_o0_0_S1x512)
    (shapeCast S1x512 (multiReduction .add [0] S512 e 0x00000000#32 reduces_S2x512_S512 (.inl rfl) rfl) shapeCasts_S512_S1x512)

/-- Row at or after column. -/
def causal : IVec S64x64 1 := cmpi .sge (iota .tc S64x64 32 [0] iota_S64x64_d0_w32) (iota .tc S64x64 32 [1] iota_S64x64_d1_w32)

/-- The lower triangle of ones. -/
def tri : FVec F S64x64 .bf16 :=
  truncf .bf16 (select causal (broadcast S64x64 (Scalar.ofBits .f32 0x3F800000#32)) (broadcast S64x64 (Scalar.ofBits .f32 0x00000000#32))) bitsLt_bf16_f32

/-- The forget gate of a chunk. -/
def gate (lb : FVec F S1x512 .f32) (blk : FVec F S64x2048 .bf16) : FVec F S64x512 .f32 :=
  addf (broadcastTo S64x512 lb broadcasts_S1x512_S64x512)
    (mulf (broadcastTo S64x512 (subf (broadcast S1x512 (Scalar.ofBits .f32 0x3F800000#32)) lb) broadcasts_S1x512_S64x512)
      (logistic (extf .f32 (extractStridedSlice S64x512 ![0, 512] blk slices_S64x2048_o0_512_S64x512) bitsLt_bf16_f32)))

/-- The running sums of a chunk's logarithms, made of three triangular products. -/
def sums (lf : FVec F S64x512 .f32) : FVec F S64x512 .f32 :=
  let hi := truncf .bf16 lf bitsLt_bf16_f32
  let r := subf lf (extf .f32 hi bitsLt_bf16_f32)
  let mid := truncf .bf16 r bitsLt_bf16_f32
  let lo := truncf .bf16 (subf r (extf .f32 mid bitsLt_bf16_f32)) bitsLt_bf16_f32
  addf (addf (matmul dot_S64x64_S64x512_S64x512_1_0_0_1_n_n none tri hi (constant S64x512 .f32 0x00000000#32))
      (matmul dot_S64x64_S64x512_S64x512_1_0_0_1_n_n none tri mid (constant S64x512 .f32 0x00000000#32)))
    (matmul dot_S64x64_S64x512_S64x512_1_0_0_1_n_n none tri lo (constant S64x512 .f32 0x00000000#32))

/-- What a chunk hands on: the decay of the state over the chunk, the queries, the keys, the keys carried to the chunk's
    end, and the values. -/
structure Ch (F : FTy → Type) [FloatOps F] where
  dec : FVec F S1x512 .f32
  q : FVec F S64x512 .bf16
  k : FVec F S64x512 .bf16
  kt : FVec F S64x512 .bf16
  v : FVec F S64x512 .bf16

/-- The decay over the chunk: the exponential of the last running sum. -/
def decOf (b : FVec F S64x512 .f32) : FVec F S1x512 .f32 :=
  exp (extractStridedSlice S1x512 ![63, 0] b slices_S64x512_o63_0_S1x512)

/-- The keys, each divided by its running product of gates. -/
def keyOf (f b : FVec F S64x512 .f32) : FVec F S64x512 .f32 :=
  mulf (subf (broadcast S64x512 (Scalar.ofBits .f32 0x3F800000#32)) f)
    (exp (subf (broadcast S64x512 (Scalar.ofBits .f32 0x00000000#32)) b))

def chunk (f b : FVec F S64x512 .f32) (blk : FVec F S64x2048 .bf16) : Ch F where
  dec := decOf b
  q := truncf .bf16 (mulf (extf .f32 (extractStridedSlice S64x512 ![0, 0] blk slices_S64x2048_o0_0_S64x512) bitsLt_bf16_f32) (exp b)) bitsLt_bf16_f32
  k := truncf .bf16 (keyOf f b) bitsLt_bf16_f32
  kt := truncf .bf16 (mulf (keyOf f b) (broadcastTo S64x512 (decOf b) broadcasts_S1x512_S64x512)) bitsLt_bf16_f32
  v := extractStridedSlice S64x512 ![0, 1024] blk slices_S64x2048_o0_1024_S64x512

/-- The chunk of a block of the projected columns. -/
def chunkOf (lb : FVec F S1x512 .f32) (blk : FVec F S64x2048 .bf16) : Ch F :=
  chunk (gate lb blk) (sums (log (gate lb blk))) blk

/-- Head `h` of a chunk's rows. -/
def hd {e : FTy} (h : ℕ) (x : FVec F S64x512 e) : FVec F S64x128 e :=
  extractStridedSlice S64x128 ![0, 128 * (h % 4)] x (head_slices h)

/-- The products of queries with the keys at or before them. -/
def attn (ch : Ch F) (h : ℕ) : FVec F S64x64 .bf16 :=
  truncf .bf16 (select causal (matmul dot_S64x128_S64x128_S64x64_1_1_0_0_n_n none (hd h ch.q) (hd h ch.k) (constant S64x64 .f32 0x00000000#32))
    (broadcast S64x64 (Scalar.ofBits .f32 0x00000000#32))) bitsLt_bf16_f32

/-- What the chunk's own rows give. -/
def intra (ch : Ch F) (h : ℕ) : FVec F S64x128 .f32 :=
  matmul dot_S64x64_S64x128_S64x128_1_0_0_1_n_n none (attn ch h) (hd h ch.v) (constant S64x128 .f32 0x00000000#32)

/-- What the chunk adds to the (transposed) state. -/
def added (ch : Ch F) (h : ℕ) : FVec F S128x128 .f32 :=
  matmul dot_S64x128_S64x128_S128x128_0_0_1_1_n_n none (hd h ch.v) (hd h ch.kt) (constant S128x128 .f32 0x00000000#32)

/-- The state after the chunk. -/
def nextSt (ch : Ch F) (h : ℕ) (st : FVec F S128x128 .f32) : FVec F S128x128 .f32 :=
  addf (mulf st (broadcastTo S128x128 (extractStridedSlice S1x128 ![0, 128 * (h % 4)] ch.dec (head_slices1 h)) broadcasts_S1x128_S128x128)) (added ch h)

/-- The chunk's output before the normalisation. -/
def mixed (ch : Ch F) (h : ℕ) (st : FVec F S128x128 .f32) : FVec F S64x128 .f32 :=
  addf (intra ch h) (matmul dot_S64x128_S128x128_S64x128_1_1_0_0_n_n none (hd h ch.q) (truncf .bf16 st bitsLt_bf16_f32) (constant S64x128 .f32 0x00000000#32))

/-- The root mean square normalisation of the rows. -/
def rms (o : FVec F S64x128 .f32) (ng : Vec F S1x128 .f32) : FVec F S64x128 .f32 :=
  mulf (mulf o (broadcastTo S64x128 (rsqrt (addf (divf (shapeCast S64x1 (multiReduction .add [1] S64 (mulf o o) 0x00000000#32 reduces_S64x128_S64 (.inl rfl) rfl) shapeCasts_S64_S64x1)
      (broadcast S64x1 (Scalar.ofBits .f32 0x43000000#32))) (broadcast S64x1 (Scalar.ofBits .f32 0x358637BD#32)))) broadcasts_S64x1_S64x128))
    (broadcastTo S64x128 ng broadcasts_S1x128_S64x128)

/-- The rows a chunk writes for a head: normalised and gated. -/
def rows (ch : Ch F) (g : FVec F S64x512 .bf16) (ng : Vec F S1x128 .f32) (h : ℕ) (st : FVec F S128x128 .f32) : FVec F S1x64x128 .bf16 :=
  shapeCast S1x64x128 (truncf .bf16 (mulf (rms (mixed ch h st) ng) (mulf (hd h (extf .f32 g bitsLt_bf16_f32)) (logistic (hd h (extf .f32 g bitsLt_bf16_f32))))) bitsLt_bf16_f32) shapeCasts_S64x128_S1x64x128

/-! ## The chunks of a grid point -/

/-- The state of head `h` before chunk `n`. -/
def st (ch : ℕ → Ch F) (s0 : ℕ → FVec F S128x128 .f32) (h : ℕ) : ℕ → FVec F S128x128 .f32
  | 0 => s0 h
  | n + 1 => nextSt (ch n) h (st ch s0 h n)

/-- The writes of one head of one chunk. -/
def piece (ch : ℕ → Ch F) (g : ℕ → FVec F S64x512 .bf16) (ng : Vec F S1x128 .f32) (s0 : ℕ → FVec F S128x128 .f32) (c h : ℕ) :
    View.Piece (Elt F) S1x2048x512 .bf16 :=
  ⟨Rect.unit ![0, 64 * (c % 32), 128 * (h % 4)] S1x64x128.size (out_in c h), rows (ch c) (g c) ng h (st ch s0 h c)⟩

/-- The writes of the first `n` chunks, the last first. -/
def pieces (ch : ℕ → Ch F) (g : ℕ → FVec F S64x512 .bf16) (ng : Vec F S1x128 .f32) (s0 : ℕ → FVec F S128x128 .f32) :
    ℕ → List (View.Piece (Elt F) S1x2048x512 .bf16)
  | 0 => []
  | n + 1 => piece ch g ng s0 n 3 :: piece ch g ng s0 n 2 :: piece ch g ng s0 n 1 :: piece ch g ng s0 n 0 :: pieces ch g ng s0 n

/-- The writes of the states after the last chunk. -/
def stPiece (ch : ℕ → Ch F) (s0 : ℕ → FVec F S128x128 .f32) (h : ℕ) : View.Piece (Elt F) S4x128x128 .f32 :=
  ⟨Rect.unit ![h % 4, 0, 0] S1x128x128.size (st_in h), shapeCast S1x128x128 (st ch s0 h 32) shapeCasts_S128x128_S1x128x128⟩

section Reads

variable (a2 : Memref sig .tc .vmem S1x2048x2048 .bf16) (h2 : a2.IsWhole) (x0 : Vec F S1x2048x2048 .bf16)

/-- The block of chunk `c`, as the body reads it. -/
def blkAt (c : ℕ) : FVec F S64x2048 .bf16 :=
  shapeCast S64x2048 (View.readAt (Elt F) a2.view (Rect.unit (s := S1x2048x2048) ![0, 64 * (c % 32), 0] S1x64x2048.size (rows_in c)).toLoadRect (h2.unread x0)) shapeCasts_S1x64x2048_S64x2048

/-- The output gate's columns of chunk `c`. -/
def gAt (c : ℕ) : FVec F S64x512 .bf16 :=
  shapeCast S64x512 (View.readAt (Elt F) a2.view (Rect.unit (s := S1x2048x2048) ![0, 64 * (c % 32), 1536] S1x64x512.size (gate_in c)).toLoadRect (h2.unread x0)) shapeCasts_S1x64x512_S64x512

end Reads

end Cert.KernelIdeal.Hg

end
-- ==== Proof.HgRun.lean ====
/- What the body reads of its arguments, named chunk by chunk. -/
module

public import proofs.«01_k».proof.Proof.Hg

@[expose] public section

noncomputable section

namespace Cert.KernelIdeal.Hg

open Cert.KernelIdeal Cert.KernelIdeal.Gen Idealize.ShloMosaic Idealize.ShloMosaic.TcCoe Idealize.SL.Sem

variable {F : FTy → Type} [FloatOps F]

variable (c : Dev nD) (i : grid0.Coords) (a2 : Memref sig .tc .vmem S1x2048x2048 .bf16) (h2 : a2.IsWhole) (a3 : Memref sig .tc .vmem S2x512 .f32) (h3 : a3.IsWhole) (a4 : Memref sig .tc .vmem S1x128 .f32) (h4 : a4.IsWhole) (a5 : Memref sig .tc .vmem S1x2048x512 .bf16) (h5 : a5.IsWhole) (a6 : Memref sig .tc .vmem S4x128x128 .f32) (h6 : a6.IsWhole)
   (x0 : Vec F S1x2048x2048 .bf16) (x1 : Vec F S2x512 .f32) (x2 : Vec F S1x128 .f32) (xs0 : Vec F S4x128x128 .f32)

/-- The chunks of the block as the body reads it. -/
def chAt (n : ℕ) : Ch F :=
  chunkOf (lower (View.readAt (Elt F) a3.view (Rect.unit (s := S2x512) ![0, 0] S2x512.size inb_S2x512_S2x512_0_0).toLoadRect (h3.unread x1)))
    (blkAt a2 h2 x0 n)

/-- The scale of the normalisation as the body reads it. -/
def ngAt : Vec F S1x128 .f32 :=
  View.readAt (Elt F) a4.view (Rect.unit (s := S1x128) ![0, 0] S1x128.size inb_S1x128_S1x128_0_0).toLoadRect (h4.unread x2)

/-- The states as the body reads them where it goes on from the point before. -/
def stB (h : ℕ) : FVec F S128x128 .f32 :=
  shapeCast S128x128 (View.readAt (Elt F) a6.view (Rect.unit (s := S4x128x128) ![h % 4, 0, 0] S1x128x128.size (st_in h)).toLoadRect (h6.unread xs0)) shapeCasts_S1x128x128_S128x128

/-- The write that clears the carried states. -/
def cleared : List (View.Piece (Elt F) S4x128x128 .f32) :=
  [⟨Rect.unit ![0, 0, 0] S4x128x128.size inb_S4x128x128_S4x128x128_0_0_0, k0_pay3⟩]

/-- The states as the body reads them where it has just cleared them. -/
def stA (h : ℕ) : FVec F S128x128 .f32 :=
  shapeCast S128x128 (a6.view.readCov (cleared (F := F)) (Rect.unit (s := S4x128x128) ![h % 4, 0, 0] S1x128x128.size (st_in h)).toLoadRect) shapeCasts_S1x128x128_S128x128

end Cert.KernelIdeal.Hg

end
-- ==== Proof.HgMath.lean ====
/- Facts about extended reals. -/
module

public import Idealize.ShloMosaic.Lib.Pointwise

@[expose] public section

/-! # Extended-real facts the gated recurrence rests on

The decay logarithms of the recurrence are never `⊤`, so the three-way split of a logarithm adds
back to it, and a decay over a part of a chunk is the quotient of two decays from its start. -/

open Idealize.ShloMosaic
open scoped BigOperators

namespace Cert.Hg

/-- A quotient of `a` by `a + b`, both at least zero, is below `⊤`. -/
theorem share_ne_top {a b : EReal} (ha : 0 ≤ a) (hb : 0 ≤ b) : Ideal.div a (a + b) ≠ ⊤ := by
  unfold Ideal.div
  have hab : a ≤ a + b := le_add_of_nonneg_right hb
  split_ifs with h0 h1
  · exact absurd (lt_of_lt_of_le h1 (h0 ▸ hab)) (lt_irrefl _)
  · exact bot_ne_top
  · rcases eq_or_ne (a + b) ⊤ with ht | ht
    · rw [ht]; simp
    · have hat : a ≠ ⊤ := fun h => ht (top_le_iff.1 (h ▸ hab))
      have hab0 : a + b ≠ ⊥ := fun h => by
        have := le_trans ha hab; rw [h] at this; exact absurd this (by simp)
      have ha0 : a ≠ ⊥ := fun h => by rw [h] at ha; exact absurd ha (by simp)
      lift a to ℝ using ⟨hat, ha0⟩
      generalize (a : EReal) + b = y at *
      lift y to ℝ using ⟨ht, hab0⟩
      rw [← EReal.coe_inv, ← EReal.coe_mul]
      exact EReal.coe_ne_top _

theorem exp_bot : Ideal.exp ⊥ = 0 := rfl

theorem exp_top : Ideal.exp ⊤ = ⊤ := rfl

/-- An exponential is at least zero. -/
theorem exp_nonneg (x : EReal) : 0 ≤ Ideal.exp x := by
  induction x using EReal.rec with
  | bot => exact le_refl _
  | top => exact le_top
  | coe r => exact EReal.coe_nonneg.2 (Real.exp_pos r).le

/-- The logistic of anything is a real number. -/
theorem logistic_real (x : EReal) : ∃ r : ℝ, Ideal.logistic x = r := by
  induction x using EReal.rec with
  | bot =>
    refine ⟨0, ?_⟩
    have h : (1 : EReal) + ⊤ = ⊤ := rfl
    simp [Ideal.logistic, exp_top, Ideal.div, h]
  | top => exact ⟨1, by simp [Ideal.logistic, exp_bot, exp_top, Ideal.div]⟩
  | coe r =>
    refine ⟨1 * (1 + Real.exp (-r))⁻¹, ?_⟩
    have hp : (1 + Real.exp (-r)) ≠ 0 := by positivity
    have he : (1 : EReal) + Ideal.exp (-(r : EReal)) = ((1 + Real.exp (-r) : ℝ) : EReal) := by
      rw [← EReal.coe_neg]; rfl
    unfold Ideal.logistic Ideal.div
    rw [he, if_neg (by exact_mod_cast hp), EReal.coe_mul, EReal.coe_inv]
    rfl

/-- The forget gate `l + (1 - l) · σ(x)` is below `⊤` when `l` is. -/
theorem forget_ne_top {l : EReal} (hl : l ≠ ⊤) (x : EReal) :
    l + (1 - l) * Ideal.logistic x ≠ ⊤ := by
  obtain ⟨r, hr⟩ := logistic_real x
  rw [hr]
  induction l using EReal.rec with
  | bot => simp
  | top => exact absurd rfl hl
  | coe a =>
    have : ((a : EReal) + (1 - (a : EReal)) * (r : EReal)) = ((a + (1 - a) * r : ℝ) : EReal) := by
      push_cast; rfl
    rw [this]; exact EReal.coe_ne_top _

/-- A logarithm is `⊤` at `⊤` alone. -/
theorem log_ne_top {x : EReal} (hx : x ≠ ⊤) : Ideal.log x ≠ ⊤ := by
  induction x using EReal.rec with
  | bot => exact bot_ne_top
  | top => exact absurd rfl hx
  | coe r =>
    show (if r ≤ 0 then (⊥ : EReal) else (Real.log r : EReal)) ≠ ⊤
    split_ifs
    · exact bot_ne_top
    · exact EReal.coe_ne_top _

/-- The three parts `a`, `a - a` and `(a - a) - (a - a)` of a value below `⊤` add to it. -/
theorem parts {a : EReal} (ha : a ≠ ⊤) : a + (a - a) + ((a - a) - (a - a)) = a := by
  induction a using EReal.rec with
  | bot => simp
  | top => exact absurd rfl ha
  | coe r => norm_cast; simp

/-- A finite sum of values below `⊤` is below `⊤`. -/
theorem sum_ne_top {ι : Type*} (s : Finset ι) (g : ι → EReal) (hg : ∀ i, g i ≠ ⊤) :
    ∑ i ∈ s, g i ≠ ⊤ := by
  classical
  induction s using Finset.induction_on with
  | empty => simp
  | insert a s ha ih => rw [Finset.sum_insert ha]; exact EReal.add_ne_top (hg a) ih

/-- A finite sum is `⊥` where one of its terms is. -/
theorem sum_eq_bot {ι : Type*} (s : Finset ι) (g : ι → EReal) {i : ι} (hi : i ∈ s)
    (hb : g i = ⊥) : ∑ i ∈ s, g i = ⊥ := by
  classical
  rw [← Finset.add_sum_erase s g hi, hb, EReal.bot_add]

/-- A finite sum is `⊥` at some term's being `⊥` alone. -/
theorem bot_of_sum {ι : Type*} (s : Finset ι) (g : ι → EReal) (h : ∑ i ∈ s, g i = ⊥) :
    ∃ i ∈ s, g i = ⊥ := by
  classical
  induction s using Finset.induction_on with
  | empty => simp at h
  | insert a s ha ih =>
    rw [Finset.sum_insert ha, EReal.add_eq_bot_iff] at h
    rcases h with h | h
    · exact ⟨a, Finset.mem_insert_self _ _, h⟩
    · obtain ⟨i, hi, hb⟩ := ih h
      exact ⟨i, Finset.mem_insert_of_mem hi, hb⟩

/-- The sum of the entries of `g` up to place `s`. -/
noncomputable def upto (g : Fin 64 → EReal) (s : ℕ) : EReal := ∑ j, if j.val ≤ s then g j else 0

/-- A sum of entries below `⊤` is below `⊤`. -/
theorem upto_ne_top {g : Fin 64 → EReal} (hg : ∀ j, g j ≠ ⊤) (s : ℕ) : upto g s ≠ ⊤ :=
  sum_ne_top _ _ fun j => by split_ifs <;> simp [hg]

/-- Where a shorter sum is `⊥` the longer one is. -/
theorem upto_bot {g : Fin 64 → EReal} {s u : ℕ} (hsu : s ≤ u) (h : upto g s = ⊥) :
    upto g u = ⊥ := by
  obtain ⟨i, hi, hb⟩ := bot_of_sum _ _ h
  have his : i.val ≤ s := by
    by_contra hc
    simp [hc] at hb
  rw [if_pos his] at hb
  exact sum_eq_bot _ _ hi (by rw [if_pos (his.trans hsu)]; exact hb)

/-- The sums of the three parts add to the sum. -/
theorem upto_parts {g : Fin 64 → EReal} (hg : ∀ j, g j ≠ ⊤) (s : ℕ) :
    upto g s + upto (fun j => g j - g j) s + upto (fun j => (g j - g j) - (g j - g j)) s
      = upto g s := by
  unfold upto
  rw [← Finset.sum_add_distrib, ← Finset.sum_add_distrib]
  refine Finset.sum_congr rfl fun j _ => ?_
  split_ifs
  · exact parts (hg j)
  · simp

/-- The quotient of two decays is the decay of the difference of their logarithms. -/
theorem exp_sub {b c : EReal} (hb : b ≠ ⊤) (hc : c ≠ ⊤) (h : b = ⊥ → c = ⊥) :
    Ideal.exp (-b) * Ideal.exp c = Ideal.exp (c - b) := by
  induction b using EReal.rec with
  | top => exact absurd rfl hb
  | bot =>
    rw [h rfl]
    show (⊤ : EReal) * 0 = 0
    simp
  | coe r =>
    induction c using EReal.rec with
    | top => exact absurd rfl hc
    | bot =>
      rw [EReal.bot_sub]
      show _ * (0 : EReal) = 0
      simp
    | coe q =>
      rw [← EReal.coe_neg, ← EReal.coe_sub]
      show (Real.exp (-r) : EReal) * (Real.exp q : EReal) = (Real.exp (q - r) : EReal)
      rw [← EReal.coe_mul, ← Real.exp_add]
      congr 2; ring

end Cert.Hg

end
-- ==== Proof.HgSpec.lean ====
/- The gated recurrence of one sequence, in plain extended reals: positions and columns are numbers. -/
module

public import proofs.«01_k».proof.Proof.HgMath

@[expose] public section

noncomputable section

open Idealize.ShloMosaic
open scoped BigOperators

namespace Cert.Hg

/-- The lower bound of the forget gate, from the two rows of the parameter at a column. -/
def low (a b : EReal) : EReal :=
  let m := max a (max b (Ideal.ofBits .f32 0xFF800000#32))
  Ideal.div (Ideal.exp (a - m)) (Ideal.exp (a - m) + Ideal.exp (b - m))

/-- The largest of two from a start. -/
theorem fold_max_two (m : EReal) (g : Fin 2 → EReal) : Finset.univ.fold max m g = max (g 0) (max (g 1) m) := by
  rw [show (Finset.univ : Finset (Fin 2)) = {0, 1} from rfl, Finset.fold_insert (by simp), Finset.fold_singleton]

theorem low_ne_top (a b : EReal) : low a b ≠ ⊤ := share_ne_top (exp_nonneg _) (exp_nonneg _)

/-- One sequence: the projected columns `X t c`, the lower bounds `l k`, the scale `w v` of the normalisation, and the
    two constants of the normalisation (the head width and the offset under the root). -/
structure Seq where
  X : ℕ → ℕ → EReal
  l : ℕ → EReal
  w : ℕ → EReal

namespace Seq

variable (P : Seq)

/-- The forget gate of row `s` of chunk `n`. -/
def f (n s k : ℕ) : EReal := P.l k + (1 - P.l k) * Ideal.logistic (P.X (64 * n + s) (512 + k))

/-- The running sum of the gate's logarithms within the chunk. -/
def B (n s k : ℕ) : EReal := upto (fun j => Ideal.log (P.f n j k)) s

/-- The queries carried to the chunk's start. -/
def Q (n s k : ℕ) : EReal := P.X (64 * n + s) k * Ideal.exp (P.B n s k)

/-- The keys carried to the chunk's start. -/
def K (n s k : ℕ) : EReal := (1 - P.f n s k) * Ideal.exp (-P.B n s k)

/-- The keys carried to the chunk's end. -/
def Kt (n s k : ℕ) : EReal := (1 - P.f n s k) * Ideal.exp (P.B n 63 k - P.B n s k)

/-- The value entering at row `s`. -/
def V (n s v : ℕ) : EReal := P.X (64 * n + s) (1024 + v)

/-- Query `s` against key `t`, of head `h`. -/
def A (n h s t : ℕ) : EReal := if t ≤ s then ∑ k : Fin 128, P.Q n s (128 * h + k) * P.K n t (128 * h + k) else 0

/-- The state of head `h` before chunk `n`. -/
def S (h : ℕ) : ℕ → ℕ → ℕ → EReal
  | 0, _, _ => 0
  | n + 1, k, v => S h n k v * Ideal.exp (P.B n 63 (128 * h + k)) +
      ∑ t : Fin 64, P.V n t (128 * h + v) * P.Kt n t (128 * h + k)

/-- What row `s` of chunk `n` reads, before the normalisation. -/
def O (h n s v : ℕ) : EReal :=
  (∑ t : Fin 64, P.A n h s t * P.V n t (128 * h + v)) + ∑ k : Fin 128, P.Q n s (128 * h + k) * P.S h n k v

/-- The layer's result at row `s` of chunk `n`: normalised, scaled and gated. -/
def Y (h n s v : ℕ) : EReal :=
  P.O h n s v * Ideal.rsqrt (Ideal.div (∑ u : Fin 128, P.O h n s u * P.O h n s u) (Ideal.ofBits .f32 0x43000000#32)
      + Ideal.ofBits .f32 0x358637BD#32) * P.w v
    * (P.X (64 * n + s) (1536 + 128 * h + v) * Ideal.logistic (P.X (64 * n + s) (1536 + 128 * h + v)))

variable {P}

theorem log_f_ne_top (hl : ∀ k, P.l k ≠ ⊤) (n s k : ℕ) : Ideal.log (P.f n s k) ≠ ⊤ :=
  log_ne_top (forget_ne_top (hl k) _)

/-- The keys carried to the chunk's end are the keys carried to its start times the chunk's decay. -/
theorem kt_eq (hl : ∀ k, P.l k ≠ ⊤) (n s k : ℕ) (hs : s < 64) : P.K n s k * Ideal.exp (P.B n 63 k) = P.Kt n s k := by
  unfold K Kt
  have hB : ∀ u, P.B n u k ≠ ⊤ := fun u => upto_ne_top (fun _ => log_f_ne_top hl _ _ _) u
  rw [mul_assoc, exp_sub (hB s) (hB 63) (fun h => upto_bot (by omega) h)]

end Seq

end Cert.Hg

end
-- ==== Proof.HgKer.lean ====
/- The kernel's chunk, read at an index over the extended reals: each of its parts is the recurrence's. -/
module

public import proofs.«01_k».proof.Proof.HgRun
public import proofs.«01_k».proof.Proof.HgSpec

@[expose] public section

set_option maxRecDepth 16384

noncomputable section

namespace Cert.KernelIdeal.Hg

open Cert.Hg Cert.KernelIdeal Cert.KernelIdeal.Gen Idealize.ShloMosaic Idealize.ShloMosaic.TcCoe Idealize.SL.Sem
open scoped BigOperators

variable (P : Seq) (n : ℕ)

/-- Head `h` of the rows at a column. -/
theorem hd_apply {e : FTy} (h : ℕ) (hh : h < 4) (x : FVec Ideal S64x512 e) (r : Fin 64) (k : Fin 128) :
    hd h x (ix2 r k) = x (ix2 r ⟨128 * h + k, by omega⟩) := by
  unfold hd extractStridedSlice
  congr 1
  funext a
  fin_cases a <;> apply Fin.ext <;> simp [ix2, Nat.mod_eq_of_lt hh]

theorem dec_hd_apply (h : ℕ) (hh : h < 4) (x : FVec Ideal S1x512 .f32) (r : Fin 1) (k : Fin 128) :
    extractStridedSlice S1x128 ![0, 128 * (h % 4)] x (head_slices1 h) (ix2 r k) = x (ix2 0 ⟨128 * h + k, by omega⟩) := by
  unfold extractStridedSlice
  congr 1
  funext a
  fin_cases a <;> apply Fin.ext <;> simp [ix2, Nat.mod_eq_of_lt hh]

theorem causal_apply (s t : Fin 64) : causal (ix2 s t) = if t.val ≤ s.val then 1#1 else 0#1 := by
  revert s t
  decide +kernel

/-- The triangle of ones. -/
theorem tri_apply (s t : Fin 64) : tri (F := Ideal) (ix2 s t) = if t.val ≤ s.val then (1 : EReal) else 0 := by
  unfold tri
  pointwise
  rw [causal_apply]
  split_ifs
  · rfl
  · rfl

/-- The lower bound of the gate. -/
theorem lower_apply (x1 : Vec Ideal S2x512 .f32) (k : Fin 512) :
    lower x1 (ix2 0 k) = low (x1 (ix2 0 k)) (x1 (ix2 1 k)) := by
  pointwise [lower, low, fold_max_two, Fin.sum_univ_two]

variable {P n}

theorem gate_apply {lb : FVec Ideal S1x512 .f32} {blk : FVec Ideal S64x2048 .bf16}
    (hl : ∀ k : Fin 512, lb (ix2 0 k) = P.l k) (hb : ∀ (r : Fin 64) (c : Fin 2048), blk (ix2 r c) = P.X (64 * n + r) c)
    (s : Fin 64) (k : Fin 512) : gate lb blk (ix2 s k) = P.f n s k := by
  pointwise [gate, Seq.f, hl, hb, Ideal.ofBits_one_f32]

/-- The three triangular products make the running sums. -/
theorem sums_apply {lf : FVec Ideal S64x512 .f32} (hlf : ∀ i, lf i ≠ (⊤ : EReal)) (s : Fin 64) (k : Fin 512) :
    sums lf (ix2 s k) = upto (fun j => lf (ix2 j k)) s := by
  rw [← upto_parts (fun j => hlf (ix2 j k))]
  pointwise [sums, tri_apply, upto, ite_mul, one_mul, zero_mul]

variable {blk : FVec Ideal S64x2048 .bf16} {lb : FVec Ideal S1x512 .f32}

/-- A chunk `ch` is chunk `n` of the sequence. -/
structure Is (P : Seq) (n : ℕ) (ch : Ch Ideal) : Prop where
  dec : ∀ k : Fin 512, ch.dec (ix2 0 k) = Ideal.exp (P.B n 63 k)
  q : ∀ (s : Fin 64) (k : Fin 512), ch.q (ix2 s k) = P.Q n s k
  k : ∀ (s : Fin 64) (k : Fin 512), ch.k (ix2 s k) = P.K n s k
  kt : ∀ (s : Fin 64) (k : Fin 512), ch.kt (ix2 s k) = P.Kt n s k
  v : ∀ (s : Fin 64) (k : Fin 512), ch.v (ix2 s k) = P.V n s k

/-- The chunk made of a block of the sequence's rows is the sequence's chunk. -/
theorem chunkOf_is (hl : ∀ k : Fin 512, lb (ix2 0 k) = P.l k) (ht : ∀ k, P.l k ≠ ⊤)
    (hb : ∀ (r : Fin 64) (c : Fin 2048), blk (ix2 r c) = P.X (64 * n + r) c) : Is P n (chunkOf lb blk) := by
  have hf : ∀ (s : Fin 64) (k : Fin 512), gate lb blk (ix2 s k) = P.f n s k := gate_apply hl hb
  have hlog : ∀ (s : Fin 64) (k : Fin 512), log (gate lb blk) (ix2 s k) = Ideal.log (P.f n s k) := fun s k => by
    pointwise [hf]
  have hB : ∀ (s : Fin 64) (k : Fin 512), sums (log (gate lb blk)) (ix2 s k) = P.B n s k := fun s k => by
    rw [sums_apply]
    · simp only [hlog]; rfl
    · intro i
      idx_vars i
      rw [hlog]
      exact Seq.log_f_ne_top ht _ _ _
  have hk : ∀ (s : Fin 64) (k : Fin 512), keyOf (gate lb blk) (sums (log (gate lb blk))) (ix2 s k) = P.K n s k := fun s k => by
    pointwise [keyOf, hf, hB, Ideal.ofBits_one_f32, Seq.K, zero_sub]
  have hd : ∀ k : Fin 512, decOf (sums (log (gate lb blk))) (ix2 0 k) = Ideal.exp (P.B n 63 k) := fun k => by
    pointwise [decOf, hB]
  refine ⟨hd, fun s k => ?_, hk, fun s k => ?_, fun s k => ?_⟩
  · pointwise [chunkOf, chunk, hb, hB, Seq.Q]
  · rw [← Seq.kt_eq ht n s k s.isLt, ← hd, ← hk]
    pointwise [chunkOf, chunk]
  · pointwise [chunkOf, chunk, hb, Seq.V]

variable {ch : Ch Ideal} {h : ℕ} {st : FVec Ideal S128x128 .f32}

theorem attn_apply (hc : Is P n ch) (hh : h < 4) (s t : Fin 64) : attn ch h (ix2 s t) = P.A n h s t := by
  unfold attn
  pointwise [hd_apply h hh, hc.q, hc.k, Seq.A]
  rw [causal_apply]
  split_ifs <;> rfl

theorem intra_apply (hc : Is P n ch) (hh : h < 4) (s : Fin 64) (v : Fin 128) :
    intra ch h (ix2 s v) = ∑ t : Fin 64, P.A n h s t * P.V n t (128 * h + v) := by
  unfold intra
  pointwise [hd_apply h hh, attn_apply hc hh, hc.v]

theorem nextSt_apply (hc : Is P n ch) (hh : h < 4) (hs : ∀ v k : Fin 128, st (ix2 v k) = P.S h n k v) (v k : Fin 128) :
    nextSt ch h st (ix2 v k) = P.S h (n + 1) k v := by
  unfold nextSt added
  pointwise [hd_apply h hh, dec_hd_apply h hh, hc.v, hc.kt, hc.dec, hs, Seq.S]

theorem mixed_apply (hc : Is P n ch) (hh : h < 4) (hs : ∀ v k : Fin 128, st (ix2 v k) = P.S h n k v) (s : Fin 64) (v : Fin 128) :
    mixed ch h st (ix2 s v) = P.O h n s v := by
  unfold mixed
  pointwise [hd_apply h hh, intra_apply hc hh, hc.q, hs, Seq.O]

theorem rows_apply (hc : Is P n ch) (hh : h < 4) (hs : ∀ v k : Fin 128, st (ix2 v k) = P.S h n k v)
    {g : FVec Ideal S64x512 .bf16} (hg : ∀ (r : Fin 64) (c : Fin 512), g (ix2 r c) = P.X (64 * n + r) (1536 + c))
    {ng : Vec Ideal S1x128 .f32} (hw : ∀ v : Fin 128, ng (ix2 0 v) = P.w v) (b : Fin 1) (s : Fin 64) (v : Fin 128) :
    rows ch g ng h st (ix3 b s v) = P.Y h n s v := by
  pointwise [rows, rms, mixed_apply hc hh hs, hd_apply h hh, hg, hw, Seq.Y, ← Nat.add_assoc]

end Cert.KernelIdeal.Hg

end
-- ==== Proof.HgBlock.lean ====
/- What one grid point leaves, over the extended reals: the recurrence's rows in its block and the states after its last
   chunk. -/
module

public import proofs.«01_k».proof.Proof.HgKer
public import Idealize.ShloMosaic.Lib.Pipeline.ValueKit

@[expose] public section

set_option maxRecDepth 16384

noncomputable section

namespace Cert.KernelIdeal.Hg

open Cert.Hg Cert.KernelIdeal Cert.KernelIdeal.Gen Idealize.ShloMosaic Idealize.ShloMosaic.TcCoe Idealize.SL.Sem
open scoped BigOperators

variable (a2 : Memref sig .tc .vmem S1x2048x2048 .bf16) (h2 : a2.IsWhole) (a3 : Memref sig .tc .vmem S2x512 .f32) (h3 : a3.IsWhole)
  (a4 : Memref sig .tc .vmem S1x128 .f32) (h4 : a4.IsWhole) (a6 : Memref sig .tc .vmem S4x128x128 .f32) (h6 : a6.IsWhole)
  (x0 : Vec Ideal S1x2048x2048 .bf16) (x1 : Vec Ideal S2x512 .f32) (x2 : Vec Ideal S1x128 .f32) (xs0 : Vec Ideal S4x128x128 .f32)

theorem cast_rows (x : S1x64x2048.Idx → EReal) (r : Fin 64) (k : Fin 2048) :
    shapeCast S64x2048 x shapeCasts_S1x64x2048_S64x2048 (ix2 r k) = x (ix3 0 r k) := by
  pointwise

theorem cast_gate (x : S1x64x512.Idx → EReal) (r : Fin 64) (k : Fin 512) :
    shapeCast S64x512 x shapeCasts_S1x64x512_S64x512 (ix2 r k) = x (ix3 0 r k) := by
  pointwise

theorem cast_state (x : S1x128x128.Idx → EReal) (v k : Fin 128) :
    shapeCast S128x128 x shapeCasts_S1x128x128_S128x128 (ix2 v k) = x (ix3 0 v k) := by
  pointwise

theorem cast_back (x : S128x128.Idx → EReal) (b : Fin 1) (v k : Fin 128) :
    shapeCast S1x128x128 x shapeCasts_S128x128_S1x128x128 (ix3 b v k) = x (ix2 v k) := by
  pointwise

theorem blkAt_apply (c : ℕ) (hc : c < 32) (r : Fin 64) (k : Fin 2048) :
    blkAt a2 h2 x0 c (ix2 r k) = x0 (ix3 0 ⟨64 * c + r, by omega⟩ k) := by
  unfold blkAt
  rw [cast_rows, View.readAt_eq_ld, h2.read_unread]
  refine View.ld_unit_apply_of _ _ _ _ _ _ fun a => ?_
  fin_cases a <;> simp [ix3, Nat.mod_eq_of_lt hc]

theorem gAt_apply (c : ℕ) (hc : c < 32) (r : Fin 64) (k : Fin 512) :
    gAt a2 h2 x0 c (ix2 r k) = x0 (ix3 0 ⟨64 * c + r, by omega⟩ ⟨1536 + k, by omega⟩) := by
  unfold gAt
  rw [cast_gate, View.readAt_eq_ld, h2.read_unread]
  refine View.ld_unit_apply_of _ _ _ _ _ _ fun a => ?_
  fin_cases a <;> simp [ix3, Nat.mod_eq_of_lt hc]

theorem ngAt_eq : ngAt a4 h4 x2 = x2 := by
  unfold ngAt
  rw [View.readAt_eq_ld, h4.read_unread]
  exact View.ld_unit_lit _ _ (by decide)

theorem stB_apply (h : ℕ) (hh : h < 4) (v k : Fin 128) : stB a6 h6 xs0 h (ix2 v k) = xs0 (ix3 ⟨h, hh⟩ v k) := by
  unfold stB
  rw [cast_state, View.readAt_eq_ld, h6.read_unread]
  refine View.ld_unit_apply_of _ _ _ _ _ _ fun a => ?_
  fin_cases a <;> simp [ix3, Nat.mod_eq_of_lt hh]

theorem stA_apply (h : ℕ) (v k : Fin 128) : stA (F := Ideal) a6 h (ix2 v k) = (0 : EReal) := by
  unfold stA
  rw [cast_state, View.readCov_eq_canon']
  unfold cleared
  rw [View.canon_cons_unit_lit _ _ _ (by decide)]
  pointwise [k0_pay3]

/-! ## The chunks of the block, and the states through them -/

variable {a2 h2 a3 h3 a4 h4 a6 h6 x0 x1 x2 xs0}
variable {P : Seq} {q : ℕ}

/-- The point's block is rows `2048 q` on of the sequence, and the other two arguments the sequence's. -/
structure Feeds (P : Seq) (q : ℕ) (x0 : Vec Ideal S1x2048x2048 .bf16) (x1 : Vec Ideal S2x512 .f32) (x2 : Vec Ideal S1x128 .f32) : Prop where
  rows : ∀ (r : Fin 2048) (k : Fin 2048), x0 (ix3 0 r k) = P.X (2048 * q + r) k
  low : ∀ k : Fin 512, low (x1 (ix2 0 k)) (x1 (ix2 1 k)) = P.l k
  top : ∀ k, P.l k ≠ ⊤
  scale : ∀ v : Fin 128, x2 (ix2 0 v) = P.w v

theorem chAt_is (hx : Feeds P q x0 x1 x2) (n : ℕ) (hn : n < 32) : Is P (32 * q + n) (chAt a2 h2 a3 h3 x0 x1 n) := by
  unfold chAt
  refine chunkOf_is (fun k => ?_) hx.top fun r c => ?_
  · rw [View.readAt_eq_ld, h3.read_unread, View.ld_unit_lit _ _ (by decide), lower_apply, hx.low]
  · rw [blkAt_apply a2 h2 x0 n hn, hx.rows]
    congr 1
    simp only
    omega

/-- The chain of states is the sequence's, from the first chunk of the block. -/
theorem st_apply {ch : ℕ → Ch Ideal} (hc : ∀ n < 32, Is P (32 * q + n) (ch n)) {s0 : ℕ → FVec Ideal S128x128 .f32} {h : ℕ}
    (hh : h < 4) (h0 : ∀ v k : Fin 128, s0 h (ix2 v k) = P.S h (32 * q) k v) :
    ∀ n ≤ 32, ∀ v k : Fin 128, st ch s0 h n (ix2 v k) = P.S h (32 * q + n) k v
  | 0, _, v, k => h0 v k
  | n + 1, hn, v, k => nextSt_apply (hc n (by omega)) hh (st_apply hc hh h0 n (by omega)) v k

theorem mem_pieces {F : FTy → Type} [FloatOps F] {ch : ℕ → Ch F} {g : ℕ → FVec F S64x512 .bf16} {ng : Vec F S1x128 .f32}
    {s0 : ℕ → FVec F S128x128 .f32} {p : View.Piece (Elt F) S1x2048x512 .bf16} :
    ∀ {n : ℕ}, p ∈ pieces ch g ng s0 n → ∃ c < n, ∃ h < 4, p = piece ch g ng s0 c h
  | n + 1, hp => by
    simp only [pieces, List.mem_cons] at hp
    rcases hp with rfl | rfl | rfl | rfl | hp
    · exact ⟨n, by omega, 3, by omega, rfl⟩
    · exact ⟨n, by omega, 2, by omega, rfl⟩
    · exact ⟨n, by omega, 1, by omega, rfl⟩
    · exact ⟨n, by omega, 0, by omega, rfl⟩
    · obtain ⟨c, hc, r⟩ := mem_pieces hp
      exact ⟨c, by omega, r⟩

/-- The pieces of the output, read back where they cover, are the recurrence's rows. -/
theorem read_pieces (hx : Feeds P q x0 x1 x2) {s0 : ℕ → FVec Ideal S128x128 .f32}
    (h0 : ∀ h < 4, ∀ v k : Fin 128, s0 h (ix2 v k) = P.S h (32 * q) k v)
    {κ : Kind} {sp : Space} (v : View sig κ sp S1x2048x512 .bf16) (f : v.ty.Contents (Elt Ideal)) (y : S1x2048x512.Idx)
    (hy : ∃ p ∈ pieces (chAt a2 h2 a3 h3 x0 x1) (gAt a2 h2 x0) (ngAt a4 h4 x2) s0 32, y ∈ p.1.set) :
    v.read (Elt Ideal) (v.writes (Elt Ideal) f (pieces (chAt a2 h2 a3 h3 x0 x1) (gAt a2 h2 x0) (ngAt a4 h4 x2) s0 32)) y
      = P.Y ((y 2).val / 128) (32 * q + (y 1).val / 64) ((y 1).val % 64) ((y 2).val % 128) := by
  refine View.read_writes_apply_of_pieces v f
    (fun y => P.Y ((y 2).val / 128) (32 * q + (y 1).val / 64) ((y 1).val % 64) ((y 2).val % 128)) _ (fun p hp x => ?_) y hy
  obtain ⟨c, hc, h, hh, rfl⟩ := mem_pieces hp
  have hch := fun n hn => chAt_is (a2 := a2) (h2 := h2) (a3 := a3) (h3 := h3) hx n hn
  revert x
  show ∀ x : S1x64x128.Idx, _
  intro z
  idx_vars z
  refine (rows_apply (hch c hc) hh (st_apply hch hh (h0 h hh) c (by omega)) (fun r k => ?_) (fun w => ?_) z0 z1 z2).trans ?_
  · rw [gAt_apply a2 h2 x0 c hc, hx.rows]
    congr 1
    simp only
    omega
  · rw [ngAt_eq, hx.scale]
  · have e1 : ((piece (chAt a2 h2 a3 h3 x0 x1) (gAt a2 h2 x0) (ngAt a4 h4 x2) s0 c h).1.emb (ix3 z0 z1 z2) 1).val = 64 * (c % 32) + 1 * z1.val := rfl
    have e2 : ((piece (chAt a2 h2 a3 h3 x0 x1) (gAt a2 h2 x0) (ngAt a4 h4 x2) s0 c h).1.emb (ix3 z0 z1 z2) 2).val = 128 * (h % 4) + 1 * z2.val := rfl
    show _ = P.Y (((piece (chAt a2 h2 a3 h3 x0 x1) (gAt a2 h2 x0) (ngAt a4 h4 x2) s0 c h).1.emb (ix3 z0 z1 z2) 2).val / 128) _ _ _
    rw [e1, e2]
    congr 1 <;> omega

/-- The pieces of the states, read back, are the states after the block's last chunk. -/
theorem read_states (hx : Feeds P q x0 x1 x2) {s0 : ℕ → FVec Ideal S128x128 .f32}
    (h0 : ∀ h < 4, ∀ v k : Fin 128, s0 h (ix2 v k) = P.S h (32 * q) k v)
    {κ : Kind} {sp : Space} (v : View sig κ sp S4x128x128 .f32) (f : v.ty.Contents (Elt Ideal)) (y : S4x128x128.Idx) :
    v.read (Elt Ideal) (v.writes (Elt Ideal) f [stPiece (chAt a2 h2 a3 h3 x0 x1) s0 3, stPiece (chAt a2 h2 a3 h3 x0 x1) s0 2,
         stPiece (chAt a2 h2 a3 h3 x0 x1) s0 1, stPiece (chAt a2 h2 a3 h3 x0 x1) s0 0]) y
      = P.S (y 0).val (32 * q + 32) (y 2).val (y 1).val := by
  have hch := fun n hn => chAt_is (a2 := a2) (h2 := h2) (a3 := a3) (h3 := h3) hx n hn
  refine View.read_writes_apply_of_pieces v f (fun y => P.S (y 0).val (32 * q + 32) (y 2).val (y 1).val) _ (fun p hp x => ?_) y ?_
  · obtain ⟨h, hh, rfl⟩ : ∃ h < 4, p = stPiece (chAt a2 h2 a3 h3 x0 x1) s0 h := by
      simp only [List.mem_cons, List.not_mem_nil, or_false] at hp
      rcases hp with rfl | rfl | rfl | rfl
      exacts [⟨3, by omega, rfl⟩, ⟨2, by omega, rfl⟩, ⟨1, by omega, rfl⟩, ⟨0, by omega, rfl⟩]
    revert x
    show ∀ x : S1x128x128.Idx, _
    intro z
    idx_vars z
    have e0 : ((stPiece (chAt a2 h2 a3 h3 x0 x1) s0 h).1.emb (ix3 z0 z1 z2) 0).val = h % 4 + 1 * z0.val := rfl
    have e1 : ((stPiece (chAt a2 h2 a3 h3 x0 x1) s0 h).1.emb (ix3 z0 z1 z2) 1).val = 0 + 1 * z1.val := rfl
    have e2 : ((stPiece (chAt a2 h2 a3 h3 x0 x1) s0 h).1.emb (ix3 z0 z1 z2) 2).val = 0 + 1 * z2.val := rfl
    show _ = P.S ((stPiece (chAt a2 h2 a3 h3 x0 x1) s0 h).1.emb (ix3 z0 z1 z2) 0).val _
      ((stPiece (chAt a2 h2 a3 h3 x0 x1) s0 h).1.emb (ix3 z0 z1 z2) 2).val ((stPiece (chAt a2 h2 a3 h3 x0 x1) s0 h).1.emb (ix3 z0 z1 z2) 1).val
    rw [e0, e1, e2]
    have hs := st_apply hch hh (h0 h hh) 32 (le_refl _) z1 z2
    refine (cast_back _ z0 z1 z2).trans (hs.trans ?_)
    congr 1 <;> omega
  · have hy : (y 0).val < 4 := (y 0).isLt
    have h1 : (y 1).val < 128 := (y 1).isLt
    have h2' : (y 2).val < 128 := (y 2).isLt
    refine ⟨stPiece (chAt a2 h2 a3 h3 x0 x1) s0 (y 0).val, ?_, ?_⟩
    · simp only [List.mem_cons, List.not_mem_nil, or_false]
      have : (y 0).val = 0 ∨ (y 0).val = 1 ∨ (y 0).val = 2 ∨ (y 0).val = 3 := by omega
      rcases this with h | h | h | h <;> rw [h] <;> simp
    · refine (Rect.mem_set_unit (inb := st_in _)).2 fun a => ?_
      fin_cases a <;> simp [S1x128x128, Nat.mod_eq_of_lt hy, h1, h2']

end Cert.KernelIdeal.Hg

end
-- ==== Proof.HgSeq.lean ====
/- A sequence of the gated recurrence, from the arrays that hold it. -/
module

public import proofs.«01_k».proof.Proof.HgSpec

@[expose] public section

noncomputable section

namespace Cert.Hg

open Idealize.ShloMosaic

/-- A sequence of a batch, from the arrays: beyond their bounds the columns, the bounds and the scale are zero. -/
def seqOf (hg : Fin 4096 → Fin 2048 → EReal) (lb : Fin 2 → Fin 512 → EReal) (ng : Fin 128 → EReal) : Seq where
  X t k := if h : t < 4096 ∧ k < 2048 then hg ⟨t, h.1⟩ ⟨k, h.2⟩ else 0
  l k := if h : k < 512 then low (lb 0 ⟨k, h⟩) (lb 1 ⟨k, h⟩) else 0
  w v := if h : v < 128 then ng ⟨v, h⟩ else 0

variable {hg : Fin 4096 → Fin 2048 → EReal} {lb : Fin 2 → Fin 512 → EReal} {ng : Fin 128 → EReal}

theorem seqOf_X {t k : ℕ} (ht : t < 4096) (hk : k < 2048) : (seqOf hg lb ng).X t k = hg ⟨t, ht⟩ ⟨k, hk⟩ :=
  dif_pos ⟨ht, hk⟩

theorem seqOf_l {k : ℕ} (hk : k < 512) : (seqOf hg lb ng).l k = low (lb 0 ⟨k, hk⟩) (lb 1 ⟨k, hk⟩) := dif_pos hk

theorem seqOf_w {v : ℕ} (hv : v < 128) : (seqOf hg lb ng).w v = ng ⟨v, hv⟩ := dif_pos hv

theorem seqOf_top (k : ℕ) : (seqOf hg lb ng).l k ≠ ⊤ := by
  unfold seqOf
  dsimp only
  split_ifs
  · exact low_ne_top _ _
  · exact EReal.zero_ne_top

end Cert.Hg

end
-- ==== Proof.HgStA.lean ====
/- The writes of the carried states found by the run that clears the states. -/
module

public import proofs.«01_k».proof.Proof.HgRun

@[expose] public section

noncomputable section

namespace Cert.KernelIdeal.Hg

open Cert.KernelIdeal Cert.KernelIdeal.Gen Idealize.ShloMosaic Idealize.ShloMosaic.TcCoe Idealize.SL.Sem

variable {F : FTy → Type} [FloatOps F]

variable (c : Dev nD) (i : grid0.Coords) (a2 : Memref sig .tc .vmem S1x2048x2048 .bf16) (h2 : a2.IsWhole) (a3 : Memref sig .tc .vmem S2x512 .f32) (h3 : a3.IsWhole) (a4 : Memref sig .tc .vmem S1x128 .f32) (h4 : a4.IsWhole) (a5 : Memref sig .tc .vmem S1x2048x512 .bf16) (h5 : a5.IsWhole) (a6 : Memref sig .tc .vmem S4x128x128 .f32) (h6 : a6.IsWhole)
   (x0 : Vec F S1x2048x2048 .bf16) (x1 : Vec F S2x512 .f32) (x2 : Vec F S1x128 .f32)

set_option maxRecDepth 100000 in
set_option maxHeartbeats 0 in
/-- At a point that starts a batch, the carried states are those after the last chunk. -/
theorem sfound_A (hc : cond0_0 i) :
    (kernelRun0_A c i a2 h2 a3 h3 a4 h4 a5 h5 a6 h6 hc x0 x1 x2).2.1
      = [stPiece (chAt a2 h2 a3 h3 x0 x1) (stA a6) 3, stPiece (chAt a2 h2 a3 h3 x0 x1) (stA a6) 2,
         stPiece (chAt a2 h2 a3 h3 x0 x1) (stA a6) 1, stPiece (chAt a2 h2 a3 h3 x0 x1) (stA a6) 0] ++ cleared := by
  unfold kernelRun0_A
  dsimp only
  rfl

end Cert.KernelIdeal.Hg

end
-- ==== Proof.HgStB.lean ====
/- The writes of the carried states found by the run that goes on from the point before. -/
module

public import proofs.«01_k».proof.Proof.HgRun

@[expose] public section

noncomputable section

namespace Cert.KernelIdeal.Hg

open Cert.KernelIdeal Cert.KernelIdeal.Gen Idealize.ShloMosaic Idealize.ShloMosaic.TcCoe Idealize.SL.Sem

variable {F : FTy → Type} [FloatOps F]

variable (c : Dev nD) (i : grid0.Coords) (a2 : Memref sig .tc .vmem S1x2048x2048 .bf16) (h2 : a2.IsWhole) (a3 : Memref sig .tc .vmem S2x512 .f32) (h3 : a3.IsWhole) (a4 : Memref sig .tc .vmem S1x128 .f32) (h4 : a4.IsWhole) (a5 : Memref sig .tc .vmem S1x2048x512 .bf16) (h5 : a5.IsWhole) (a6 : Memref sig .tc .vmem S4x128x128 .f32) (h6 : a6.IsWhole)
   (x0 : Vec F S1x2048x2048 .bf16) (x1 : Vec F S2x512 .f32) (x2 : Vec F S1x128 .f32) (xs0 : Vec F S4x128x128 .f32)

set_option maxRecDepth 100000 in
set_option maxHeartbeats 0 in
/-- At a point that goes on from the one before, the carried states are those after the last chunk. -/
theorem sfound_B (hc : ¬ cond0_0 i) :
    (kernelRun0_B c i a2 h2 a3 h3 a4 h4 a5 h5 a6 h6 hc x0 x1 x2 xs0).2.1
      = [stPiece (chAt a2 h2 a3 h3 x0 x1) (stB a6 h6 xs0) 3, stPiece (chAt a2 h2 a3 h3 x0 x1) (stB a6 h6 xs0) 2,
         stPiece (chAt a2 h2 a3 h3 x0 x1) (stB a6 h6 xs0) 1, stPiece (chAt a2 h2 a3 h3 x0 x1) (stB a6 h6 xs0) 0] := by
  unfold kernelRun0_B
  dsimp only
  rfl

end Cert.KernelIdeal.Hg

end
-- ==== Proof.HgOutA.lean ====
/- The writes of the output found by the run that clears the states are the chunks' writes. -/
module

public import proofs.«01_k».proof.Proof.HgRun

@[expose] public section

noncomputable section

namespace Cert.KernelIdeal.Hg

open Cert.KernelIdeal Cert.KernelIdeal.Gen Idealize.ShloMosaic Idealize.ShloMosaic.TcCoe Idealize.SL.Sem

variable {F : FTy → Type} [FloatOps F]

variable (c : Dev nD) (i : grid0.Coords) (a2 : Memref sig .tc .vmem S1x2048x2048 .bf16) (h2 : a2.IsWhole) (a3 : Memref sig .tc .vmem S2x512 .f32) (h3 : a3.IsWhole) (a4 : Memref sig .tc .vmem S1x128 .f32) (h4 : a4.IsWhole) (a5 : Memref sig .tc .vmem S1x2048x512 .bf16) (h5 : a5.IsWhole) (a6 : Memref sig .tc .vmem S4x128x128 .f32) (h6 : a6.IsWhole)
   (x0 : Vec F S1x2048x2048 .bf16) (x1 : Vec F S2x512 .f32) (x2 : Vec F S1x128 .f32)

set_option maxRecDepth 100000 in
set_option maxHeartbeats 0 in
/-- At a point that starts a batch, the output's pieces are the chunks' rows, from the states read. -/
theorem found_A (hc : cond0_0 i) :
    (kernelRun0_A c i a2 h2 a3 h3 a4 h4 a5 h5 a6 h6 hc x0 x1 x2).1
      = pieces (chAt a2 h2 a3 h3 x0 x1) (gAt a2 h2 x0) (ngAt a4 h4 x2) (stA a6) 32 := by
  unfold kernelRun0_A
  dsimp only
  rfl

end Cert.KernelIdeal.Hg

end
-- ==== Proof.HgOutB.lean ====
/- The writes of the output found by the run that goes on from the point before are the chunks' writes. -/
module

public import proofs.«01_k».proof.Proof.HgRun

@[expose] public section

noncomputable section

namespace Cert.KernelIdeal.Hg

open Cert.KernelIdeal Cert.KernelIdeal.Gen Idealize.ShloMosaic Idealize.ShloMosaic.TcCoe Idealize.SL.Sem

variable {F : FTy → Type} [FloatOps F]

variable (c : Dev nD) (i : grid0.Coords) (a2 : Memref sig .tc .vmem S1x2048x2048 .bf16) (h2 : a2.IsWhole) (a3 : Memref sig .tc .vmem S2x512 .f32) (h3 : a3.IsWhole) (a4 : Memref sig .tc .vmem S1x128 .f32) (h4 : a4.IsWhole) (a5 : Memref sig .tc .vmem S1x2048x512 .bf16) (h5 : a5.IsWhole) (a6 : Memref sig .tc .vmem S4x128x128 .f32) (h6 : a6.IsWhole)
   (x0 : Vec F S1x2048x2048 .bf16) (x1 : Vec F S2x512 .f32) (x2 : Vec F S1x128 .f32) (xs0 : Vec F S4x128x128 .f32)

set_option maxRecDepth 100000 in
set_option maxHeartbeats 0 in
/-- At a point that goes on from the one before, the output's pieces are the chunks' rows, from the states read. -/
theorem found_B (hc : ¬ cond0_0 i) :
    (kernelRun0_B c i a2 h2 a3 h3 a4 h4 a5 h5 a6 h6 hc x0 x1 x2 xs0).1
      = pieces (chAt a2 h2 a3 h3 x0 x1) (gAt a2 h2 x0) (ngAt a4 h4 x2) (stB a6 h6 xs0) 32 := by
  unfold kernelRun0_B
  dsimp only
  rfl

end Cert.KernelIdeal.Hg

end
-- ==== Proof.HgValue.lean ====
/- What the kernel's run leaves, over the extended reals: the gated recurrence of every sequence. -/
module

public import proofs.«01_k».proof.Proof.HgBlock
public import proofs.«01_k».proof.Proof.HgSeq
public import proofs.«01_k».proof.Proof.HgStA
public import proofs.«01_k».proof.Proof.HgStB
public import proofs.«01_k».proof.Proof.HgOutA
public import proofs.«01_k».proof.Proof.HgOutB

@[expose] public section

set_option maxRecDepth 16384

noncomputable section

namespace Cert.KernelIdeal.Hg

open Cert.Hg Cert.KernelIdeal Cert.KernelIdeal.Gen Cert.KernelIdeal.Value Idealize.ShloMosaic Idealize.ShloMosaic.TcCoe Idealize.SL.Sem
open scoped BigOperators

variable (m : (a : Loc nD τ sig) → Buf (Elt Ideal) a) (c : Dev nD)

/-- Sequence `b` of the batch the arguments hold. -/
def seq (b : Fin 8) : Seq :=
  seqOf (fun t k => m ((c : Thread nD τ).loc main_arg0) (ix3 b t k)) (fun r k => m ((c : Thread nD τ).loc main_arg1) (ix2 r k))
    (fun v => m ((c : Thread nD τ).loc main_arg2) (ix2 0 v))

theorem idx0 : ∀ t : Fin cfg0.N, win0_0.index t = ![t.val / 2, t.val % 2, 0] := by decide +kernel
theorem idx1 : ∀ t : Fin cfg0.N, win0_1.index t = ![0, 0] := by decide +kernel
theorem idx2 : ∀ t : Fin cfg0.N, win0_2.index t = ![0, 0] := by decide +kernel

theorem batch (t : Fin cfg0.N) : t.val / 2 < 8 := by
  have := lt_of_lt_of_eq t.isLt (show cfg0.N = 16 from N_0)
  omega

/-- Point `t` is fed half `t % 2` of sequence `t / 2`. -/
theorem feeds (t : Fin cfg0.N) : Feeds (seq m c ⟨t.val / 2, batch t⟩) (t.val % 2) (iblk m c 0 t) (iblk m c 1 t) (iblk m c 2 t) where
  rows r k := by
    unfold seq
    rw [seqOf_X (by omega) (by omega)]
    blk_ext [iblk, V, idx0 t]
  low k := by
    unfold seq
    rw [seqOf_l (by omega)]
    congr 1 <;> blk_ext [iblk, V, idx1 t]
  top k := seqOf_top k
  scale v := by
    unfold seq
    rw [seqOf_w (by omega)]
    blk_ext [iblk, V, idx2 t]

/-- A point that starts a sequence leaves the rows of its first half … -/
theorem out_even (t : Fin cfg0.N) (h0 : t.val % 2 = 0) (y : S1x2048x512.Idx) :
    (outsAt0 m c t.val t.isLt).1 y
      = (seq m c ⟨t.val / 2, batch t⟩).Y ((y 2).val / 128) (32 * (t.val % 2) + (y 1).val / 64) ((y 1).val % 64) ((y 2).val % 128) := by
  rw [outsAt0_A m c t h0]
  have hcov := cover0_A_3 c (grid0.coords t) (ms0_0 t) (hs0_0 t) (ms0_1 t) (hs0_1 t) (ms0_2 t) (hs0_2 t) (ms0_3 t) (hs0_3 t) scM0_0
    (Memref.isWhole_whole _) ((hcond0_0 t).mpr h0) (iblk m c 0 t) (iblk m c 1 t) (iblk m c 2 t) y
  dsimp only
  unfold out0_A_3
  rw [found_A] at hcov ⊢
  exact read_pieces (feeds m c t) (fun h hh v k => by rw [stA_apply, h0]; rfl) _ _ y hcov

/-- … and the states after its first half. -/
theorem state_even (t : Fin cfg0.N) (h0 : t.val % 2 = 0) (y : S4x128x128.Idx) :
    (outsAt0 m c t.val t.isLt).2 y = (seq m c ⟨t.val / 2, batch t⟩).S (y 0).val 32 (y 2).val (y 1).val := by
  rw [outsAt0_A m c t h0]
  dsimp only
  unfold sout0_A_0
  rw [sfound_A]
  have hr := read_states (feeds m c t) (a2 := ms0_0 t) (h2 := hs0_0 t) (a3 := ms0_1 t) (h3 := hs0_1 t) (s0 := stA scM0_0)
    (fun h hh v k => by rw [stA_apply, h0]; rfl) VS0_0 (VS0_0.writes (Elt Ideal) VS0_0.junk cleared) y
  rw [h0] at hr
  exact hr

/-- A point that goes on leaves the rows of the second half. -/
theorem out_odd (t : Fin cfg0.N) (h0 : ¬ t.val % 2 = 0) (y : S1x2048x512.Idx) :
    (outsAt0 m c t.val t.isLt).1 y
      = (seq m c ⟨t.val / 2, batch t⟩).Y ((y 2).val / 128) (32 * (t.val % 2) + (y 1).val / 64) ((y 1).val % 64) ((y 2).val % 128) := by
  have h1 : t.val - 1 < cfg0.N := Nat.lt_of_le_of_lt (Nat.sub_le _ _) t.isLt
  have hst := state_even m c ⟨t.val - 1, h1⟩ (show (t.val - 1) % 2 = 0 by omega)
  have hb : (⟨(t.val - 1) / 2, batch ⟨t.val - 1, h1⟩⟩ : Fin 8) = ⟨t.val / 2, batch t⟩ := Fin.ext (by show (t.val - 1) / 2 = t.val / 2; omega)
  rw [hb] at hst
  rw [outsAt0_B m c t h0]
  have hcov := cover0_B_3 c (grid0.coords t) (ms0_0 t) (hs0_0 t) (ms0_1 t) (hs0_1 t) (ms0_2 t) (hs0_2 t) (ms0_3 t) (hs0_3 t) scM0_0
    (Memref.isWhole_whole _) (fun h => h0 ((hcond0_0 t).mp h)) (iblk m c 0 t) (iblk m c 1 t) (iblk m c 2 t)
    (outsAt0 m c (t.val - 1) h1).2 y
  dsimp only
  unfold out0_B_3
  rw [found_B] at hcov ⊢
  refine read_pieces (feeds m c t) (fun h hh v k => ?_) _ _ y hcov
  rw [stB_apply _ _ _ h hh, hst, show t.val % 2 = 1 by omega]
  rfl

/-- What every point leaves. -/
theorem out_at (t : Fin cfg0.N) (y : S1x2048x512.Idx) :
    (outsAt0 m c t.val t.isLt).1 y
      = (seq m c ⟨t.val / 2, batch t⟩).Y ((y 2).val / 128) (32 * (t.val % 2) + (y 1).val / 64) ((y 1).val % 64) ((y 2).val % 128) :=
  if h0 : t.val % 2 = 0 then out_even m c t h0 y else out_odd m c t h0 y

/-- The array the run leaves: the recurrence's rows of every sequence. -/
theorem result (b : Fin 8) (t : Fin 4096) (k : Fin 512) :
    G3 m c (ix3 b t k) = (seq m c b).Y (k.val / 128) (t.val / 64) (t.val % 64) (k.val % 128) := by
  have hp : pt3Of (ix3 b t k) = 2 * b.val + t.val / 2048 := by
    show 2 * (b.val / 1 - 0) + 1 * (t.val / 2048 - 0) + 1 * (k.val / 512 - 0) = _
    omega
  have hlt : pt3Of (ix3 b t k) < cfg0.N := by
    rw [hp, show cfg0.N = 16 from N_0]; omega
  unfold G3
  rw [dif_pos hlt]
  have h := out_at m c ⟨pt3Of (ix3 b t k), hlt⟩ (loc3Of (ix3 b t k))
  rw [outsAt0_sweep] at h
  refine h.trans ?_
  have hb : (⟨pt3Of (ix3 b t k) / 2, batch ⟨pt3Of (ix3 b t k), hlt⟩⟩ : Fin 8) = b := Fin.ext (by simp only [hp]; omega)
  show (seq m c ⟨pt3Of (ix3 b t k) / 2, _⟩).Y ((k.val % 512) / 128) (32 * (pt3Of (ix3 b t k) % 2) + (t.val % 2048) / 64) ((t.val % 2048) % 64) ((k.val % 512) % 128) = _
  rw [hb, hp]
  congr 1 <;> omega

end Cert.KernelIdeal.Hg

end
-- ==== Proof.RefRun.lean ====
/- The reference's run: its loop over the chunks, as the iterates of one step on the carried values. -/
module

public import proofs.«01_k».proof.Proof.Gen.ReferenceIdeal.Run
public import proofs.«01_k».proof.Proof.Gen.ReferenceIdeal.Step

@[expose] public section

noncomputable section

namespace Cert.ReferenceIdeal.Hg

open Idealize.ShloMosaic Idealize.ShloMosaic.TcCoe Idealize.SL.Sem Idealize.ShloMosaic.StableHlo
open Cert.ReferenceIdeal Cert.ReferenceIdeal.Gen Cert.ReferenceIdeal.Value
open Cert.ReferenceIdeal.Step (State step init R_main_v91)

variable {F : FTy → Type} [FloatOps F]

/-- The carried buffers hold state `s` before trip `j`. -/
structure At (W : Valuation τ sig (Elt F)) (s : State F) (j : ℕ) : Prop where
  decay : W (Proc.devRef .tc main_v68_0) = s.main_v68_0
  kv : W (Proc.devRef .tc main_v68_1) = s.main_v68_1
  query : W (Proc.devRef .tc main_v68_2) = s.main_v68_2
  intra : W (Proc.devRef .tc main_v68_3) = s.main_v68_3
  trip : W (Proc.devRef .tc main_v68_4) = constantI S_ 32 (BitVec.ofNat 32 j)
  state : W (Proc.devRef .tc main_v68_5) = s.main_v68_5
  outs : W (Proc.devRef .tc main_v68_6) = s.main_v68_6

variable {W : Valuation τ sig (Elt F)} {s : State F} {j : ℕ}

set_option maxRecDepth 16384 in
/-- The state after a trip. -/
theorem At.state_next (h : At W s j) : step_main_v68_5 W = Step.b26 j s := by
  unfold step_main_v68_5
  rw [h.decay, h.trip, h.state, h.kv]
  rfl

set_option maxRecDepth 16384 in
/-- The outputs after a trip. -/
theorem At.outs_next (h : At W s j) : step_main_v68_6 W = Step.b34 j s := by
  unfold step_main_v68_6
  rw [h.outs, h.intra, h.trip, h.query, h.state]
  rfl

/-- A trip takes the carried buffers to the next state. -/
theorem At.next (h : At W s j) : At (STEP W) (step j s) (j + 1) where
  decay := (STEP_main_v68_0 W).trans h.decay
  kv := (STEP_main_v68_1 W).trans h.kv
  query := (STEP_main_v68_2 W).trans h.query
  intra := (STEP_main_v68_3 W).trans h.intra
  trip := by
    rw [STEP_main_v68_4]
    unfold step_main_v68_4
    rw [h.trip]
    funext i
    exact (BitVec.ofNat_add j 1).symm
  state := (STEP_main_v68_5 W).trans h.state_next
  outs := (STEP_main_v68_6 W).trans h.outs_next

/-- The state before trip `n`, from the arguments. -/
def iter (x0 : (⟨S8x4096x2048, .bf16⟩ : BufTy).Contents (Elt F)) (x1 : (⟨S2x512, .f32⟩ : BufTy).Contents (Elt F)) : ℕ → State F
  | 0 => init x0 x1
  | n + 1 => step n (iter x0 x1 n)

variable (m : (ℓ : Loc nD τ sig) → Buf (Elt F) ℓ)

set_option maxRecDepth 65536 in
set_option maxHeartbeats 800000 in
/-- Before the loop the carried buffers hold the first state. -/
theorem at_entry (c : Dev nD) :
    At (entryContents preI m c) (init (m ((c.tc : Thread nD τ).loc main_arg0)) (m ((c.tc : Thread nD τ).loc main_arg1))) 0 := by
  constructor <;> (simp only [entryContents, afterL_cons, afterL_nil]; after_reads_simp) <;> rfl

theorem at_iter (c : Dev nD) :
    ∀ n, At (STEP^[n] (entryContents preI m c)) (iter (m ((c.tc : Thread nD τ).loc main_arg0)) (m ((c.tc : Thread nD τ).loc main_arg1)) n) n
  | 0 => at_entry m c
  | n + 1 => by
    rw [Function.iterate_succ_apply']
    exact (at_iter c n).next

set_option maxRecDepth 16384 in
/-- The result read off the carried outputs. -/
theorem At.result (h : At W s j) {x0 : (⟨S8x4096x2048, .bf16⟩ : BufTy).Contents (Elt F)} {x2 : (⟨S1x128, .f32⟩ : BufTy).Contents (Elt F)}
    (h0 : W (Proc.devRef .tc main_arg0) = x0) (h2 : W (Proc.devRef .tc main_arg2) = x2) : out_main_v91 W = R_main_v91 s x0 x2 := by
  unfold out_main_v91
  rw [h.outs, h0, h2]
  rfl

/-- The run leaves the result of the state after the last chunk, and its arguments as they were. -/
theorem run (ρ : Dev nD → PrngReg) :
    θ_run (defs (F := F)) (onTc (τ := τ) (main (F := F))) ⟨m, fun _ => 0, ρ⟩ fun r => ∀ c : Dev nD,
      r.2.mem ((c.tc : Thread nD τ).loc main_v91)
          = R_main_v91 (iter (m ((c.tc : Thread nD τ).loc main_arg0)) (m ((c.tc : Thread nD τ).loc main_arg1)) 64)
              (m ((c.tc : Thread nD τ).loc main_arg0)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨(h c).1.trans ((at_iter m c 64).result (iter_main_arg0 m c 64) (iter_main_arg2 m c 64)), (h c).2⟩) (Value.run m ρ)

end Cert.ReferenceIdeal.Hg

end
-- ==== Proof.HgWindow.lean ====
/- The host's windowed sums read at an index, over the extended reals: a prefix sum along an axis. -/
module

public import proofs.«01_k».proof.Proof.HgMath

@[expose] public section

noncomputable section

open Idealize.ShloMosaic
open scoped BigOperators

namespace Cert.Hg

/-- A fold that adds a term at each place is the start and the sum of the terms. -/
theorem foldl_add_eq {ι : Type*} (g : ι → EReal) : ∀ (L : List ι) (v : EReal), L.foldl (fun r n => r + g n) v = v + (L.map g).sum
  | [], v => by simp
  | a :: L, v => by rw [List.foldl_cons, foldl_add_eq g L, List.map_cons, List.sum_cons, add_assoc]

/-- A windowed sum from zero is the sum over the window's places. -/
theorem window_sum {s t u : Shape} (window strides lo hi : Fin s.rank → Nat) (x : FVec Ideal s .f32) (init : FVec Ideal u .f32)
    (h : s.ReduceWindows window strides lo hi t) (hu : 0 < u.numel) (h0 : init (Shape.Idx.first hu) = (0 : EReal)) (j : t.Idx) :
    Host.reduceWindowAdd window strides lo hi x init h hu j
      = ∑ w : (⟨s.rank, window⟩ : Shape).Idx,
          if hin : ∀ a, lo a ≤ (j (a.cast h.1.symm)).val * strides a + (w a).val
              ∧ (j (a.cast h.1.symm)).val * strides a + (w a).val - lo a < s.size a
          then x (fun a => ⟨(j (a.cast h.1.symm)).val * strides a + (w a).val - lo a, (hin a).2⟩) else (0 : EReal) := by
  have e := foldl_add_eq (fun n : Fin (⟨s.rank, window⟩ : Shape).numel =>
      if hin : ∀ a, lo a ≤ (j (a.cast h.1.symm)).val * strides a + ((⟨s.rank, window⟩ : Shape).rowMajor.symm n a).val
              ∧ (j (a.cast h.1.symm)).val * strides a + ((⟨s.rank, window⟩ : Shape).rowMajor.symm n a).val - lo a < s.size a
          then x (fun a => ⟨(j (a.cast h.1.symm)).val * strides a + ((⟨s.rank, window⟩ : Shape).rowMajor.symm n a).val - lo a, (hin a).2⟩)
          else init (Shape.Idx.first hu)) (List.finRange _) (init (Shape.Idx.first hu))
  refine Eq.trans ?_ (e.trans ?_)
  · unfold Host.reduceWindowAdd
    rw [Ideal.hostReduceWindowAdd_def]
    unfold Ideal.hostReduceWindowAdd Host.reduceWindow
    dsimp only
    congr 1
    funext r n
    congr 1
    split_ifs <;> rfl
  · rw [h0, zero_add, ← Fin.sum_univ_def]
    exact Equiv.sum_comp (⟨s.rank, window⟩ : Shape).rowMajor.symm (fun w : (⟨s.rank, window⟩ : Shape).Idx =>
      if hin : ∀ a, lo a ≤ (j (a.cast h.1.symm)).val * strides a + (w a).val
              ∧ (j (a.cast h.1.symm)).val * strides a + (w a).val - lo a < s.size a
          then x (fun a => ⟨(j (a.cast h.1.symm)).val * strides a + (w a).val - lo a, (hin a).2⟩) else (0 : EReal))

/-- The sum over a window that ends at place `s`, its places before the first skipped, is the sum up to place `s`. -/
theorem window_upto (g : Fin 64 → EReal) (s : Fin 64) (G : Fin 64 → EReal)
    (hin : ∀ w : Fin 64, ∀ h : 63 ≤ s.val + w.val, G w = g ⟨s.val + w.val - 63, by omega⟩)
    (hout : ∀ w : Fin 64, s.val + w.val < 63 → G w = 0) : ∑ w, G w = upto g s.val := by
  unfold upto
  rw [← Equiv.sum_comp (Equiv.addRight (s + 1)) (fun j : Fin 64 => if j.val ≤ s.val then g j else 0)]
  refine Finset.sum_congr rfl fun w _ => ?_
  have hv : (Equiv.addRight (s + 1) w).val = (w.val + (s.val + 1)) % 64 := by
    show (w + (s + 1)).val = _
    rw [Fin.val_add, Fin.val_add]
    show (w.val + (s.val + 1) % 64) % 64 = _
    omega
  by_cases h : 63 ≤ s.val + w.val
  · rw [hin w h, if_pos (by rw [hv]; omega)]
    congr 1
    apply Fin.ext
    rw [hv]
    simp only
    omega
  · rw [hout w (by omega), if_neg (by rw [hv]; omega)]

/-- A float cumulative sum along the fourth axis of five, read at an index. -/
theorem cumsum_apply (x : FVec Ideal ⟨5, ![8, 4, 64, 64, 128]⟩ .f32) (init : FVec Ideal ⟨0, ![]⟩ .f32)
    (hr : (⟨5, ![8, 4, 64, 64, 128]⟩ : Shape).ReduceWindows ![1, 1, 1, 64, 1] ![1, 1, 1, 1, 1] ![0, 0, 0, 63, 0] ![0, 0, 0, 0, 0] ⟨5, ![8, 4, 64, 64, 128]⟩)
    (hu : 0 < (⟨0, ![]⟩ : Shape).numel) (h0 : init (Shape.Idx.first hu) = (0 : EReal))
    (b : Fin 8) (h : Fin 4) (n s : Fin 64) (k : Fin 128) :
    Host.reduceWindowAdd ![1, 1, 1, 64, 1] ![1, 1, 1, 1, 1] ![0, 0, 0, 63, 0] ![0, 0, 0, 0, 0] x init hr hu (ix5 b h n s k)
      = upto (fun i => x (ix5 b h n i k)) s.val := by
  rw [window_sum _ _ _ _ _ _ _ _ h0]
  refine (sum_idx5 (n0 := 1) (n1 := 1) (n2 := 1) (n3 := 64) (n4 := 1) _).trans ?_
  simp only [Finset.univ_unique, Finset.sum_singleton]
  refine window_upto _ s _ (fun w hw => ?_) (fun w hw => ?_)
  · rw [dif_pos]
    · congr 1
      funext a
      fin_cases a <;> apply Fin.ext <;> simp [ix5]
    · intro a
      fin_cases a <;> simp [ix5] <;> omega
  · rw [dif_neg]
    intro hc
    have := (hc 3).1
    simp [ix5] at this
    omega

/-- A float cumulative sum of two rows, read in the first: the first row. -/
theorem cumsum_first (x : FVec Ideal ⟨2, ![2, 512]⟩ .f32) (init : FVec Ideal ⟨0, ![]⟩ .f32)
    (hr : (⟨2, ![2, 512]⟩ : Shape).ReduceWindows ![2, 1] ![1, 1] ![1, 0] ![0, 0] ⟨2, ![2, 512]⟩)
    (hu : 0 < (⟨0, ![]⟩ : Shape).numel) (h0 : init (Shape.Idx.first hu) = (0 : EReal)) (k : Fin 512) :
    Host.reduceWindowAdd ![2, 1] ![1, 1] ![1, 0] ![0, 0] x init hr hu (ix2 0 k) = x (ix2 0 k) := by
  rw [window_sum _ _ _ _ _ _ _ _ h0]
  refine (sum_idx2 (n0 := 2) (n1 := 1) _).trans ?_
  simp only [Finset.univ_unique, Finset.sum_singleton, Fin.sum_univ_two]
  rw [dif_neg, dif_pos, zero_add]
  · congr 1
    funext a
    fin_cases a <;> apply Fin.ext <;> simp [ix2]
  · intro a
    fin_cases a <;> simp [ix2]
  · intro hc
    have := (hc 0).1
    simp [ix2] at this

end Cert.Hg

end
-- ==== Proof.HgRefA.lean ====
/- What the reference computes before its loop, read at an index over the extended reals: the recurrence's parts. -/
module

public import proofs.«01_k».proof.Proof.RefRun
public import proofs.«01_k».proof.Proof.HgSeq
public import proofs.«01_k».proof.Proof.HgWindow

@[expose] public section

set_option maxRecDepth 16384

noncomputable section

namespace Cert.ReferenceIdeal.Hg

open Cert.Hg Cert.ReferenceIdeal Cert.ReferenceIdeal.Gen Cert.ReferenceIdeal.Step Idealize.ShloMosaic Idealize.ShloMosaic.TcCoe Idealize.SL.Sem
open scoped BigOperators

variable (x0 : FVec Ideal S8x4096x2048 .bf16) (x1 : FVec Ideal S2x512 .f32) (x2 : FVec Ideal S1x128 .f32)

/-- Sequence `b` of the arguments. -/
def seq (b : Fin 8) : Seq := seqOf (fun t k => x0 (ix3 b t k)) (fun r k => x1 (ix2 r k)) (fun v => x2 (ix2 0 v))

/-- Row `s` of chunk `n`. -/
abbrev row (n s : Fin 64) : Fin 4096 := ⟨n.val * 64 + s.val, by omega⟩

/-- Column `k` of head `h`. -/
abbrev col (h : Fin 4) (k : Fin 128) : Fin 512 := ⟨h.val * 128 + k.val, by omega⟩

theorem lower_apply (k : Fin 512) : A_main_v13 (F := Ideal) x0 x1 (ix1 k) = (seq x0 x1 x2 0).l k := by
  unfold seq
  rw [seqOf_l k.isLt]
  pointwise [A_main_v13, A_main_v12]
  unfold A_main_v11
  rw [cumsum_first]
  · pointwise [A_main_v10, A_main_v9, A_main_v8, A_main_v7, A_main_v6, A_main_v5, A_main_v4, A_main_v3, A_main_v2, A_main_v0, K_main_cst, K_main_cst_0,
      K_main_cst_1, K_main_v1, low, fold_max_two, Fin.sum_univ_two]
    rw [max_eq_right (le_max_of_le_right (le_max_right (x1 (ix2 1 k)) _))]
  · pointwise [K_main_call0_call0_v0, K_main_call0_call0_cst]

/-- The gate at a step and a key coordinate. -/
theorem gate_apply (b : Fin 8) (n s : Fin 64) (k : Fin 512) :
    A_main_v33 (F := Ideal) x0 x1 (ix3 b (row n s) k) = (seq x0 x1 x2 b).f n s k := by
  have hl : (seq x0 x1 x2 b).l k = A_main_v13 (F := Ideal) x0 x1 (ix1 k) := (lower_apply x0 x1 x2 k).symm
  have hx : (seq x0 x1 x2 b).X (64 * n + s) (512 + k) = x0 (ix3 b (row n s) ⟨512 + k, by omega⟩) := by
    rw [mul_comm]; exact seqOf_X (by omega) (by omega)
  unfold Seq.f
  rw [hl, hx]
  pointwise [A_main_v33, A_main_v32, A_main_v31, A_main_v30, A_main_v29, A_main_v28, A_main_v27, A_main_v25, A_main_v23, A_main_v22, A_main_v21, A_main_v17, A_main_v16,
    K_main_v20, K_main_cst_2, K_main_v24, K_main_cst_3, K_main_v26, K_main_cst_4, Ideal.logistic, Ideal.ofBits_one_f32]

/-- The gate at a head's key coordinate. -/
theorem gate_head (b : Fin 8) (h : Fin 4) (n s : Fin 64) (k : Fin 128) :
    (seq x0 x1 x2 b).f n s (128 * h + k) = A_main_v33 (F := Ideal) x0 x1 (ix3 b (row n s) (col h k)) := by
  rw [gate_apply x0 x1 x2, mul_comm 128 h.val]

/-- A column of the projections at a head's coordinate. -/
theorem seq_X (b : Fin 8) (h : Fin 4) (n s : Fin 64) (k : Fin 128) (d : ℕ) (hd : d ≤ 1536) :
    (seq x0 x1 x2 b).X (64 * n + s) (d + 128 * h + k) = x0 (ix3 b (row n s) ⟨d + (col h k).val, by omega⟩) := by
  rw [mul_comm 64 n.val, mul_comm 128 h.val, add_assoc]
  exact seqOf_X (row n s).isLt (by omega)

/-- The logarithms of the gate, split into chunks and heads. -/
theorem log_apply (b : Fin 8) (h : Fin 4) (n s : Fin 64) (k : Fin 128) :
    A_main_v44 (F := Ideal) x0 x1 (ix5 b h n s k) = Ideal.log ((seq x0 x1 x2 b).f n s (128 * h + k)) := by
  rw [gate_head]
  pointwise [A_main_v44, A_main_v43, A_main_v42]

end Cert.ReferenceIdeal.Hg

end
-- ==== Proof.HgRef.lean ====
/- What the reference computes before its loop, read at an index over the extended reals: the recurrence's parts. -/
module

public import proofs.«01_k».proof.Proof.HgRefA
public import Idealize.ShloMosaic.Lib.WordCmp

@[expose] public section

set_option maxRecDepth 16384

noncomputable section

namespace Cert.ReferenceIdeal.Hg

open Cert.Hg Cert.ReferenceIdeal Cert.ReferenceIdeal.Gen Cert.ReferenceIdeal.Step Idealize.ShloMosaic Idealize.ShloMosaic.TcCoe Idealize.SL.Sem
open scoped BigOperators

variable (x0 : FVec Ideal S8x4096x2048 .bf16) (x1 : FVec Ideal S2x512 .f32) (x2 : FVec Ideal S1x128 .f32)

/-- Their sums up to a step of the chunk. -/
theorem sums_apply (b : Fin 8) (h : Fin 4) (n s : Fin 64) (k : Fin 128) :
    A_main_v45 (F := Ideal) x0 x1 (ix5 b h n s k) = (seq x0 x1 x2 b).B n s (128 * h + k) := by
  unfold A_main_v45
  rw [cumsum_apply]
  · unfold Seq.B
    simp only [log_apply x0 x1 x2]
  · pointwise [K_main_call1_call0_v0, K_main_call1_call0_cst]

/-- The decayed query. -/
theorem query_apply (b : Fin 8) (h : Fin 4) (n s : Fin 64) (k : Fin 128) :
    A_main_v48 (F := Ideal) x0 x1 (ix5 b h n s k) = (seq x0 x1 x2 b).Q n s (128 * h + k) := by
  have hx := seq_X x0 x1 x2 b h n s k 0 (by omega)
  simp only [zero_add] at hx
  unfold Seq.Q
  rw [hx]
  pointwise [A_main_v48, A_main_v47, A_main_v37, A_main_v36, A_main_v15, A_main_v14, sums_apply x0 x1 x2]

/-- The complement of the gate. -/
theorem compl_apply (b : Fin 8) (r : Fin 4096) (k : Fin 512) :
    A_main_v35 (F := Ideal) x0 x1 (ix3 b r k) = 1 - A_main_v33 (F := Ideal) x0 x1 (ix3 b r k) := by
  pointwise [A_main_v35, K_main_v34, K_main_cst_5, Ideal.ofBits_one_f32]

/-- The key, split into chunks and heads. -/
theorem unit_apply (b : Fin 8) (h : Fin 4) (n s : Fin 64) (k : Fin 128) :
    A_main_v39 (F := Ideal) x0 x1 (ix5 b h n s k) = A_main_v35 (F := Ideal) x0 x1 (ix3 b (row n s) (col h k)) := by
  pointwise [A_main_v39, A_main_v38]

/-- A product with an exponential of an opposite, at an index. -/
theorem mul_exp_neg (a b : FVec Ideal S8x4x64x64x128 .f32) (i : S8x4x64x64x128.Idx) : mulf a (Host.exp (Host.negf b)) i = a i * Ideal.exp (-(b i)) := rfl

/-- A product with an exponential of a difference, at an index. -/
theorem mul_exp_sub (a c b : FVec Ideal S8x4x64x64x128 .f32) (i : S8x4x64x64x128.Idx) : mulf a (Host.exp (subf c b)) i = a i * Ideal.exp (c i - b i) := rfl

/-- The key divided by its decay. -/
theorem key_apply (b : Fin 8) (h : Fin 4) (n s : Fin 64) (k : Fin 128) :
    A_main_v51 (F := Ideal) x0 x1 (ix5 b h n s k) = (seq x0 x1 x2 b).K n s (128 * h + k) := by
  unfold Seq.K
  rw [gate_head, ← compl_apply, ← unit_apply, ← sums_apply]
  unfold A_main_v51 A_main_v50 A_main_v49
  exact mul_exp_neg _ _ _

/-- The decays of a whole chunk, at each of its steps. -/
theorem whole_apply (b : Fin 8) (h : Fin 4) (n s : Fin 64) (k : Fin 128) :
    A_main_v57 (F := Ideal) x0 x1 (ix5 b h n s k) = (seq x0 x1 x2 b).B n 63 (128 * h + k) := by
  have e : A_main_v45 (F := Ideal) x0 x1 (ix5 b h n 63 k) = (seq x0 x1 x2 b).B n 63 (128 * h + k) := sums_apply x0 x1 x2 b h n 63 k
  rw [← e]
  pointwise [A_main_v57, A_main_v46]

/-- The key decayed to the chunk's end. -/
theorem tail_apply (b : Fin 8) (h : Fin 4) (n s : Fin 64) (k : Fin 128) :
    A_main_v60 (F := Ideal) x0 x1 (ix5 b h n s k) = (seq x0 x1 x2 b).Kt n s (128 * h + k) := by
  unfold Seq.Kt
  rw [gate_head, ← compl_apply, ← unit_apply, ← sums_apply, ← whole_apply x0 x1 x2 b h n s k]
  unfold A_main_v60 A_main_v59 A_main_v58
  exact mul_exp_sub _ _ _ _

/-- The value. -/
theorem value_apply (b : Fin 8) (h : Fin 4) (n s : Fin 64) (v : Fin 128) :
    A_main_v41 (F := Ideal) x0 x1 (ix5 b h n s v) = (seq x0 x1 x2 b).V n s (128 * h + v) := by
  have hx := seq_X x0 x1 x2 b h n s v 1024 (by omega)
  rw [add_assoc] at hx
  unfold Seq.V
  rw [hx]
  pointwise [A_main_v41, A_main_v40, A_main_v19, A_main_v18]

/-- The causal mask. -/
theorem mask_apply (b : Fin 8) (h : Fin 4) (n s t : Fin 64) :
    (K_main_call3_v1 (F := Ideal)) (ix5 b h n s t) = if t.val ≤ s.val then 1#1 else 0#1 := by
  have e : ∀ s t : Fin 64, (K_main_v53 (F := Ideal)) (ix2 s t) = if t.val ≤ s.val then 1#1 else 0#1 := by
    intro s t
    have z : IntOp.addi (BitVec.ofNat 32 s.val) 0#32 = BitVec.ofNat 32 s.val := BitVec.add_zero _
    pointwise [K_main_v53, K_main_v52, K_main_c, K_main_call2_v4, K_main_call2_v5, K_main_call2_c_0, K_main_call2_v3, K_main_call2_v2, K_main_call2_v1, K_main_call2_c, K_main_call2_v0]
    rw [z, WordCmp.cmpi_sge_ofNat (by omega) (by omega)]
    by_cases q : t.val ≤ s.val
    · rw [decide_eq_true q, if_pos q]; rfl
    · rw [decide_eq_false q, if_neg q]; rfl
  rw [← e]
  pointwise [K_main_call3_v1]

/-- What stands where the mask is off. -/
theorem off_apply (b : Fin 8) (h : Fin 4) (n s t : Fin 64) : (K_main_call3_v2 (F := Ideal)) (ix5 b h n s t) = 0 := by
  have e : K_main_call3_v0 (F := Ideal) = K_main_cst_6 (F := Ideal) := rfl
  unfold K_main_call3_v2
  rw [e]
  pointwise [K_main_cst_6]

/-- The causal scores of a chunk. -/
theorem score_apply (b : Fin 8) (h : Fin 4) (n s t : Fin 64) :
    A_main_v55 (F := Ideal) x0 x1 (ix5 b h n s t) = (seq x0 x1 x2 b).A n h s t := by
  unfold Seq.A
  pointwise [A_main_v55, A_main_v54, off_apply, query_apply x0 x1 x2, key_apply x0 x1 x2, mask_apply]
  by_cases q : t.val ≤ s.val
  · rw [if_pos q, if_pos q]; rfl
  · rw [if_neg q, if_neg q]; rfl

/-- What a chunk gives from itself. -/
theorem intra_apply (n : Fin 64) (b : Fin 8) (h : Fin 4) (s : Fin 64) (v : Fin 128) :
    A_main_v56 (F := Ideal) x0 x1 (ix5 n b h s v) = ∑ t : Fin 64, (seq x0 x1 x2 b).A n h s t * (seq x0 x1 x2 b).V n t (128 * h + v) := by
  pointwise [A_main_v56, score_apply x0 x1 x2, value_apply x0 x1 x2]

/-- What a chunk adds to the state. -/
theorem added_apply (n : Fin 64) (b : Fin 8) (h : Fin 4) (k v : Fin 128) :
    A_main_v61 (F := Ideal) x0 x1 (ix5 n b h k v) = ∑ t : Fin 64, (seq x0 x1 x2 b).Kt n t (128 * h + k) * (seq x0 x1 x2 b).V n t (128 * h + v) := by
  pointwise [A_main_v61, tail_apply x0 x1 x2, value_apply x0 x1 x2]

/-- The decay of the state over a chunk. -/
theorem decay_apply (n : Fin 64) (b : Fin 8) (h : Fin 4) (k : Fin 128) :
    A_main_v64 (F := Ideal) x0 x1 (ix4 n b h k) = Ideal.exp ((seq x0 x1 x2 b).B n 63 (128 * h + k)) := by
  have e : A_main_v45 (F := Ideal) x0 x1 (ix5 b h n 63 k) = (seq x0 x1 x2 b).B n 63 (128 * h + k) := sums_apply x0 x1 x2 b h n 63 k
  rw [← e]
  pointwise [A_main_v64, A_main_v63, A_main_v62, A_main_v46]

/-- The decayed query, chunks first. -/
theorem chunk_apply (n : Fin 64) (b : Fin 8) (h : Fin 4) (s : Fin 64) (k : Fin 128) :
    A_main_v66 (F := Ideal) x0 x1 (ix5 n b h s k) = (seq x0 x1 x2 b).Q n s (128 * h + k) := by
  pointwise [A_main_v66, query_apply x0 x1 x2]

end Cert.ReferenceIdeal.Hg

end
-- ==== Proof.HgLoop.lean ====
/- The reference's loop over the chunks: after `n` trips its state and its finished rows are the recurrence's. -/
module

public import proofs.«01_k».proof.Proof.HgRef
public import Idealize.ShloMosaic.Lib.WordCmp

@[expose] public section

set_option maxRecDepth 16384

noncomputable section

namespace Cert.ReferenceIdeal.Hg

open Cert.Hg Cert.ReferenceIdeal Cert.ReferenceIdeal.Gen Cert.ReferenceIdeal.Step Idealize.ShloMosaic Idealize.ShloMosaic.TcCoe Idealize.SL.Sem
open scoped BigOperators

/-- The trip's number as a signed word. -/
theorem word_int {j : ℕ} (h : j < 64) : (BitVec.ofNat 32 j).toInt = (j : ℤ) := by
  rw [BitVec.toInt_eq_toNat_of_lt] <;> simp only [BitVec.toNat_ofNat] <;> omega

variable (s : State Ideal) {j : ℕ} (hj : j < 64)

/-- The trip's decay. -/
theorem b4_apply (b : Fin 8) (h : Fin 4) (k : Fin 128) : b4 j s (ix3 b h k) = s.main_v68_0 (ix4 ⟨j, hj⟩ b h k) := by
  have hk : S64x8x4x128.Slices ![j, 0, 0, 0] S1x8x4x128 := ⟨rfl, fun a => by fin_cases a <;> simp [S64x8x4x128, S1x8x4x128] <;> omega⟩
  unfold b4 b3
  rw [WordCmp.dynamicSlice_eq_extract _ _ _ _ _ hk (by intro a; fin_cases a <;> first | exact word_int hj | rfl)]
  pointwise []

/-- What the trip adds to the state. -/
theorem b10_apply (b : Fin 8) (h : Fin 4) (k v : Fin 128) : b10 j s (ix4 b h k v) = s.main_v68_1 (ix5 ⟨j, hj⟩ b h k v) := by
  have hk : S64x8x4x128x128.Slices ![j, 0, 0, 0, 0] S1x8x4x128x128 := ⟨rfl, fun a => by fin_cases a <;> simp [S64x8x4x128x128, S1x8x4x128x128] <;> omega⟩
  unfold b10 b9
  rw [WordCmp.dynamicSlice_eq_extract _ _ _ _ _ hk (by intro a; fin_cases a <;> first | exact word_int hj | rfl)]
  pointwise []

/-- The trip's query. -/
theorem b16_apply (b : Fin 8) (h : Fin 4) (t : Fin 64) (k : Fin 128) : b16 j s (ix4 b h t k) = s.main_v68_2 (ix5 ⟨j, hj⟩ b h t k) := by
  have hk : S64x8x4x64x128.Slices ![j, 0, 0, 0, 0] S1x8x4x64x128 := ⟨rfl, fun a => by fin_cases a <;> simp [S64x8x4x64x128, S1x8x4x64x128] <;> omega⟩
  unfold b16 b15
  rw [WordCmp.dynamicSlice_eq_extract _ _ _ _ _ hk (by intro a; fin_cases a <;> first | exact word_int hj | rfl)]
  pointwise []

/-- What the trip's chunk gives from itself. -/
theorem b22_apply (b : Fin 8) (h : Fin 4) (t : Fin 64) (k : Fin 128) : b22 j s (ix4 b h t k) = s.main_v68_3 (ix5 ⟨j, hj⟩ b h t k) := by
  have hk : S64x8x4x64x128.Slices ![j, 0, 0, 0, 0] S1x8x4x64x128 := ⟨rfl, fun a => by fin_cases a <;> simp [S64x8x4x64x128, S1x8x4x64x128] <;> omega⟩
  unfold b22 b21
  rw [WordCmp.dynamicSlice_eq_extract _ _ _ _ _ hk (by intro a; fin_cases a <;> first | exact word_int hj | rfl)]
  pointwise []

/-- The state after a trip. -/
theorem b26_apply (b : Fin 8) (h : Fin 4) (k v : Fin 128) :
    b26 j s (ix4 b h k v) = s.main_v68_0 (ix4 ⟨j, hj⟩ b h k) * s.main_v68_5 (ix4 b h k v) + s.main_v68_1 (ix5 ⟨j, hj⟩ b h k v) := by
  pointwise [b26, b25, b24, b23, b4_apply s hj, b10_apply s hj]

/-- A trip's row of the output. -/
theorem b28_apply (b : Fin 8) (h : Fin 4) (t : Fin 64) (v : Fin 128) :
    b28 j s (ix4 b h t v) = s.main_v68_3 (ix5 ⟨j, hj⟩ b h t v) + ∑ k : Fin 128, s.main_v68_2 (ix5 ⟨j, hj⟩ b h t k) * s.main_v68_5 (ix4 b h k v) := by
  pointwise [b28, b27, b16_apply s hj, b22_apply s hj]

include hj in
/-- The rows of the output after a trip: the trip's own row, and the others as they were. -/
theorem b34_apply (i : Fin 64) (b : Fin 8) (h : Fin 4) (t : Fin 64) (v : Fin 128) :
    b34 j s (ix5 i b h t v) = if i.val = j then b28 j s (ix4 b h t v) else s.main_v68_6 (ix5 i b h t v) := by
  have hk : S64x8x4x64x128.Slices ![j, 0, 0, 0, 0] S1x8x4x64x128 := ⟨rfl, fun a => by fin_cases a <;> simp [S64x8x4x64x128, S1x8x4x64x128] <;> omega⟩
  unfold b34
  rw [WordCmp.dynamicUpdateSlice_eq_update _ _ _ _ _ hk (by intro a; fin_cases a <;> first | exact word_int hj | rfl)]
  unfold b29
  generalize b28 j s = x
  pointwise []
  by_cases q : i.val = j
  · rw [if_pos q, dif_pos (by omega)]
  · rw [if_neg q, dif_neg (by omega)]

variable (x0 : FVec Ideal S8x4096x2048 .bf16) (x1 : FVec Ideal S2x512 .f32) (x2 : FVec Ideal S1x128 .f32)

/-- What `n` trips have made of the state: the loop's inputs are what they were, the carried state is the recurrence's state before chunk
    `n`, and the rows of the chunks before `n` are finished. -/
structure Upto (s : State Ideal) (n : ℕ) : Prop where
  decay : s.main_v68_0 = A_main_v64 (F := Ideal) x0 x1
  added : s.main_v68_1 = A_main_v61 (F := Ideal) x0 x1
  query : s.main_v68_2 = A_main_v66 (F := Ideal) x0 x1
  intra : s.main_v68_3 = A_main_v56 (F := Ideal) x0 x1
  state : ∀ (b : Fin 8) (h : Fin 4) (k v : Fin 128), s.main_v68_5 (ix4 b h k v) = (seq x0 x1 x2 b).S h n k v
  rows : ∀ (i : Fin 64) (b : Fin 8) (h : Fin 4) (t : Fin 64) (v : Fin 128), i.val < n → s.main_v68_6 (ix5 i b h t v) = (seq x0 x1 x2 b).O h i t v

/-- Before the first trip. -/
theorem upto_init : Upto x0 x1 x2 (init x0 x1) 0 where
  decay := rfl
  added := rfl
  query := rfl
  intra := rfl
  state b h k v := by
    show K_main_v65 (F := Ideal) (ix4 b h k v) = 0
    pointwise [K_main_v65, K_main_cst_7]
  rows i b h t v hi := absurd hi (Nat.not_lt_zero _)

variable {x0 x1 x2}

/-- One trip. -/
theorem Upto.step {s : State Ideal} {n : ℕ} (hn : n < 64) (U : Upto x0 x1 x2 s n) : Upto x0 x1 x2 (step n s) (n + 1) where
  decay := U.decay
  added := U.added
  query := U.query
  intra := U.intra
  state b h k v := by
    rw [step_main_v68_5, b26_apply s hn, U.decay, U.added, U.state, decay_apply x0 x1 x2, added_apply x0 x1 x2, mul_comm]
    exact congrArg _ (Finset.sum_congr rfl fun t _ => mul_comm _ _)
  rows i b h t v hi := by
    rw [step_main_v68_6, b34_apply s hn]
    by_cases q : i.val = n
    · obtain rfl : i = ⟨n, hn⟩ := Fin.ext q
      rw [if_pos q, b28_apply s hn, U.query, U.intra, intra_apply x0 x1 x2]
      simp only [chunk_apply x0 x1 x2, U.state]
      rfl
    · rw [if_neg q]
      exact U.rows i b h t v (by omega)

variable (x0 x1 x2)

/-- Any number of trips. -/
theorem upto_iter : ∀ n : ℕ, n ≤ 64 → Upto x0 x1 x2 (iter x0 x1 n) n
  | 0, _ => upto_init x0 x1 x2
  | n + 1, h => (upto_iter n (by omega)).step (by omega)

end Cert.ReferenceIdeal.Hg

end
-- ==== Proof.HgOut.lean ====
/- The reference's result at an index. -/
module

public import proofs.«01_k».proof.Proof.HgLoop

@[expose] public section

set_option maxRecDepth 16384

noncomputable section

namespace Cert.ReferenceIdeal.Hg

open Cert.Hg Cert.ReferenceIdeal Cert.ReferenceIdeal.Gen Cert.ReferenceIdeal.Step Idealize.ShloMosaic Idealize.ShloMosaic.TcCoe Idealize.SL.Sem
open scoped BigOperators

/-- The normed and gated output at an index, of the loop's rows. -/
theorem out_apply (s : State Ideal) (x0 : FVec Ideal S8x4096x2048 .bf16) (x2 : FVec Ideal S1x128 .f32) (b : Fin 8) (t : Fin 4096) (k : Fin 512) (o : Fin 128 → EReal)
    (ho : ∀ v : Fin 128, s.main_v68_6 (ix5 ⟨t / 64, by omega⟩ b ⟨k / 128, by omega⟩ ⟨t % 64, by omega⟩ v) = o v) :
    R_main_v91 s x0 x2 (ix3 b t k)
      = o ⟨k % 128, by omega⟩ * Ideal.rsqrt (Ideal.div (∑ u, o u * o u) (Ideal.ofBits .f32 0x43000000#32) + Ideal.ofBits .f32 0x358637BD#32) * x2 (ix2 0 ⟨k % 128, by omega⟩)
        * (x0 (ix3 b t ⟨1536 + k, by omega⟩) * Ideal.logistic (x0 (ix3 b t ⟨1536 + k, by omega⟩))) := by
  generalize hw : s.main_v68_6 = w at ho
  unfold R_main_v91
  rw [hw]
  pointwise [Ideal.logistic, Ideal.ofBits_one_f32]
  simp only [ho]

/-- The reference's result at an index, of the recurrence. -/
theorem result_apply (x0 : FVec Ideal S8x4096x2048 .bf16) (x1 : FVec Ideal S2x512 .f32) (x2 : FVec Ideal S1x128 .f32) (b : Fin 8) (t : Fin 4096) (k : Fin 512) :
    (R_main_v91 (F := Ideal) (iter x0 x1 64) x0 x2) (ix3 b t k) = (seq x0 x1 x2 b).Y (k / 128) (t / 64) (t % 64) (k % 128) := by
  have U := upto_iter x0 x1 x2 64 le_rfl
  have ht : 64 * (t.val / 64) + t.val % 64 = t.val := Nat.div_add_mod _ _
  have hk : 1536 + 128 * (k.val / 128) + k.val % 128 = 1536 + k.val := by omega
  have hx : (seq x0 x1 x2 b).X (64 * (t.val / 64) + t.val % 64) (1536 + 128 * (k.val / 128) + k.val % 128) = x0 (ix3 b t ⟨1536 + k, by omega⟩) := by
    rw [ht, hk]; exact seqOf_X t.isLt (by omega)
  have hw : (seq x0 x1 x2 b).w (k.val % 128) = x2 (ix2 0 ⟨k % 128, by omega⟩) := seqOf_w (by omega)
  rw [out_apply _ x0 x2 b t k (fun v => (seq x0 x1 x2 b).O (k / 128) (t / 64) (t % 64) v)
    (fun v => U.rows ⟨t / 64, by omega⟩ b ⟨k / 128, by omega⟩ ⟨t % 64, by omega⟩ v (by show t.val / 64 < 64; omega))]
  unfold Seq.Y
  rw [hx, hw]

end Cert.ReferenceIdeal.Hg

end
-- ==== Proof.HgClaim.lean ====
/- The claims about the recurrence: its runs, and that the kernel and the reference end with equal results. -/
module

public import proofs.«01_k».proof.Defs
public import proofs.«01_k».proof.Proof.HgValue
public import proofs.«01_k».proof.Proof.HgOut
public import proofs.«01_k».proof.Proof.Gen.Kernel.Frame
public import proofs.«01_k».proof.Proof.Gen.KernelIdeal.Frame
public import Idealize.ShloMosaic.Adequacy

@[expose] public section

noncomputable section

namespace Cert.HgClaim

open Idealize.ShloMosaic Idealize.ShloMosaic.TcCoe Idealize.SL.Sem

/-- The reference runs, leaves its arguments, and declares no semaphore. -/
theorem frame_reference : Cert.quiescent_ReferenceIdeal := fun m ρ _ =>
  (θ_run Cert.ReferenceIdeal.defs _ _).mono (fun r h => ⟨fun c => (h c).2, sem_eq_zero_of_no_sems (by decide) r.2⟩) (Cert.ReferenceIdeal.Hg.run (F := Ideal) m ρ)

/-- The two results are one array where the arguments agree: at every index the recurrence's row, normed and gated. -/
theorem agree (m : (ℓ : Loc Cert.KernelIdeal.nD Cert.KernelIdeal.τ Cert.KernelIdeal.sig) → Buf (Elt Ideal) ℓ) (c : Dev Cert.KernelIdeal.nD)
    (x0 : FVec Ideal Cert.ReferenceIdeal.S8x4096x2048 .bf16) (x1 : FVec Ideal Cert.ReferenceIdeal.S2x512 .f32) (x2 : FVec Ideal Cert.ReferenceIdeal.S1x128 .f32)
    (h0 : x0 = m ((c.tc : Thread Cert.KernelIdeal.nD Cert.KernelIdeal.τ).loc Cert.KernelIdeal.main_arg0))
    (h1 : x1 = m ((c.tc : Thread Cert.KernelIdeal.nD Cert.KernelIdeal.τ).loc Cert.KernelIdeal.main_arg1))
    (h2 : x2 = m ((c.tc : Thread Cert.KernelIdeal.nD Cert.KernelIdeal.τ).loc Cert.KernelIdeal.main_arg2)) :
    Cert.ReferenceIdeal.Step.R_main_v91 (F := Ideal) (Cert.ReferenceIdeal.Hg.iter x0 x1 64) x0 x2 = Cert.KernelIdeal.Value.G3 m c := by
  funext z
  idx_vars z
  refine (Cert.ReferenceIdeal.Hg.result_apply x0 x1 x2 z0 z1 z2).trans ?_
  refine Eq.trans ?_ (Cert.KernelIdeal.Hg.result m c z0 z1 z2).symm
  subst h0 h1 h2
  rfl

/-- Kernel and reference over the extended reals. -/
theorem algebraic : Cert.algebraic_KernelIdeal_ReferenceIdeal := by
  intro m ρ m' ρ' _ hagree
  refine ⟨fun c => Cert.KernelIdeal.Value.G3 m c, Cert.KernelIdeal.Value.run (F := Ideal) m ρ, ?_⟩
  refine (θ_run Cert.ReferenceIdeal.defs _ _).mono (fun _ h c => ⟨(h c).1.trans ?_, (h c).2⟩) (Cert.ReferenceIdeal.Hg.run (F := Ideal) m' ρ')
  exact agree m c _ _ _ (hagree c).1 (hagree c).2.1 (hagree c).2.2

end Cert.HgClaim

end
-- ==== Proof.TlSpec.lean ====
/- The layer's end at one token, in plain extended reals: the gated merge of the two mixers, the output projection and
   residual, the feed-forward block and residual, and the last norm. -/
module

public import Idealize.ShloMosaic.Lib.Pipeline.ValueKit

@[expose] public section

noncomputable section

open Idealize.ShloMosaic
open scoped BigOperators

namespace Cert.Tl

/-- A token's rows and the layer's parameters. -/
structure Tok where
  x : Fin 1024 → EReal
  a : Fin 512 → EReal
  b : Fin 512 → EReal
  g : Fin 2048 → EReal
  wa : Fin 512 → Fin 1024 → EReal
  wb : Fin 512 → Fin 1024 → EReal
  wo : Fin 1024 → Fin 1024 → EReal
  n2 : Fin 1024 → EReal
  w1 : Fin 1024 → Fin 4096 → EReal
  w2 : Fin 4096 → Fin 1024 → EReal
  nf : Fin 1024 → EReal

/-- The mean of the squares of a row. -/
def msq (v : Fin 1024 → EReal) : EReal := Ideal.div (∑ u, v u * v u) (Ideal.ofBits .f32 0x44800000#32)

/-- The root mean square norm of a row, scaled. -/
def rms (v w : Fin 1024 → EReal) (j : Fin 1024) : EReal :=
  v j * Ideal.rsqrt (msq v + Ideal.ofBits .f32 0x358637BD#32) * w j

namespace Tok

variable (T : Tok)

/-- The two mixers' projections, each under its gate. -/
def merged (j : Fin 1024) : EReal :=
  Ideal.logistic (T.g ⟨j, by omega⟩) * ∑ k, T.a k * T.wa k j + Ideal.logistic (T.g ⟨1024 + j, by omega⟩) * ∑ k, T.b k * T.wb k j

/-- The residual stream after the mixers. -/
def h (j : Fin 1024) : EReal := T.x j + ∑ k, T.merged k * T.wo k j

/-- The normed stream the feed-forward block reads. -/
def hn (j : Fin 1024) : EReal := rms T.h T.n2 j

/-- A hidden unit: the positive part of its projection, squared. -/
def act (f : Fin 4096) : EReal := max (∑ k, T.hn k * T.w1 k f) 0 * max (∑ k, T.hn k * T.w1 k f) 0

/-- The feed-forward block over one quarter of the hidden units. -/
def part (q : ℕ) (hq : q < 4) (j : Fin 1024) : EReal :=
  ∑ f : Fin 1024, T.act ⟨1024 * q + f, by omega⟩ * T.w2 ⟨1024 * q + f, by omega⟩ j

/-- The feed-forward block. -/
def mlp (j : Fin 1024) : EReal := ∑ f, T.act f * T.w2 f j

/-- The layer's result at the token. -/
def out (j : Fin 1024) : EReal := rms (fun u => T.h u + T.mlp u) T.nf j

end Tok

/-- A sum over 4096 in quarters. -/
theorem sum_quarters (s : Fin 4096 → EReal) :
    ∑ f, s f = (∑ f : Fin 1024, s ⟨1024 * 0 + f, by omega⟩) + (∑ f : Fin 1024, s ⟨1024 * 1 + f, by omega⟩)
      + (∑ f : Fin 1024, s ⟨1024 * 2 + f, by omega⟩) + ∑ f : Fin 1024, s ⟨1024 * 3 + f, by omega⟩ := by
  rw [← Fintype.sum_equiv (finProdFinEquiv (m := 4) (n := 1024)) (fun p => s (finProdFinEquiv p)) s (fun _ => rfl),
    Fintype.sum_prod_type, Fin.sum_univ_four]
  refine congr_arg₂ _ (congr_arg₂ _ (congr_arg₂ _ ?_ ?_) ?_) ?_ <;>
    exact Finset.sum_congr rfl fun f _ => congr_arg s (Fin.ext (by simp [finProdFinEquiv, add_comm]))

/-- The block over all the hidden units is the four quarters, added in order. -/
theorem Tok.mlp_eq (T : Tok) (j : Fin 1024) :
    T.mlp j = T.part 0 (by omega) j + T.part 1 (by omega) j + T.part 2 (by omega) j + T.part 3 (by omega) j :=
  sum_quarters _

end Cert.Tl

end
-- ==== Proof.TlRef.lean ====
/- The reference's result at a token, read over the extended reals: the layer's end in plain form. -/
module

public import proofs.«01_k».proof.Proof.Gen.Reference2Ideal.Read
public import proofs.«01_k».proof.Proof.TlSpec

@[expose] public section

set_option maxRecDepth 16384

noncomputable section

namespace Cert.Reference2Ideal.Tl

open Cert.Tl Cert.Reference2Ideal Cert.Reference2Ideal.Read Idealize.ShloMosaic Idealize.ShloMosaic.TcCoe Idealize.SL.Sem
open scoped BigOperators

variable (x0 : Vec Ideal S8x4096x1024 .f32) (x1 : Vec Ideal S8x4096x512 .bf16) (x2 : Vec Ideal S8x512x4096 .bf16) (x3 : Vec Ideal S8x4096x2048 .bf16)
  (x4 x5 : Vec Ideal S1x512x1024 .f32) (x6 : Vec Ideal S1x1024x1024 .f32) (x7 : Vec Ideal S1x1024 .f32) (x8 : Vec Ideal S1x1024x4096 .f32)
  (x9 : Vec Ideal S1x4096x1024 .f32) (x10 : Vec Ideal S1024 .f32) (b : Fin 8) (t : Fin 4096)

/-- The token at a batch row and a position, of the arrays. -/
def tok : Tok where
  x k := x0 (ix3 b t k)
  a k := x1 (ix3 b t k)
  b k := x2 (ix3 b k t)
  g k := x3 (ix3 b t k)
  wa k j := x4 (ix3 0 k j)
  wb k j := x5 (ix3 0 k j)
  wo k j := x6 (ix3 0 k j)
  n2 j := x7 (ix2 0 j)
  w1 k f := x8 (ix3 0 k f)
  w2 f j := x9 (ix3 0 f j)
  nf j := x10 (ix1 j)

/-- The gates. -/
theorem gate (k : Fin 2048) : (val_main_v9 (F := Ideal) x3) (ix3 b t k) = Ideal.logistic (x3 (ix3 b t k)) := by
  pointwise [val_main_v9, val_main_v8, val_main_cst_0, val_main_v7, val_main_v6, val_main_cst, val_main_v5, val_main_v4, val_main_v3,
    Ideal.logistic, Ideal.ofBits_one_f32]

/-- The stream after the mixers. -/
theorem stream (j : Fin 1024) : (val_main_v21 (F := Ideal) x0 x1 x2 x3 x4 x5 x6) (ix3 b t j) = (tok x0 x1 x2 x3 x4 x5 x6 x7 x8 x9 x10 b t).h j := by
  have hg := gate x3 b t
  pointwise [val_main_v21, val_main_v20, val_main_v19, val_main_v18, val_main_v17, val_main_v16, val_main_v15, val_main_v14, val_main_v13,
    val_main_v12, val_main_v11, val_main_v10, val_main_v2, val_main_v1, val_main_v0, hg, Tok.h, Tok.merged, tok]

/-- The normed stream. -/
theorem normed (j : Fin 1024) : (val_main_v35 (F := Ideal) x0 x1 x2 x3 x4 x5 x6 x7) (ix3 b t j) = (tok x0 x1 x2 x3 x4 x5 x6 x7 x8 x9 x10 b t).hn j := by
  have hs := stream x0 x1 x2 x3 x4 x5 x6 x7 x8 x9 x10 b t
  have h7 : ∀ k : Fin 1024, x7 (ix2 0 k) = (tok x0 x1 x2 x3 x4 x5 x6 x7 x8 x9 x10 b t).n2 k := fun _ => rfl
  generalize tok x0 x1 x2 x3 x4 x5 x6 x7 x8 x9 x10 b t = T at hs h7 ⊢
  pointwise [val_main_v35, val_main_v34, val_main_v33, val_main_v32, val_main_v31, val_main_v30, val_main_v29, val_main_v28, val_main_v27,
    val_main_v26, val_main_v25, val_main_v24, val_main_v23, val_main_v22, val_main_cst_1, val_main_cst_2, val_main_cst_3, hs, h7, Tok.hn, rms, msq]

/-- The hidden units. -/
theorem hidden (f : Fin 4096) : (val_main_v39 (F := Ideal) x0 x1 x2 x3 x4 x5 x6 x7 x8) (ix3 b t f) = (tok x0 x1 x2 x3 x4 x5 x6 x7 x8 x9 x10 b t).act f := by
  have hn := normed x0 x1 x2 x3 x4 x5 x6 x7 x8 x9 x10 b t
  have h8 : ∀ (k : Fin 1024) (f : Fin 4096), x8 (ix3 0 k f) = (tok x0 x1 x2 x3 x4 x5 x6 x7 x8 x9 x10 b t).w1 k f := fun _ _ => rfl
  generalize tok x0 x1 x2 x3 x4 x5 x6 x7 x8 x9 x10 b t = T at hn h8 ⊢
  pointwise [val_main_v39, val_main_v38, val_main_v37, val_main_v36, val_main_call0_v0, val_main_call0_cst, hn, h8, Tok.act]

/-- The stream after the feed-forward block. -/
theorem second (j : Fin 1024) : (val_main_v42 (F := Ideal) x0 x1 x2 x3 x4 x5 x6 x7 x8 x9) (ix3 b t j)
    = (tok x0 x1 x2 x3 x4 x5 x6 x7 x8 x9 x10 b t).h j + (tok x0 x1 x2 x3 x4 x5 x6 x7 x8 x9 x10 b t).mlp j := by
  have hs := stream x0 x1 x2 x3 x4 x5 x6 x7 x8 x9 x10 b t
  have ha := hidden x0 x1 x2 x3 x4 x5 x6 x7 x8 x9 x10 b t
  have h9 : ∀ (f : Fin 4096) (k : Fin 1024), x9 (ix3 0 f k) = (tok x0 x1 x2 x3 x4 x5 x6 x7 x8 x9 x10 b t).w2 f k := fun _ _ => rfl
  generalize tok x0 x1 x2 x3 x4 x5 x6 x7 x8 x9 x10 b t = T at hs ha h9 ⊢
  pointwise [val_main_v42, val_main_v41, val_main_v40, hs, ha, h9, Tok.mlp]

/-- The result. -/
theorem result (j : Fin 1024) : (val_main_v55 (F := Ideal) x0 x1 x2 x3 x4 x5 x6 x7 x8 x9 x10) (ix3 b t j) = (tok x0 x1 x2 x3 x4 x5 x6 x7 x8 x9 x10 b t).out j := by
  have hs := second x0 x1 x2 x3 x4 x5 x6 x7 x8 x9 x10 b t
  have h10 : ∀ k : Fin 1024, x10 (ix1 k) = (tok x0 x1 x2 x3 x4 x5 x6 x7 x8 x9 x10 b t).nf k := fun _ => rfl
  generalize tok x0 x1 x2 x3 x4 x5 x6 x7 x8 x9 x10 b t = T at hs h10 ⊢
  pointwise [val_main_v55, val_main_v54, val_main_v53, val_main_v52, val_main_v51, val_main_v50, val_main_v49, val_main_v48, val_main_v47,
    val_main_v46, val_main_v45, val_main_v44, val_main_v43, val_main_cst_4, val_main_cst_5, val_main_cst_6, hs, h10, Tok.out, rms, msq]

end Cert.Reference2Ideal.Tl

end
-- ==== Proof.TlKer.lean ====
/- The layer's end as the kernel computes it on a block of tokens, read at a row over the extended reals. -/
module

public import proofs.«01_k».proof.Proof.Gen.Kernel2Ideal.Value
public import proofs.«01_k».proof.Proof.TlSpec

@[expose] public section

set_option maxRecDepth 16384

noncomputable section

namespace Cert.Kernel2Ideal.Tl

open Cert.Tl Cert.Kernel2Ideal Cert.Kernel2Ideal.Gen Idealize.ShloMosaic Idealize.ShloMosaic.TcCoe Idealize.SL.Sem
open scoped BigOperators

variable (T : Tok) (r : Fin 512)

/-- The stream after the mixers. -/
theorem stream {x1 : Vec Ideal S1x512x512 .bf16} {x4 : Vec Ideal S512x1024 .bf16} {x2 : Vec Ideal S1x512x512 .bf16} {x5 : Vec Ideal S512x1024 .bf16}
    {x3 : Vec Ideal S1x512x2048 .bf16} {x0 : Vec Ideal S1x512x1024 .f32} {x6 : Vec Ideal S1024x1024 .bf16}
    (h0 : ∀ k : Fin 1024, x0 (ix3 0 r k) = T.x k) (h1 : ∀ k : Fin 512, x1 (ix3 0 r k) = T.a k) (h2 : ∀ k : Fin 512, x2 (ix3 0 k r) = T.b k)
    (h3 : ∀ k : Fin 2048, x3 (ix3 0 r k) = T.g k) (h4 : ∀ (k : Fin 512) (j : Fin 1024), x4 (ix2 k j) = T.wa k j)
    (h5 : ∀ (k : Fin 512) (j : Fin 1024), x5 (ix2 k j) = T.wb k j) (h6 : ∀ k j : Fin 1024, x6 (ix2 k j) = T.wo k j) (j : Fin 1024) :
    k0_pay2 (F := Ideal) x1 x4 x2 x5 x3 x0 x6 (ix2 r j) = T.h j := by
  pointwise [k0_pay2, Tok.h, Tok.merged, h0, h1, h2, h3, h4, h5, h6]

/-- The mean of the stream's squares. -/
theorem mean {x1 : Vec Ideal S1x512x512 .bf16} {x4 : Vec Ideal S512x1024 .bf16} {x2 : Vec Ideal S1x512x512 .bf16} {x5 : Vec Ideal S512x1024 .bf16}
    {x3 : Vec Ideal S1x512x2048 .bf16} {x0 : Vec Ideal S1x512x1024 .f32} {x6 : Vec Ideal S1024x1024 .bf16}
    (h : ∀ j, k0_pay2 (F := Ideal) x1 x4 x2 x5 x3 x0 x6 (ix2 r j) = T.h j) :
    k0_pay3 (F := Ideal) x1 x4 x2 x5 x3 x0 x6 (ix2 r 0) = msq T.h := by
  pointwise [k0_pay3, msq, h]

/-- The normed stream. -/
theorem normed {s : FVec Ideal S512x1024 .f32} {x7 : Vec Ideal S1x1024 .f32} {v : FVec Ideal S512x1 .f32}
    (hs : ∀ j, s (ix2 r j) = T.h j) (hv : v (ix2 r 0) = msq T.h) (h7 : ∀ j : Fin 1024, x7 (ix2 0 j) = T.n2 j) (j : Fin 1024) :
    k0_pay4 s x7 v (ix2 r j) = T.hn j := by
  pointwise [k0_pay4, Tok.hn, rms, hs, hv, h7]

/-- The hidden units of one quarter. -/
theorem hidden {s : FVec Ideal S512x1024 .f32} {x7 : Vec Ideal S1x1024 .f32} {v : FVec Ideal S512x1 .f32} {w : Vec Ideal S1024x1024 .bf16} (q : ℕ) (hq : q < 4)
    (hn : ∀ j, k0_pay4 s x7 v (ix2 r j) = T.hn j) (hw : ∀ k f : Fin 1024, w (ix2 k f) = T.w1 k ⟨1024 * q + f, by omega⟩) (f : Fin 1024) :
    k0_pay6 s x7 v w (ix2 r f) = T.act ⟨1024 * q + f, by omega⟩ := by
  pointwise [k0_pay6, Tok.act, hn, hw]

/-- The first two quarters of the feed-forward block. -/
theorem half {s : FVec Ideal S512x1024 .f32} {x7 : Vec Ideal S1x1024 .f32} {v : FVec Ideal S512x1 .f32} {w1 u1 w2 u2 : Vec Ideal S1024x1024 .bf16}
    (hn : ∀ j, k0_pay4 s x7 v (ix2 r j) = T.hn j)
    (hw1 : ∀ k f : Fin 1024, w1 (ix2 k f) = T.w1 k ⟨1024 * 0 + f, by omega⟩) (hu1 : ∀ f j : Fin 1024, u1 (ix2 f j) = T.w2 ⟨1024 * 0 + f, by omega⟩ j)
    (hw2 : ∀ k f : Fin 1024, w2 (ix2 k f) = T.w1 k ⟨1024 * 1 + f, by omega⟩) (hu2 : ∀ f j : Fin 1024, u2 (ix2 f j) = T.w2 ⟨1024 * 1 + f, by omega⟩ j) (j : Fin 1024) :
    k0_pay5 s x7 v w1 u1 w2 u2 (ix2 r j) = T.part 0 (by omega) j + T.part 1 (by omega) j := by
  pointwise [k0_pay5, Tok.part, Tok.act, hn, hw1, hu1, hw2, hu2]

/-- The block's rows of the result. -/
theorem final {s : FVec Ideal S512x1024 .f32} {n : FVec Ideal S512x1024 .bf16} {p : FVec Ideal S512x1024 .f32} {a : FVec Ideal S512x1024 .bf16} {u3 w4 u4 : Vec Ideal S1024x1024 .bf16} {x10 : Vec Ideal S1x1024 .f32}
    (hs : ∀ j, s (ix2 r j) = T.h j) (hn : ∀ j, n (ix2 r j) = T.hn j)
    (hp : ∀ j, p (ix2 r j) = T.part 0 (by omega) j + T.part 1 (by omega) j) (ha : ∀ f : Fin 1024, a (ix2 r f) = T.act ⟨1024 * 2 + f, by omega⟩)
    (hu3 : ∀ f j : Fin 1024, u3 (ix2 f j) = T.w2 ⟨1024 * 2 + f, by omega⟩ j)
    (hw4 : ∀ k f : Fin 1024, w4 (ix2 k f) = T.w1 k ⟨1024 * 3 + f, by omega⟩) (hu4 : ∀ f j : Fin 1024, u4 (ix2 f j) = T.w2 ⟨1024 * 3 + f, by omega⟩ j)
    (h10 : ∀ j : Fin 1024, x10 (ix2 0 j) = T.nf j) (j : Fin 1024) :
    k0_pay1 s n p a u3 w4 u4 x10 (ix3 0 r j) = T.out j := by
  pointwise [k0_pay1, Tok.out, rms, msq, Tok.mlp_eq, Tok.part, Tok.act, hs, hn, hp, ha, hu3, hw4, hu4, h10]

end Cert.Kernel2Ideal.Tl

end
-- ==== Proof.TlBlock.lean ====
/- The kernel's blocks at a grid point, as rows of the arrays, and the array the run leaves. -/
module

public import proofs.«01_k».proof.Proof.TlKer

@[expose] public section

set_option maxRecDepth 16384

noncomputable section

namespace Cert.Kernel2Ideal.Tl

open Cert.Tl Cert.Kernel2Ideal Cert.Kernel2Ideal.Gen Idealize.ShloMosaic Idealize.ShloMosaic.TcCoe Idealize.SL.Sem
open scoped BigOperators

variable (m : (ℓ : Loc nD τ sig) → Buf (Elt Ideal) ℓ) (c : Dev nD)

theorem idx0 : ∀ t : Fin cfg0.N, win0_0.index t = ![t.val / 8, t.val % 8, 0] := by decide +kernel
theorem idx1 : ∀ t : Fin cfg0.N, win0_1.index t = ![t.val / 8, t.val % 8, 0] := by decide +kernel
theorem idx2 : ∀ t : Fin cfg0.N, win0_2.index t = ![t.val / 8, 0, t.val % 8] := by decide +kernel
theorem idx3 : ∀ t : Fin cfg0.N, win0_3.index t = ![t.val / 8, t.val % 8, 0] := by decide +kernel
theorem idx4 : ∀ t : Fin cfg0.N, win0_4.index t = ![0, 0] := by decide +kernel
theorem idx5 : ∀ t : Fin cfg0.N, win0_5.index t = ![0, 0] := by decide +kernel
theorem idx6 : ∀ t : Fin cfg0.N, win0_6.index t = ![0, 0] := by decide +kernel
theorem idx7 : ∀ t : Fin cfg0.N, win0_7.index t = ![0, 0] := by decide +kernel
theorem idx8 : ∀ t : Fin cfg0.N, win0_8.index t = ![0, 0] := by decide +kernel
theorem idx9 : ∀ t : Fin cfg0.N, win0_9.index t = ![0, 0] := by decide +kernel
theorem idx10 : ∀ t : Fin cfg0.N, win0_10.index t = ![0, 0] := by decide +kernel
theorem idx11 : ∀ t : Fin cfg0.N, win0_11.index t = ![t.val / 8, t.val % 8, 0] := by decide +kernel

/-! A parameter with its leading axis dropped and rounded to the narrow type, at an index. -/

theorem narrow_a (x : FVec Ideal S1x512x1024 .f32) (k : Fin 512) (j : Fin 1024) :
    (truncf (F := Ideal) .bf16 (shapeCast S512x1024 x shapeCasts_S1x512x1024_S512x1024) bitsLt_bf16_f32) (ix2 k j) = x (ix3 0 k j) := by
  pointwise

theorem narrow_o (x : FVec Ideal S1x1024x1024 .f32) (k j : Fin 1024) :
    (truncf (F := Ideal) .bf16 (shapeCast S1024x1024 x shapeCasts_S1x1024x1024_S1024x1024) bitsLt_bf16_f32) (ix2 k j) = x (ix3 0 k j) := by
  pointwise

theorem narrow_1 (x : FVec Ideal S1x1024x4096 .f32) (k : Fin 1024) (j : Fin 4096) :
    (truncf (F := Ideal) .bf16 (shapeCast S1024x4096 x shapeCasts_S1x1024x4096_S1024x4096) bitsLt_bf16_f32) (ix2 k j) = x (ix3 0 k j) := by
  pointwise

theorem narrow_2 (x : FVec Ideal S1x4096x1024 .f32) (k : Fin 4096) (j : Fin 1024) :
    (truncf (F := Ideal) .bf16 (shapeCast S4096x1024 x shapeCasts_S1x4096x1024_S4096x1024) bitsLt_bf16_f32) (ix2 k j) = x (ix3 0 k j) := by
  pointwise

theorem row_of (x : FVec Ideal S1024 .f32) (j : Fin 1024) : (shapeCast S1x1024 x shapeCasts_S1024_S1x1024) (ix2 0 j) = x (ix1 j) := by
  pointwise

/-! The weights as the host prepares them: the leading axis dropped, then rounded to the narrow type. -/

theorem v1_eq : (V m c main_v1 : FVec Ideal S512x1024 .bf16)
    = truncf (F := Ideal) .bf16 (shapeCast S512x1024 (m ((c : Thread nD τ).loc main_arg4) : FVec Ideal S1x512x1024 .f32) shapeCasts_S1x512x1024_S512x1024) bitsLt_bf16_f32 := by
  unfold_abbrev_sides; after_results; rfl

theorem v3_eq : (V m c main_v3 : FVec Ideal S512x1024 .bf16)
    = truncf (F := Ideal) .bf16 (shapeCast S512x1024 (m ((c : Thread nD τ).loc main_arg5) : FVec Ideal S1x512x1024 .f32) shapeCasts_S1x512x1024_S512x1024) bitsLt_bf16_f32 := by
  unfold_abbrev_sides; after_results; rfl

theorem v5_eq : (V m c main_v5 : FVec Ideal S1024x1024 .bf16)
    = truncf (F := Ideal) .bf16 (shapeCast S1024x1024 (m ((c : Thread nD τ).loc main_arg6) : FVec Ideal S1x1024x1024 .f32) shapeCasts_S1x1024x1024_S1024x1024) bitsLt_bf16_f32 := by
  unfold_abbrev_sides; after_results; rfl

theorem v7_eq : (V m c main_v7 : FVec Ideal S1024x4096 .bf16)
    = truncf (F := Ideal) .bf16 (shapeCast S1024x4096 (m ((c : Thread nD τ).loc main_arg8) : FVec Ideal S1x1024x4096 .f32) shapeCasts_S1x1024x4096_S1024x4096) bitsLt_bf16_f32 := by
  unfold_abbrev_sides; after_results; rfl

theorem v9_eq : (V m c main_v9 : FVec Ideal S4096x1024 .bf16)
    = truncf (F := Ideal) .bf16 (shapeCast S4096x1024 (m ((c : Thread nD τ).loc main_arg9) : FVec Ideal S1x4096x1024 .f32) shapeCasts_S1x4096x1024_S4096x1024) bitsLt_bf16_f32 := by
  unfold_abbrev_sides; after_results; rfl

theorem v10_eq : (V m c main_v10 : FVec Ideal S1x1024 .f32)
    = shapeCast S1x1024 (m ((c : Thread nD τ).loc main_arg10) : FVec Ideal S1024 .f32) shapeCasts_S1024_S1x1024 := by
  unfold_abbrev_sides; after_results; rfl

/-! Each window's block at a point, at an index: the token arrays' blocks are rows of the batch row and stretch of positions
the point names, the parameters' are the parameters. -/

theorem b0 (t : Fin cfg0.N) (r : Fin 512) (k : Fin 1024) (hb : t.val / 8 < 8) (hr : 512 * (t.val % 8) + r.val < 4096) :
    iblk m c 0 t (ix3 0 r k) = m ((c : Thread nD τ).loc main_arg0) (ix3 ⟨t.val / 8, hb⟩ ⟨512 * (t.val % 8) + r, hr⟩ k) := by
  blk_ext [iblk, V, idx0 t]

theorem b1 (t : Fin cfg0.N) (r : Fin 512) (k : Fin 512) (hb : t.val / 8 < 8) (hr : 512 * (t.val % 8) + r.val < 4096) :
    iblk m c 1 t (ix3 0 r k) = m ((c : Thread nD τ).loc main_arg1) (ix3 ⟨t.val / 8, hb⟩ ⟨512 * (t.val % 8) + r, hr⟩ k) := by
  blk_ext [iblk, V, idx1 t]

theorem b2 (t : Fin cfg0.N) (r : Fin 512) (k : Fin 512) (hb : t.val / 8 < 8) (hr : 512 * (t.val % 8) + r.val < 4096) :
    iblk m c 2 t (ix3 0 k r) = m ((c : Thread nD τ).loc main_arg2) (ix3 ⟨t.val / 8, hb⟩ k ⟨512 * (t.val % 8) + r, hr⟩) := by
  blk_ext [iblk, V, idx2 t]

theorem b3 (t : Fin cfg0.N) (r : Fin 512) (k : Fin 2048) (hb : t.val / 8 < 8) (hr : 512 * (t.val % 8) + r.val < 4096) :
    iblk m c 3 t (ix3 0 r k) = m ((c : Thread nD τ).loc main_arg3) (ix3 ⟨t.val / 8, hb⟩ ⟨512 * (t.val % 8) + r, hr⟩ k) := by
  blk_ext [iblk, V, idx3 t]

theorem b4 (t : Fin cfg0.N) (k : Fin 512) (j : Fin 1024) :
    iblk m c 4 t (ix2 k j) = m ((c : Thread nD τ).loc main_arg4) (ix3 0 k j) := by
  have h : iblk m c 4 t (ix2 k j) = V m c main_v1 (ix2 k j) := by blk_ext [iblk, idx4 t]
  rw [h, v1_eq]
  exact narrow_a _ k j

theorem b5 (t : Fin cfg0.N) (k : Fin 512) (j : Fin 1024) :
    iblk m c 5 t (ix2 k j) = m ((c : Thread nD τ).loc main_arg5) (ix3 0 k j) := by
  have h : iblk m c 5 t (ix2 k j) = V m c main_v3 (ix2 k j) := by blk_ext [iblk, idx5 t]
  rw [h, v3_eq]
  exact narrow_a _ k j

theorem b6 (t : Fin cfg0.N) (k : Fin 1024) (j : Fin 1024) :
    iblk m c 6 t (ix2 k j) = m ((c : Thread nD τ).loc main_arg6) (ix3 0 k j) := by
  have h : iblk m c 6 t (ix2 k j) = V m c main_v5 (ix2 k j) := by blk_ext [iblk, idx6 t]
  rw [h, v5_eq]
  exact narrow_o _ k j

theorem b8 (t : Fin cfg0.N) (k : Fin 1024) (j : Fin 4096) :
    iblk m c 8 t (ix2 k j) = m ((c : Thread nD τ).loc main_arg8) (ix3 0 k j) := by
  have h : iblk m c 8 t (ix2 k j) = V m c main_v7 (ix2 k j) := by blk_ext [iblk, idx8 t]
  rw [h, v7_eq]
  exact narrow_1 _ k j

theorem b9 (t : Fin cfg0.N) (k : Fin 4096) (j : Fin 1024) :
    iblk m c 9 t (ix2 k j) = m ((c : Thread nD τ).loc main_arg9) (ix3 0 k j) := by
  have h : iblk m c 9 t (ix2 k j) = V m c main_v9 (ix2 k j) := by blk_ext [iblk, idx9 t]
  rw [h, v9_eq]
  exact narrow_2 _ k j

theorem b7 (t : Fin cfg0.N) (j : Fin 1024) : iblk m c 7 t (ix2 0 j) = m ((c : Thread nD τ).loc main_arg7) (ix2 0 j) := by
  blk_ext [iblk, V, idx7 t]

theorem b10 (t : Fin cfg0.N) (j : Fin 1024) : iblk m c 10 t (ix2 0 j) = m ((c : Thread nD τ).loc main_arg10) (ix1 j) := by
  have h : iblk m c 10 t (ix2 0 j) = V m c main_v10 (ix2 0 j) := by blk_ext [iblk, idx10 t]
  rw [h, v10_eq]
  exact row_of _ j

/-- The token at a batch row and a position, of the arrays in memory. -/
def tok (b : Fin 8) (t : Fin 4096) : Tok where
  x k := m ((c : Thread nD τ).loc main_arg0) (ix3 b t k)
  a k := m ((c : Thread nD τ).loc main_arg1) (ix3 b t k)
  b k := m ((c : Thread nD τ).loc main_arg2) (ix3 b k t)
  g k := m ((c : Thread nD τ).loc main_arg3) (ix3 b t k)
  wa k j := m ((c : Thread nD τ).loc main_arg4) (ix3 0 k j)
  wb k j := m ((c : Thread nD τ).loc main_arg5) (ix3 0 k j)
  wo k j := m ((c : Thread nD τ).loc main_arg6) (ix3 0 k j)
  n2 j := m ((c : Thread nD τ).loc main_arg7) (ix2 0 j)
  w1 k f := m ((c : Thread nD τ).loc main_arg8) (ix3 0 k f)
  w2 f j := m ((c : Thread nD τ).loc main_arg9) (ix3 0 f j)
  nf j := m ((c : Thread nD τ).loc main_arg10) (ix1 j)

/-- A quarter of the columns, loaded. -/
theorem cols (x : Vec Ideal S1024x4096 .bf16) (q : ℕ) (hq : q < 4) (h : _) (k f : Fin 1024) :
    View.ld x (Rect.unit (s := S1024x4096) ![0, 1024 * q] S1024x1024.size h) (ix2 k f) = x (ix2 k ⟨1024 * q + f, by omega⟩) :=
  View.ld_unit_apply_of _ _ _ _ _ _ (fun a => by fin_cases a <;> simp [ix2])

/-- A quarter of the rows, loaded. -/
theorem rows (x : Vec Ideal S4096x1024 .bf16) (q : ℕ) (hq : q < 4) (h : _) (f j : Fin 1024) :
    View.ld x (Rect.unit (s := S4096x1024) ![1024 * q, 0] S1024x1024.size h) (ix2 f j) = x (ix2 ⟨1024 * q + f, by omega⟩ j) :=
  View.ld_unit_apply_of _ _ _ _ _ _ (fun a => by fin_cases a <;> simp [ix2])

/-- A row of the result, from blocks that hold the token and the parameters: the loads are the blocks, or quarters of the
    feed-forward weights. -/
theorem row (T : Tok) (r : Fin 512) {x0 : Vec Ideal S1x512x1024 .f32} {x1 x2 : Vec Ideal S1x512x512 .bf16} {x3 : Vec Ideal S1x512x2048 .bf16}
    {x4 x5 : Vec Ideal S512x1024 .bf16} {x6 : Vec Ideal S1024x1024 .bf16} {x7 : Vec Ideal S1x1024 .f32} {x8 : Vec Ideal S1024x4096 .bf16}
    {x9 : Vec Ideal S4096x1024 .bf16} {x10 : Vec Ideal S1x1024 .f32}
    (h0 : ∀ k : Fin 1024, x0 (ix3 0 r k) = T.x k) (h1 : ∀ k : Fin 512, x1 (ix3 0 r k) = T.a k) (h2 : ∀ k : Fin 512, x2 (ix3 0 k r) = T.b k)
    (h3 : ∀ k : Fin 2048, x3 (ix3 0 r k) = T.g k) (h4 : ∀ (k : Fin 512) (j : Fin 1024), x4 (ix2 k j) = T.wa k j)
    (h5 : ∀ (k : Fin 512) (j : Fin 1024), x5 (ix2 k j) = T.wb k j) (h6 : ∀ k j : Fin 1024, x6 (ix2 k j) = T.wo k j)
    (h7 : ∀ j : Fin 1024, x7 (ix2 0 j) = T.n2 j) (h8 : ∀ (k : Fin 1024) (f : Fin 4096), x8 (ix2 k f) = T.w1 k f)
    (h9 : ∀ (f : Fin 4096) (j : Fin 1024), x9 (ix2 f j) = T.w2 f j) (h10 : ∀ j : Fin 1024, x10 (ix2 0 j) = T.nf j) (j : Fin 1024) :
    out0_11 x0 x1 x2 x3 x4 x5 x6 x7 x8 x9 x10 (ix3 0 r j) = T.out j := by
  have e0 : View.ld x0 r0_3 = x0 := View.ld_unit_lit _ _ (by decide)
  have e1 : View.ld x1 r0_0 = x1 := View.ld_unit_lit _ _ (by decide)
  have e2 : View.ld x2 r0_0 = x2 := View.ld_unit_lit _ _ (by decide)
  have e3 : View.ld x3 r0_2 = x3 := View.ld_unit_lit _ _ (by decide)
  have e4 : View.ld x4 r0_1 = x4 := View.ld_unit_lit _ _ (by decide)
  have e5 : View.ld x5 r0_1 = x5 := View.ld_unit_lit _ _ (by decide)
  have e6 : View.ld x6 r0_4 = x6 := View.ld_unit_lit _ _ (by decide)
  have e7 : View.ld x7 r0_5 = x7 := View.ld_unit_lit _ _ (by decide)
  have e10 : View.ld x10 r0_5 = x10 := View.ld_unit_lit _ _ (by decide)
  have hs := stream T r h0 h1 h2 h3 h4 h5 h6
  have hv := mean T r hs
  have hn := normed T r hs hv h7
  have w0 : ∀ k f : Fin 1024, View.ld x8 r0_6 (ix2 k f) = T.w1 k ⟨1024 * 0 + f, by omega⟩ := fun k f => (cols x8 0 (by omega) _ k f).trans (h8 _ _)
  have w1 : ∀ k f : Fin 1024, View.ld x8 r0_8 (ix2 k f) = T.w1 k ⟨1024 * 1 + f, by omega⟩ := fun k f => (cols x8 1 (by omega) _ k f).trans (h8 _ _)
  have w2 : ∀ k f : Fin 1024, View.ld x8 r0_10 (ix2 k f) = T.w1 k ⟨1024 * 2 + f, by omega⟩ := fun k f => (cols x8 2 (by omega) _ k f).trans (h8 _ _)
  have w3 : ∀ k f : Fin 1024, View.ld x8 r0_12 (ix2 k f) = T.w1 k ⟨1024 * 3 + f, by omega⟩ := fun k f => (cols x8 3 (by omega) _ k f).trans (h8 _ _)
  have u0 : ∀ f j : Fin 1024, View.ld x9 r0_7 (ix2 f j) = T.w2 ⟨1024 * 0 + f, by omega⟩ j := fun f j => (rows x9 0 (by omega) _ f j).trans (h9 _ _)
  have u1 : ∀ f j : Fin 1024, View.ld x9 r0_9 (ix2 f j) = T.w2 ⟨1024 * 1 + f, by omega⟩ j := fun f j => (rows x9 1 (by omega) _ f j).trans (h9 _ _)
  have u2 : ∀ f j : Fin 1024, View.ld x9 r0_11 (ix2 f j) = T.w2 ⟨1024 * 2 + f, by omega⟩ j := fun f j => (rows x9 2 (by omega) _ f j).trans (h9 _ _)
  have u3 : ∀ f j : Fin 1024, View.ld x9 r0_13 (ix2 f j) = T.w2 ⟨1024 * 3 + f, by omega⟩ j := fun f j => (rows x9 3 (by omega) _ f j).trans (h9 _ _)
  have hf := final T r hs hn (half T r hn w0 u0 w1 u1) (hidden T r 2 (by omega) hn w2) u2 w3 u3 h10 j
  rw [show out0_11 x0 x1 x2 x3 x4 x5 x6 x7 x8 x9 x10 = k0_pay1 (k0_pay2 x1 x4 x2 x5 x3 x0 x6) _ _ _ _ _ _ x10 from ?_]
  · exact hf
  · unfold out0_11 k0_pay7 k0_pay8
    rw [e0, e1, e2, e3, e4, e5, e6, e7, e10]
    frame_out

/-- The array the run leaves: every token's result. -/
theorem array (b : Fin 8) (t : Fin 4096) (j : Fin 1024) :
    ((dats m 0 c).arrAt 11 cfg0.N : FVec Ideal S8x4096x1024 .f32) (ix3 b t j) = (tok m c b t).out j := by
  have h : (dats m 0 c).arrAt 11 cfg0.N = (fun z : S8x4096x1024.Idx => (tok m c (z 0) (z 1)).out (z 2)) := by
    refine (dats m 0 c).arrAt_eq_of_covers 11 _ (by decide +kernel) fun t hf y => ?_
    blk_simp
    rw [after0_11]
    have hN : t.val < 64 := t.isLt
    idx_vars y
    have e := row (tok m c ⟨t.val / 8, by omega⟩ ⟨512 * (t.val % 8) + y1, by omega⟩) y1 (b0 m c t y1 · _ _) (b1 m c t y1 · _ _) (b2 m c t y1 · _ _)
      (b3 m c t y1 · _ _) (b4 m c t) (b5 m c t) (b6 m c t) (b7 m c t) (b8 m c t) (b9 m c t) (b10 m c t) y2
    obtain rfl : y0 = 0 := Subsingleton.elim _ _
    refine e.trans ?_
    have p0 : ((View.whole main_v11).slice (win0_11.rect t)).emb (ix3 0 y1 y2) 0 = (⟨t.val / 8, by omega⟩ : Fin 8) := by
      apply Fin.ext; blk_simp [idx11 t]; simp [ix3]
    have p1 : ((View.whole main_v11).slice (win0_11.rect t)).emb (ix3 0 y1 y2) 1 = (⟨512 * (t.val % 8) + y1, by omega⟩ : Fin 4096) := by
      apply Fin.ext; blk_simp [idx11 t]; simp [ix3]; try omega
    have p2 : ((View.whole main_v11).slice (win0_11.rect t)).emb (ix3 0 y1 y2) 2 = y2 := by
      apply Fin.ext; blk_simp [idx11 t]
    rw [p0, p1, p2]
  rw [h]
  rfl

end Cert.Kernel2Ideal.Tl

end
-- ==== Proof.TlClaim.lean ====
/- The claims about the layer's end: the reference's run, and that kernel and reference agree over the extended reals. -/
module

public import proofs.«01_k».proof.Defs
public import proofs.«01_k».proof.Proof.Gen.Reference2Ideal.Run
public import proofs.«01_k».proof.Proof.TlRef
public import proofs.«01_k».proof.Proof.TlBlock

@[expose] public section

set_option maxRecDepth 16384

noncomputable section

namespace Cert.TlClaim

open Idealize.ShloMosaic Idealize.ShloMosaic.TcCoe Idealize.SL.Sem

/-- The reference runs, leaves its arguments, and declares no semaphore. -/
theorem frame_reference : Cert.quiescent_Reference2Ideal := fun m ρ _ =>
  (θ_run Cert.Reference2Ideal.defs _ _).mono (fun r h => ⟨fun c => (h c).2, sem_eq_zero_of_no_sems (by decide) r.2⟩) (Cert.Reference2Ideal.Value.run (F := Ideal) m ρ)

/-- The two results are one array where the arguments agree: at every token the layer's end in plain form. -/
theorem agree (m : (ℓ : Loc Cert.Kernel2Ideal.nD Cert.Kernel2Ideal.τ Cert.Kernel2Ideal.sig) → Buf (Elt Ideal) ℓ) (c : Dev Cert.Kernel2Ideal.nD)
    (x0 : FVec Ideal Cert.Reference2Ideal.S8x4096x1024 .f32)
    (x1 : FVec Ideal Cert.Reference2Ideal.S8x4096x512 .bf16)
    (x2 : FVec Ideal Cert.Reference2Ideal.S8x512x4096 .bf16)
    (x3 : FVec Ideal Cert.Reference2Ideal.S8x4096x2048 .bf16)
    (x4 : FVec Ideal Cert.Reference2Ideal.S1x512x1024 .f32)
    (x5 : FVec Ideal Cert.Reference2Ideal.S1x512x1024 .f32)
    (x6 : FVec Ideal Cert.Reference2Ideal.S1x1024x1024 .f32)
    (x7 : FVec Ideal Cert.Reference2Ideal.S1x1024 .f32)
    (x8 : FVec Ideal Cert.Reference2Ideal.S1x1024x4096 .f32)
    (x9 : FVec Ideal Cert.Reference2Ideal.S1x4096x1024 .f32)
    (x10 : FVec Ideal Cert.Reference2Ideal.S1024 .f32)
    (h0 : x0 = m ((c.tc : Thread Cert.Kernel2Ideal.nD Cert.Kernel2Ideal.τ).loc Cert.Kernel2Ideal.main_arg0))
    (h1 : x1 = m ((c.tc : Thread Cert.Kernel2Ideal.nD Cert.Kernel2Ideal.τ).loc Cert.Kernel2Ideal.main_arg1))
    (h2 : x2 = m ((c.tc : Thread Cert.Kernel2Ideal.nD Cert.Kernel2Ideal.τ).loc Cert.Kernel2Ideal.main_arg2))
    (h3 : x3 = m ((c.tc : Thread Cert.Kernel2Ideal.nD Cert.Kernel2Ideal.τ).loc Cert.Kernel2Ideal.main_arg3))
    (h4 : x4 = m ((c.tc : Thread Cert.Kernel2Ideal.nD Cert.Kernel2Ideal.τ).loc Cert.Kernel2Ideal.main_arg4))
    (h5 : x5 = m ((c.tc : Thread Cert.Kernel2Ideal.nD Cert.Kernel2Ideal.τ).loc Cert.Kernel2Ideal.main_arg5))
    (h6 : x6 = m ((c.tc : Thread Cert.Kernel2Ideal.nD Cert.Kernel2Ideal.τ).loc Cert.Kernel2Ideal.main_arg6))
    (h7 : x7 = m ((c.tc : Thread Cert.Kernel2Ideal.nD Cert.Kernel2Ideal.τ).loc Cert.Kernel2Ideal.main_arg7))
    (h8 : x8 = m ((c.tc : Thread Cert.Kernel2Ideal.nD Cert.Kernel2Ideal.τ).loc Cert.Kernel2Ideal.main_arg8))
    (h9 : x9 = m ((c.tc : Thread Cert.Kernel2Ideal.nD Cert.Kernel2Ideal.τ).loc Cert.Kernel2Ideal.main_arg9))
    (h10 : x10 = m ((c.tc : Thread Cert.Kernel2Ideal.nD Cert.Kernel2Ideal.τ).loc Cert.Kernel2Ideal.main_arg10)) :
    Cert.Reference2Ideal.Read.val_main_v55 (F := Ideal) x0 x1 x2 x3 x4 x5 x6 x7 x8 x9 x10 = (Cert.Kernel2Ideal.Gen.dats (F := Ideal) m 0 c).arrAt 11 Cert.Kernel2Ideal.cfg0.N := by
  funext z
  idx_vars z
  refine (Cert.Reference2Ideal.Tl.result x0 x1 x2 x3 x4 x5 x6 x7 x8 x9 x10 z0 z1 z2).trans ?_
  refine Eq.trans ?_ (Cert.Kernel2Ideal.Tl.array m c z0 z1 z2).symm
  subst h0 h1 h2 h3 h4 h5 h6 h7 h8 h9 h10
  rfl

/-- Kernel and reference over the extended reals. -/
theorem algebraic : Cert.algebraic_Kernel2Ideal_Reference2Ideal := by
  intro m ρ m' ρ' _ hagree
  refine ⟨fun c => (Cert.Kernel2Ideal.Gen.dats (F := Ideal) m 0 c).arrAt 11 Cert.Kernel2Ideal.cfg0.N, Cert.Kernel2Ideal.Value.run_blocks (F := Ideal) m ρ, ?_⟩
  refine (θ_run Cert.Reference2Ideal.defs _ _).mono (fun _ h c => ⟨(h c).1.trans ?_, (h c).2⟩) (Cert.Reference2Ideal.Value.run (F := Ideal) m' ρ')
  obtain ⟨h0, h1, h2, h3, h4, h5, h6, h7, h8, h9, h10⟩ := hagree c
  rw [Cert.Reference2Ideal.Read.val_main_v55_eq]
  exact agree m c _ _ _ _ _ _ _ _ _ _ _ h0 h1 h2 h3 h4 h5 h6 h7 h8 h9 h10

end Cert.TlClaim

end
-- ==== Proof.PjSpec.lean ====
/- One token of the input projection in plain form: the norm, the columns of the product, the rotary embedding, and
   the results laid out as the calls hand them on. -/
module

public import proofs.«01_k».proof.Proof.TlSpec

@[expose] public section

noncomputable section

namespace Cert.Pj

open Idealize.ShloMosaic
open scoped BigOperators

/-- A token of the layer's input: its row, the norm's gains, the projection's weights with zero columns past the last, its
position as a number, and the rotary frequencies. -/
structure Tok where
  x : Fin 1024 → EReal
  g : Fin 1024 → EReal
  w : Fin 1024 → ℕ → EReal
  p : EReal
  f : Fin 8 → EReal

namespace Tok

variable (T : Tok)

/-- The token's row after the norm. -/
def xn (k : Fin 1024) : EReal := Cert.Tl.rms T.x T.g k

/-- One column of the projection. -/
def col (c : ℕ) : EReal := ∑ k : Fin 1024, T.xn k * T.w k c

/-- The angle of a rotary pair. -/
def ang (i : Fin 8) : EReal := T.p * T.f i

/-- The rotary embedding of the 64 columns from `b`: the first sixteen are eight pairs turned by their angles. -/
def rope (b d : ℕ) : EReal :=
  if h : d < 8 then T.col (b + d) * Ideal.cos (T.ang ⟨d, h⟩) - T.col (b + d + 8) * Ideal.sin (T.ang ⟨d, h⟩)
  else if h : d < 16 then T.col (b + d) * Ideal.cos (T.ang ⟨d - 8, by omega⟩) + T.col (b + d - 8) * Ideal.sin (T.ang ⟨d - 8, by omega⟩)
  else T.col (b + d)

theorem rope_lo {b d i e e' : ℕ} (h : i < 8) (hd : d = i) (he : e = b + d) (he' : e' = b + d + 8) :
    T.col e * Ideal.cos (T.ang ⟨i, h⟩) - T.col e' * Ideal.sin (T.ang ⟨i, h⟩) = T.rope b d := by
  subst hd he he'
  rw [rope, dif_pos h]

theorem rope_hi {b d i e e' : ℕ} (h : i < 8) (hd : d = i + 8) (he : e = b + d) (he' : e' = b + d - 8) :
    T.col e * Ideal.cos (T.ang ⟨i, h⟩) + T.col e' * Ideal.sin (T.ang ⟨i, h⟩) = T.rope b d := by
  subst hd he he'
  rw [rope, dif_neg (by omega), dif_pos (by omega)]
  rfl

theorem rope_rest {b d e : ℕ} (hd : 16 ≤ d) (he : e = b + d) : T.col e = T.rope b d := by
  subst he
  rw [rope, dif_neg (by omega), dif_neg (by omega)]

/-- A row of the values as the mixers read them: four stretches of 64 columns, each with a row of ones and fifteen of zeros below it. -/
def val (i : ℕ) : EReal :=
  if i % 80 < 64 then T.col (2944 + 256 * (i / 160) + 64 * (i / 80 % 2) + i % 80) else if i % 80 = 64 then 1 else 0

theorem val_col {i e : ℕ} (h : i % 80 < 64) (he : e = 2944 + 256 * (i / 160) + 64 * (i / 80 % 2) + i % 80) : T.col e = T.val i := by
  subst he
  rw [val, if_pos h]

theorem val_one {i n : ℕ} (h : i % 80 = 64 + n) : (if n = 0 then 1 else 0 : EReal) = T.val i := by
  rw [val, if_neg (show ¬ i % 80 < 64 by omega)]
  exact if_congr (by omega) rfl rfl

/-- A row of the gates: twelve to a group, and four more of a column of zeros. -/
def gate (i : ℕ) : EReal := Ideal.logistic (T.col (if i % 16 < 12 then 3328 + 12 * (i / 16) + i % 16 else 5400))

/-- A key as the selection reads it: the two heads turned, and beside them whether the position lies in each block of 64. -/
def key (t j : ℕ) : EReal :=
  if j < 128 then T.rope (2816 + 64 * (j / 64)) (j % 64) else if t / 64 = j - 128 then 1 else 0

end Tok

/-- The projection's column that the transposed weights hold at a row. -/
def tcol (i : ℕ) : ℕ :=
  if i < 640 then 2048 + i else if i < 768 then 2176 + i else if i < 896 then 2304 + i else if i < 1024 then 2048 + i
  else if i < 1152 then 2176 + i else if (i - 1152) % 16 < 12 then 3328 + 12 * ((i - 1152) / 16) + (i - 1152) % 16 else 5400

/-- The projection's column that the plain weights hold at a column. -/
def ncol (j : ℕ) : ℕ := if j < 2048 then j else if j < 4096 then j + 1304 else j - 1408

/-- A choice is a value where both branches are. -/
theorem choice {α : Type} {c : Prop} [Decidable c] {a : c → α} {b : ¬c → α} {x : α} (ha : ∀ h, a h = x) (hb : ∀ h, b h = x) :
    (if h : c then a h else b h) = x := by
  split
  · exact ha _
  · exact hb _

/-- The rotary frequency of a pair. -/
def freq (i : Fin 8) : EReal :=
  Ideal.pow (Ideal.ofBits .f32 0x48F42400#32)
    (Ideal.div (-(Ideal.ofBits .f32 0x40000000#32 * FloatOps.sitofp (F := Ideal) FTy.f32 (BitVec.ofNat 32 i.val))) (Ideal.ofBits .f32 0x41800000#32))

/-- Weights with zero columns past the last. -/
def widen (x : Fin 1024 → Fin 5400 → EReal) (k : Fin 1024) (n : ℕ) : EReal := if h : n < 5400 then x k ⟨n, h⟩ else 0

theorem widen_of (x : Fin 1024 → Fin 5400 → EReal) (k : Fin 1024) {n e : ℕ} (h : n < 5400) (he : e = n) : x k ⟨n, h⟩ = widen x k e := by
  subst he
  rw [widen, dif_pos h]

theorem widen_past (x : Fin 1024 → Fin 5400 → EReal) (k : Fin 1024) {e : ℕ} (he : ¬e < 5400) : 0 = widen x k e := by
  rw [widen, dif_neg he]

/-! Small counters against each other as the kernels compare them. -/

theorem equal_small (n j : ℕ) (hn : n < 128) (hj : j < 128) :
    IntOp.cmpi CmpIPredicate.eq (BitVec.ofNat 32 n) (BitVec.ofNat 32 j) = if n = j then 1#1 else 0#1 := by
  have h : ∀ n j : Fin 128, IntOp.cmpi CmpIPredicate.eq (BitVec.ofNat 32 n.val) (BitVec.ofNat 32 j.val) = if n.val = j.val then 1#1 else 0#1 := by
    decide +kernel
  exact h ⟨n, hn⟩ ⟨j, hj⟩

theorem select_small (n j : ℕ) (hn : n < 128) (hj : j < 128) :
    Scalar.select (α := EReal) (IntOp.cmpi CmpIPredicate.eq (BitVec.ofNat 32 n) (BitVec.ofNat 32 j)) 1 0 = if n = j then 1 else 0 := by
  rw [equal_small n j hn hj]
  split <;> simp [Scalar.select]

theorem number_small (n j : ℕ) (hn : n < 128) (hj : j < 128) :
    FloatOps.uitofp (F := Ideal) FTy.f32 (IntOp.cmpi CmpIPredicate.eq (BitVec.ofNat 32 n) (BitVec.ofNat 32 j)) = (if n = j then 1 else 0 : EReal) := by
  have h : ∀ x : BitVec 1, FloatOps.uitofp (F := Ideal) FTy.f32 x = ((x.toNat : ℝ) : EReal) := fun _ => rfl
  rw [equal_small n j hn hj, h]
  split <;> simp

theorem sitofp_zero : FloatOps.sitofp (F := Ideal) FTy.f32 (0#32) = (0 : EReal) := by
  show (((0#32 : BitVec 32).toInt : ℝ) : EReal) = 0
  simp

end Cert.Pj

end
-- ==== Proof.PjRef.lean ====
/- The reference's projection, stage by stage, in the plain form of a token. -/
module

public import proofs.«01_k».proof.Proof.Gen.Reference3Ideal.Read
public import proofs.«01_k».proof.Proof.PjSpec

@[expose] public section

set_option maxRecDepth 16384

noncomputable section

namespace Cert.Reference3Ideal.Pj

open Cert.Pj Cert.Reference3Ideal Cert.Reference3Ideal.Read Idealize.ShloMosaic Idealize.ShloMosaic.TcCoe
open scoped BigOperators

variable (x0 : FVec Ideal S8x4096x1024 .f32) (x1 : IVec S8x4096 32) (x2 : FVec Ideal S1x1024 .f32) (x3 : FVec Ideal S1x1024x5400 .f32)

/-- The token at a batch row and a position. -/
def tok (b : Fin 8) (t : Fin 4096) : Tok where
  x k := x0 (ix3 b t k)
  g k := x2 (ix2 0 k)
  w := widen fun k n => x3 (ix3 0 k n)
  p := FloatOps.sitofp (F := Ideal) FTy.f32 (x1 (ix2 b t))
  f := freq

variable (b : Fin 8) (t : Fin 4096)

theorem xn_at (k : Fin 1024) : (val_main_v13 (F := Ideal) x0 x2) (ix3 b t k) = (tok x0 x1 x2 x3 b t).xn k := by
  pointwise [val_main_v13, val_main_v12, val_main_v11, val_main_v10, val_main_v9, val_main_v8, val_main_v7, val_main_v6, val_main_v5, val_main_v4,
    val_main_v3, val_main_v2, val_main_v1, val_main_v0, val_main_cst, val_main_cst_0, val_main_cst_1, Tok.xn, tok, Cert.Tl.rms, Cert.Tl.msq]

theorem col_at (n : Fin 5400) : (val_main_v15 (F := Ideal) x0 x2 x3) (ix3 b t n) = (tok x0 x1 x2 x3 b t).col n := by
  have hs := xn_at x0 x1 x2 x3 b t
  have hw : ∀ k, (tok x0 x1 x2 x3 b t).w k n.val = x3 (ix3 0 k n) := fun k => (widen_of (fun k n => x3 (ix3 0 k n)) k n.isLt rfl).symm
  generalize tok x0 x1 x2 x3 b t = T at hs hw ⊢
  pointwise [val_main_v15, val_main_v14, hs, hw, Tok.col]

theorem ang_at (i : Fin 8) : (val_main_v43 (F := Ideal) x1) (ix3 b t i) = (tok x0 x1 x2 x3 b t).ang i := by
  pointwise [val_main_v43, val_main_v42, val_main_v41, val_main_v40, val_main_v39, val_main_v38, val_main_v37, val_main_v36, val_main_v35, val_main_v34,
    val_main_v33, val_main_v32, val_main_v31, val_main_v30, val_main_v29, val_main_v28, val_main_cst_2, val_main_cst_3, val_main_cst_4, val_main_cst_5,
    Tok.ang, tok, freq]

theorem cos_at (i : Fin 8) : (val_main_v44 (F := Ideal) x1) (ix3 b t i) = Ideal.cos ((tok x0 x1 x2 x3 b t).ang i) := by
  have h := ang_at x0 x1 x2 x3 b t
  pointwise [val_main_v44, h]

theorem sin_at (i : Fin 8) : (val_main_v46 (F := Ideal) x1) (ix3 b t i) = Ideal.sin ((tok x0 x1 x2 x3 b t).ang i) := by
  have h := ang_at x0 x1 x2 x3 b t
  pointwise [val_main_v46, h]

theorem rope_q (h : Fin 8) (d : Fin 64) : (val_main_v61 (F := Ideal) x0 x1 x2 x3) (ix4 b t h d) = (tok x0 x1 x2 x3 b t).rope (2048 + 64 * h) d := by
  have hx := col_at x0 x1 x2 x3 b t
  have hc := cos_at x0 x1 x2 x3 b t
  have hs := sin_at x0 x1 x2 x3 b t
  generalize tok x0 x1 x2 x3 b t = T at hx hc hs ⊢
  have hd := d.isLt
  have hh := h.isLt
  pointwise [val_main_v61, val_main_v60, val_main_v59, val_main_v58, val_main_v57, val_main_v56, val_main_v55, val_main_v54, val_main_v53, val_main_v52, val_main_v51, val_main_v50, val_main_v49, val_main_v48, val_main_v47, val_main_v45, val_main_v27, val_main_v17, hx, hc, hs]
  refine choice (fun h => ?_) (fun h => ?_)
  · exact T.rope_lo _ (by omega) (by omega) (by omega)
  refine choice (fun h => ?_) (fun h => ?_)
  · exact T.rope_hi _ (by omega) (by omega) (by omega)
  · exact T.rope_rest (by omega) (by omega)

theorem rope_kc (h : Fin 2) (d : Fin 64) : (val_main_v98 (F := Ideal) x0 x1 x2 x3) (ix4 b t h d) = (tok x0 x1 x2 x3 b t).rope (2560 + 64 * h) d := by
  have hx := col_at x0 x1 x2 x3 b t
  have hc : ∀ i, (val_main_v81 (F := Ideal) x1) (ix3 b t i) = _ := cos_at x0 x1 x2 x3 b t
  have hs : ∀ i, (val_main_v83 (F := Ideal) x1) (ix3 b t i) = _ := sin_at x0 x1 x2 x3 b t
  generalize tok x0 x1 x2 x3 b t = T at hx hc hs ⊢
  have hd := d.isLt
  have hh := h.isLt
  pointwise [val_main_v98, val_main_v97, val_main_v96, val_main_v95, val_main_v94, val_main_v93, val_main_v92, val_main_v91, val_main_v90, val_main_v89, val_main_v88, val_main_v87, val_main_v86, val_main_v85, val_main_v84, val_main_v82, val_main_v64, val_main_v21, val_main_v18, hx, hc, hs]
  refine choice (fun h => ?_) (fun h => ?_)
  · exact T.rope_lo _ (by omega) (by omega) (by omega)
  refine choice (fun h => ?_) (fun h => ?_)
  · exact T.rope_hi _ (by omega) (by omega) (by omega)
  · exact T.rope_rest (by omega) (by omega)

theorem rope_ks (h : Fin 2) (d : Fin 64) : (val_main_v134 (F := Ideal) x0 x1 x2 x3) (ix4 b t h d) = (tok x0 x1 x2 x3 b t).rope (2816 + 64 * h) d := by
  have hx := col_at x0 x1 x2 x3 b t
  have hc : ∀ i, (val_main_v117 (F := Ideal) x1) (ix3 b t i) = _ := cos_at x0 x1 x2 x3 b t
  have hs : ∀ i, (val_main_v119 (F := Ideal) x1) (ix3 b t i) = _ := sin_at x0 x1 x2 x3 b t
  generalize tok x0 x1 x2 x3 b t = T at hx hc hs ⊢
  have hd := d.isLt
  have hh := h.isLt
  pointwise [val_main_v134, val_main_v133, val_main_v132, val_main_v131, val_main_v130, val_main_v129, val_main_v128, val_main_v127, val_main_v126, val_main_v125, val_main_v124, val_main_v123, val_main_v122, val_main_v121, val_main_v120, val_main_v118, val_main_v100, val_main_v23, val_main_v18, hx, hc, hs]
  refine choice (fun h => ?_) (fun h => ?_)
  · exact T.rope_lo _ (by omega) (by omega) (by omega)
  refine choice (fun h => ?_) (fun h => ?_)
  · exact T.rope_hi _ (by omega) (by omega) (by omega)
  · exact T.rope_rest (by omega) (by omega)

theorem rope_kw (h : Fin 2) (d : Fin 64) : (val_main_v170 (F := Ideal) x0 x1 x2 x3) (ix4 b t h d) = (tok x0 x1 x2 x3 b t).rope (3072 + 64 * h) d := by
  have hx := col_at x0 x1 x2 x3 b t
  have hc : ∀ i, (val_main_v153 (F := Ideal) x1) (ix3 b t i) = _ := cos_at x0 x1 x2 x3 b t
  have hs : ∀ i, (val_main_v155 (F := Ideal) x1) (ix3 b t i) = _ := sin_at x0 x1 x2 x3 b t
  generalize tok x0 x1 x2 x3 b t = T at hx hc hs ⊢
  have hd := d.isLt
  have hh := h.isLt
  pointwise [val_main_v170, val_main_v169, val_main_v168, val_main_v167, val_main_v166, val_main_v165, val_main_v164, val_main_v163, val_main_v162, val_main_v161, val_main_v160, val_main_v159, val_main_v158, val_main_v157, val_main_v156, val_main_v154, val_main_v136, val_main_v25, val_main_v18, hx, hc, hs]
  refine choice (fun h => ?_) (fun h => ?_)
  · exact T.rope_lo _ (by omega) (by omega) (by omega)
  refine choice (fun h => ?_) (fun h => ?_)
  · exact T.rope_hi _ (by omega) (by omega) (by omega)
  · exact T.rope_rest (by omega) (by omega)

/-- The quotient by 64 as the host rounds it down. -/
theorem quotient : ∀ t : Fin 4096, Scalar.select
    (IntOp.andi
      (IntOp.cmpi CmpIPredicate.ne (if BitVec.ofNat 32 t.val = 0 then (0 : BitVec 32) else if (BitVec.ofNat 32 t.val).msb = true then -1 else 1)
        (if (64#32) = 0 then (0 : BitVec 32) else if BitVec.msb (64#32) = true then -1 else 1))
      (IntOp.cmpi CmpIPredicate.ne (IntOp.remsi ArithUnit.host (BitVec.ofNat 32 t.val) (64#32)) 0#32))
    (IntOp.subi (IntOp.divsi ArithUnit.host (BitVec.ofNat 32 t.val) (64#32)) 1#32)
    (IntOp.divsi ArithUnit.host (BitVec.ofNat 32 t.val) (64#32)) = BitVec.ofNat 32 (t.val / 64) := by
  decide +kernel

theorem block_at (j : Fin 128) : (val_main_v180 (F := Ideal)) (ix2 t j) = if t.val / 64 = j.val then 1 else 0 := by
  have h : (val_main_call0_v0 (F := Ideal)) ix0 = 64#32 := rfl
  have hq := quotient t
  pointwise [val_main_v180, val_main_v179, val_main_v178, val_main_v177, val_main_v176, val_main_v175, val_main_v174, val_main_v173, val_main_v172,
    val_main_call0_v1, val_main_call0_v2, val_main_call0_v3, val_main_call0_v4, val_main_call0_v5, val_main_call0_v6, val_main_call0_v7, val_main_call0_v8, val_main_call0_v9, val_main_call0_v10, val_main_call0_v11, val_main_call0_v12, val_main_call0_v13, val_main_call0_c, val_main_call0_c_0, h]
  exact (congrArg (fun x => FloatOps.uitofp (F := Ideal) FTy.f32 (IntOp.cmpi CmpIPredicate.eq x (BitVec.ofNat 32 j.val))) hq).trans
    (number_small _ _ (by omega) j.isLt)

theorem first_at (d : Fin 16) (g : Fin 2) : (val_main_v186 (F := Ideal)) (ix4 b t g d) = if d.val = 0 then 1 else 0 := by
  pointwise [val_main_v186, val_main_v185, val_main_v184, val_main_v183, val_main_v182, val_main_c_19]
  exact number_small d.val 0 (by omega) (by omega)

/-! The nine results. -/

theorem hg (j : Fin 2048) : (val_main_v195 (F := Ideal) x0 x2 x3) (ix3 b t j) = (tok x0 x1 x2 x3 b t).col j := by
  have hx := col_at x0 x1 x2 x3 b t
  generalize tok x0 x1 x2 x3 b t = T at hx ⊢
  pointwise [val_main_v195, val_main_v16, hx]

theorem mg (j : Fin 2048) : (val_main_v196 (F := Ideal) x0 x2 x3) (ix3 b t j) = (tok x0 x1 x2 x3 b t).col (3352 + j) := by
  have hx := col_at x0 x1 x2 x3 b t
  generalize tok x0 x1 x2 x3 b t = T at hx ⊢
  pointwise [val_main_v196, val_main_v20, hx]

theorem vc (j : Fin 128) : (val_main_v22 (F := Ideal) x0 x2 x3) (ix3 b t j) = (tok x0 x1 x2 x3 b t).col (2688 + j) := by
  have hx := col_at x0 x1 x2 x3 b t
  generalize tok x0 x1 x2 x3 b t = T at hx ⊢
  pointwise [val_main_v22, val_main_v18, hx]
  exact congrArg T.col (by omega)

theorem kc (j : Fin 128) : (val_main_v99 (F := Ideal) x0 x1 x2 x3) (ix3 b t j) = (tok x0 x1 x2 x3 b t).rope (2560 + 64 * (j.val / 64)) (j.val % 64) := by
  have hx := rope_kc x0 x1 x2 x3 b t
  generalize tok x0 x1 x2 x3 b t = T at hx ⊢
  pointwise [val_main_v99, hx]

theorem ks (j : Fin 256) : (val_main_v198 (F := Ideal) x0 x1 x2 x3) (ix3 b t j) = (tok x0 x1 x2 x3 b t).key t.val j := by
  have hx := rope_ks x0 x1 x2 x3 b t
  have hb := block_at t
  generalize tok x0 x1 x2 x3 b t = T at hx ⊢
  pointwise [val_main_v198, val_main_v197, val_main_v135, val_main_v181, hx, hb, Tok.key]
  exact choice (fun h => (if_pos h).symm) (fun h => (if_neg h).symm)

theorem kw (j : Fin 128) : (val_main_v199 (F := Ideal) x0 x1 x2 x3) (ix3 b t j) = (tok x0 x1 x2 x3 b t).rope (3072 + 64 * (j.val / 64)) (j.val % 64) := by
  have hx := rope_kw x0 x1 x2 x3 b t
  generalize tok x0 x1 x2 x3 b t = T at hx ⊢
  pointwise [val_main_v199, val_main_v171, hx]

theorem qt (j : Fin 512) : (val_main_v202 (F := Ideal) x0 x1 x2 x3) (ix3 b j t)
    = (tok x0 x1 x2 x3 b t).rope (2048 + 64 * (j.val / 64)) (j.val % 64) * Ideal.ofBits .f32 0x3E38AA3B#32 := by
  have hx := rope_q x0 x1 x2 x3 b t
  generalize tok x0 x1 x2 x3 b t = T at hx ⊢
  pointwise [val_main_v202, val_main_v201, val_main_v200, val_main_v63, val_main_v62, val_main_cst_6, hx]

theorem vt (j : Fin 320) : (val_main_v205 (F := Ideal) x0 x2 x3) (ix3 b j t) = (tok x0 x1 x2 x3 b t).val j := by
  have hx := col_at x0 x1 x2 x3 b t
  have hb := first_at b t
  have hj := j.isLt
  generalize tok x0 x1 x2 x3 b t = T at hx ⊢
  pointwise [val_main_v205, val_main_v204, val_main_v203, val_main_v192, val_main_v191, val_main_v190, val_main_v189, val_main_v188, val_main_v187,
    val_main_v26, val_main_v24, val_main_v18, hx, hb]
  refine choice (fun h => ?_) (fun h => ?_)
  all_goals
    refine choice (fun h' => ?_) (fun h' => ?_)
    · exact T.val_col (by omega) (by omega)
    · exact T.val_one (by omega)

theorem gt (j : Fin 32) : (val_main_v213 (F := Ideal) x0 x2 x3) (ix3 b j t) = (tok x0 x1 x2 x3 b t).gate j := by
  have hx := col_at x0 x1 x2 x3 b t
  have hp : (tok x0 x1 x2 x3 b t).col 5400 = 0 := Finset.sum_eq_zero fun k _ =>
    (congrArg _ (widen_past (fun k n => x3 (ix3 0 k n)) k (show ¬ 5400 < 5400 by omega)).symm).trans (mul_zero _)
  have hj := j.isLt
  generalize tok x0 x1 x2 x3 b t = T at hx hp ⊢
  pointwise [val_main_v213, val_main_v212, val_main_v211, val_main_v210, val_main_v209, val_main_v208, val_main_v207, val_main_v206, val_main_v194,
    val_main_v193, val_main_v19, val_main_cst_21, val_main_cst_22, val_main_call1_v0, val_main_c_20, hx, Tok.gate, Ideal.logistic, Ideal.ofBits_one_f32]
  refine congrArg (fun y => Ideal.div 1 (1 + Ideal.exp (-y))) (choice (fun h => ?_) (fun h => ?_))
  · have e : 3328 + (j.val / 16 * 12 + j.val % 16) = 3328 + 12 * (j.val / 16) + j.val % 16 := by omega
    rw [if_pos h.2]
    exact congrArg T.col e
  · rw [if_neg (show ¬ j.val % 16 < 12 by omega), hp]
    exact sitofp_zero

end Cert.Reference3Ideal.Pj

end
-- ==== Proof.PjKer.lean ====
/- The projection kernel's stored values at a token, in plain form. -/
module

public import proofs.«01_k».proof.Proof.Gen.Kernel3Ideal.Value
public import proofs.«01_k».proof.Proof.PjSpec

@[expose] public section

set_option maxRecDepth 16384

noncomputable section

namespace Cert.Kernel3Ideal.Pj

open Cert.Pj Cert.Kernel3Ideal Cert.Kernel3Ideal.Gen Idealize.ShloMosaic Idealize.ShloMosaic.TcCoe Idealize.SL.Sem
open scoped BigOperators

theorem xn_at (T : Tok) (x0 : Vec Ideal S1x512x1024 .f32) (g : Vec Ideal S1x1024 .f32) (r : Fin 512)
    (hx : ∀ k, x0 (ix3 0 r k) = T.x k) (hg : ∀ k, g (ix2 0 k) = T.g k) (k : Fin 1024) :
    (k0_pay4 (F := Ideal) x0 g) (ix2 r k) = T.xn k := by
  pointwise [k0_pay4, hx, hg, Tok.xn, Cert.Tl.rms, Cert.Tl.msq]

theorem ang_at (T : Tok) (f : Vec Ideal S8x1 .f32) (p : Vec Ideal S1x1x512 .i32) (r : Fin 512) (i : Fin 8)
    (hf : ∀ i, f (ix2 i 0) = T.f i) (hp : FloatOps.sitofp (F := Ideal) FTy.f32 (p (ix3 0 0 r)) = T.p) :
    (k0_pay11 (F := Ideal) f p) (ix2 i r) = T.ang i := by
  pointwise [k0_pay11, hf, hp, Tok.ang]
  exact mul_comm _ _

theorem cos_at (T : Tok) (f : Vec Ideal S8x1 .f32) (p : Vec Ideal S1x1x512 .i32) (r : Fin 512) (i : Fin 8)
    (hf : ∀ i, f (ix2 i 0) = T.f i) (hp : FloatOps.sitofp (F := Ideal) FTy.f32 (p (ix3 0 0 r)) = T.p) :
    (k0_pay12 (F := Ideal) f p) (ix2 i r) = Ideal.cos (T.ang i) := by
  have h := ang_at T f p r i hf hp
  pointwise [k0_pay12, h]

theorem sin_at (T : Tok) (f : Vec Ideal S8x1 .f32) (p : Vec Ideal S1x1x512 .i32) (r : Fin 512) (i : Fin 8)
    (hf : ∀ i, f (ix2 i 0) = T.f i) (hp : FloatOps.sitofp (F := Ideal) FTy.f32 (p (ix3 0 0 r)) = T.p) :
    (k0_pay13 (F := Ideal) f p) (ix2 i r) = Ideal.sin (T.ang i) := by
  have h := ang_at T f p r i hf hp
  pointwise [k0_pay13, h]

/-! The products that put a row of the prepared weights against the token's row. -/

theorem q_at (T : Tok) (xn : FVec Ideal S512x1024 .bf16) (w : Vec Ideal S512x1024 .bf16) (r : Fin 512) (b : Fin 512 → ℕ)
    (hx : ∀ k, xn (ix2 r k) = T.xn k) (hw : ∀ i k, w (ix2 i k) = T.w k (b i)) (i : Fin 512) :
    (k0_pay14 (F := Ideal) xn w) (ix2 i r) = T.col (b i) := by
  pointwise [k0_pay14, hx, hw, Tok.col]
  exact Finset.sum_congr rfl fun _ _ => mul_comm _ _

theorem k_at (T : Tok) (xn : FVec Ideal S512x1024 .bf16) (w : Vec Ideal S384x1024 .bf16) (r : Fin 512) (b : Fin 384 → ℕ)
    (hx : ∀ k, xn (ix2 r k) = T.xn k) (hw : ∀ i k, w (ix2 i k) = T.w k (b i)) (i : Fin 384) :
    (k0_pay54 (F := Ideal) xn w) (ix2 i r) = T.col (b i) := by
  pointwise [k0_pay54, hx, hw, Tok.col]
  exact Finset.sum_congr rfl fun _ _ => mul_comm _ _

theorem gate_at (T : Tok) (xn : FVec Ideal S512x1024 .bf16) (w : Vec Ideal S32x1024 .bf16) (r : Fin 512) (b : Fin 32 → ℕ)
    (hx : ∀ k, xn (ix2 r k) = T.xn k) (hw : ∀ i k, w (ix2 i k) = T.w k (b i)) (i : Fin 32) :
    (k0_pay3 (F := Ideal) xn w) (ix3 0 i r) = Ideal.logistic (T.col (b i)) := by
  pointwise [k0_pay3, hx, hw, Tok.col]
  exact congrArg _ (Finset.sum_congr rfl fun _ _ => mul_comm _ _)

theorem v_at (T : Tok) (xn : FVec Ideal S512x1024 .bf16) (w : Vec Ideal S256x1024 .bf16) (r : Fin 512)
    (hx : ∀ k, xn (ix2 r k) = T.xn k) (hw : ∀ i k, w (ix2 i k) = T.w k (tcol (896 + i))) (i : Fin 320) :
    (k0_pay2 (F := Ideal) xn w) (ix3 0 i r) = T.val i := by
  have hm : ∀ n, ∑ x, T.w x n * T.xn x = T.col n := fun n => Finset.sum_congr rfl fun _ _ => mul_comm _ _
  have hc : ∀ n (h : n < 16), Scalar.select (α := EReal) (IntOp.cmpi CmpIPredicate.eq (BitVec.ofNat 32 n) 0#32) 1 0 = if n = 0 then 1 else 0 :=
    fun n h => select_small n 0 (by omega) (by omega)
  have ha : ∀ n, n < 256 → tcol (896 + n) = 2944 + n + 128 * (n / 128) := fun n _ => by unfold tcol; split_ifs <;> omega
  have hi := i.isLt
  pointwise [k0_pay2, hx, hw, hm]
  iterate 3
    refine choice (fun h => ?_) (fun h => ?_)
    · exact T.val_col (by omega) ((ha _ (by omega)).trans (by omega))
    refine choice (fun h => ?_) (fun h => ?_)
    · exact (hc _ (by omega)).trans (T.val_one (by omega))
  refine choice (fun h => ?_) (fun h => ?_)
  · exact T.val_col (by omega) ((ha _ (by omega)).trans (by omega))
  · exact (hc _ (by omega)).trans (T.val_one (by omega))

theorem nat_a (T : Tok) (x0 : Vec Ideal S1x512x1024 .f32) (g : Vec Ideal S1x1024 .f32) (w : Vec Ideal S1024x1024 .bf16) (r : Fin 512) (b : Fin 1024 → ℕ)
    (hx : ∀ k, x0 (ix3 0 r k) = T.x k) (hg : ∀ k, g (ix2 0 k) = T.g k) (hw : ∀ k j, w (ix2 k j) = T.w k (b j)) (j : Fin 1024) :
    (k0_pay5 (F := Ideal) x0 g w) (ix3 0 r j) = T.col (b j) := by
  have h := xn_at T x0 g r hx hg
  pointwise [k0_pay5, h, hw, Tok.col]

theorem nat_b (T : Tok) (x0 : Vec Ideal S1x512x1024 .f32) (g : Vec Ideal S1x1024 .f32) (w : Vec Ideal S1024x1024 .bf16) (r : Fin 512) (b : Fin 1024 → ℕ)
    (hx : ∀ k, x0 (ix3 0 r k) = T.x k) (hg : ∀ k, g (ix2 0 k) = T.g k) (hw : ∀ k j, w (ix2 k j) = T.w k (b j)) (j : Fin 1024) :
    (k0_pay6 (F := Ideal) x0 g w) (ix3 0 r j) = T.col (b j) := by
  have h := xn_at T x0 g r hx hg
  pointwise [k0_pay6, h, hw, Tok.col]

theorem nat_c (T : Tok) (x0 : Vec Ideal S1x512x1024 .f32) (g : Vec Ideal S1x1024 .f32) (w : Vec Ideal S1024x1024 .bf16) (r : Fin 512) (b : Fin 1024 → ℕ)
    (hx : ∀ k, x0 (ix3 0 r k) = T.x k) (hg : ∀ k, g (ix2 0 k) = T.g k) (hw : ∀ k j, w (ix2 k j) = T.w k (b j)) (j : Fin 1024) :
    (k0_pay8 (F := Ideal) (k0_pay7 x0 g w)) (ix3 0 r j) = T.col (b j) := by
  have h := xn_at T x0 g r hx hg
  pointwise [k0_pay8, k0_pay7, h, hw, Tok.col]

theorem nat_d (T : Tok) (xn : FVec Ideal S512x1024 .bf16) (w : Vec Ideal S1024x1024 .bf16) (r : Fin 512) (b : Fin 1024 → ℕ)
    (hx : ∀ k, xn (ix2 r k) = T.xn k) (hw : ∀ k j, w (ix2 k j) = T.w k (b j)) (j : Fin 1024) :
    (k0_pay9 (F := Ideal) xn w) (ix3 0 r j) = T.col (b j) := by
  pointwise [k0_pay9, hx, hw, Tok.col]

theorem vc_at (T : Tok) (xn : FVec Ideal S512x1024 .bf16) (w : Vec Ideal S1024x128 .bf16) (r : Fin 512) (b : Fin 128 → ℕ)
    (hx : ∀ k, xn (ix2 r k) = T.xn k) (hw : ∀ k j, w (ix2 k j) = T.w k (b j)) (j : Fin 128) :
    (k0_pay10 (F := Ideal) xn w) (ix3 0 r j) = T.col (b j) := by
  pointwise [k0_pay10, hx, hw, Tok.col]

theorem block_of : ∀ (p : Fin 8) (r : Fin 512),
    IntOp.shrsi ArithUnit.vector (IntOp.addi (Scalar.muli (BitVec.ofNat 32 p.val) 512#32) (BitVec.ofNat 32 r.val)) 6#32
      = BitVec.ofNat 32 ((512 * p.val + r.val) / 64) := by
  decide +kernel

theorem member_at (p : ℕ) (hp : p < 8) (r : Fin 512) (j : Fin 128) :
    (k0_pay1 (F := Ideal) (k0_pay79 (BitVec.ofNat 32 p)) (Scalar.ofBits .f32 0x3F800000#32) (Scalar.ofBits .f32 0x00000000#32)) (ix3 0 r j)
      = if (512 * p + r.val) / 64 = j.val then 1 else 0 := by
  pointwise [k0_pay1, k0_pay79]
  rw [block_of ⟨p, hp⟩ r]
  exact select_small _ _ (by omega) j.isLt

theorem query_at (T : Tok) (xn : FVec Ideal S512x1024 .bf16) (w : Vec Ideal S512x1024 .bf16) (f : Vec Ideal S8x1 .f32) (p : Vec Ideal S1x1x512 .i32) (r : Fin 512)
    (hx : ∀ k, xn (ix2 r k) = T.xn k) (hf : ∀ i, f (ix2 i 0) = T.f i) (hp : FloatOps.sitofp (F := Ideal) FTy.f32 (p (ix3 0 0 r)) = T.p)
    (hw : ∀ i k, w (ix2 i k) = T.w k (tcol i)) (i : Fin 512) :
    (k0_pay53 (F := Ideal) (k0_pay12 f p) (k0_pay13 f p) (k0_pay14 xn w) (k0_pay19 (k0_pay17 xn f p w) (k0_pay18 xn f p w)) (k0_pay20 (k0_pay12 f p) (k0_pay13 f p) (k0_pay15 xn w) (k0_pay16 xn w)) (k0_pay21 (k0_pay14 xn w)) (k0_pay24 (k0_pay12 f p) (k0_pay13 f p) (k0_pay14 xn w)) (k0_pay25 (k0_pay12 f p) (k0_pay13 f p) (k0_pay14 xn w)) (k0_pay26 (k0_pay14 xn w)) (k0_pay29 (k0_pay12 f p) (k0_pay13 f p) (k0_pay14 xn w)) (k0_pay30 (k0_pay12 f p) (k0_pay13 f p) (k0_pay14 xn w)) (k0_pay31 (k0_pay14 xn w)) (k0_pay34 (k0_pay12 f p) (k0_pay13 f p) (k0_pay14 xn w)) (k0_pay35 (k0_pay12 f p) (k0_pay13 f p) (k0_pay14 xn w)) (k0_pay36 (k0_pay14 xn w)) (k0_pay39 (k0_pay12 f p) (k0_pay13 f p) (k0_pay14 xn w)) (k0_pay40 (k0_pay12 f p) (k0_pay13 f p) (k0_pay14 xn w)) (k0_pay41 (k0_pay14 xn w)) (k0_pay44 (k0_pay12 f p) (k0_pay13 f p) (k0_pay14 xn w)) (k0_pay45 (k0_pay12 f p) (k0_pay13 f p) (k0_pay14 xn w)) (k0_pay46 (k0_pay14 xn w)) (k0_pay49 (k0_pay12 f p) (k0_pay13 f p) (k0_pay14 xn w)) (k0_pay50 (k0_pay12 f p) (k0_pay13 f p) (k0_pay14 xn w)) (k0_pay51 (k0_pay14 xn w)) (k0_pay52 (k0_pay14 xn w))) (ix3 0 i r)
      = T.rope (2048 + 64 * (i.val / 64)) (i.val % 64) * Ideal.ofBits .f32 0x3E38AA3B#32 := by
  have hq := q_at T xn w r (fun i => 2048 + i.val) hx (fun i k => (hw i k).trans (congrArg (T.w k) (by unfold tcol; rw [if_pos (by omega)])))
  have hc := fun i => cos_at T f p r i hf hp
  have hs := fun i => sin_at T f p r i hf hp
  pointwise [k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, hq, hc, hs]
  congr 1
  have hi := i.isLt
  iterate 7
    refine choice (fun h => ?_) (fun h => ?_)
    · exact T.rope_lo _ (by omega) (by omega) (by omega)
    refine choice (fun h => ?_) (fun h => ?_)
    · exact T.rope_hi _ (by omega) (by omega) (by omega)
    refine choice (fun h => ?_) (fun h => ?_)
    · exact T.rope_rest (by omega) (by omega)
  refine choice (fun h => ?_) (fun h => ?_)
  · exact T.rope_lo _ (by omega) (by omega) (by omega)
  refine choice (fun h => ?_) (fun h => ?_)
  · exact T.rope_hi _ (by omega) (by omega) (by omega)
  · exact T.rope_rest (by omega) (by omega)

theorem keys_at (T : Tok) (xn : FVec Ideal S512x1024 .bf16) (w : Vec Ideal S384x1024 .bf16) (f : Vec Ideal S8x1 .f32) (p : Vec Ideal S1x1x512 .i32) (r : Fin 512)
    (hx : ∀ k, xn (ix2 r k) = T.xn k) (hf : ∀ i, f (ix2 i 0) = T.f i) (hp : FloatOps.sitofp (F := Ideal) FTy.f32 (p (ix3 0 0 r)) = T.p)
    (hw : ∀ i k, w (ix2 i k) = T.w k (tcol (512 + i))) (i : Fin 384) :
    (k0_pay75 (F := Ideal) (k0_pay12 f p) (k0_pay13 f p) (k0_pay54 xn w) (k0_pay57 xn (k0_pay12 f p) (k0_pay13 f p) w) (k0_pay58 xn (k0_pay12 f p) (k0_pay13 f p) w) (k0_pay59 xn w) (k0_pay62 xn (k0_pay12 f p) (k0_pay13 f p) w) (k0_pay63 xn (k0_pay12 f p) (k0_pay13 f p) w) (k0_pay64 xn w) (k0_pay67 xn (k0_pay12 f p) (k0_pay13 f p) w) (k0_pay68 xn (k0_pay12 f p) (k0_pay13 f p) w) (k0_pay69 xn w) (k0_pay72 xn (k0_pay12 f p) (k0_pay13 f p) w) (k0_pay73 xn (k0_pay12 f p) w) (k0_pay74 xn (k0_pay13 f p) w)) (ix2 r i)
      = T.rope (2560 + 128 * (i.val / 128) + 64 * (i.val / 64)) (i.val % 64) := by
  have hq := k_at T xn w r (fun i => tcol (512 + i.val)) hx hw
  have hc := fun i => cos_at T f p r i hf hp
  have hs := fun i => sin_at T f p r i hf hp
  pointwise [k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, hq, hc, hs]
  have hi := i.isLt
  have ha : ∀ n, n < 384 → tcol (512 + n) = 2560 + n + 128 * (n / 128) := fun n _ => by unfold tcol; split_ifs <;> omega
  iterate 5
    refine choice (fun h => ?_) (fun h => ?_)
    · exact T.rope_lo _ (by omega) ((ha _ (by omega)).trans (by omega)) ((ha _ (by omega)).trans (by omega))
    refine choice (fun h => ?_) (fun h => ?_)
    · exact T.rope_hi _ (by omega) ((ha _ (by omega)).trans (by omega)) ((ha _ (by omega)).trans (by omega))
    refine choice (fun h => ?_) (fun h => ?_)
    · exact T.rope_rest (by omega) ((ha _ (by omega)).trans (by omega))
  refine choice (fun h => ?_) (fun h => ?_)
  · exact T.rope_lo _ (by omega) ((ha _ (by omega)).trans (by omega)) ((ha _ (by omega)).trans (by omega))
  refine choice (fun h => ?_) (fun h => ?_)
  · exact T.rope_hi _ (by omega) ((ha _ (by omega)).trans (by omega)) ((ha _ (by omega)).trans (by omega))
  · exact T.rope_rest (by omega) ((ha _ (by omega)).trans (by omega))

/-! The three kinds of keys are column stretches of one array. -/

theorem kc_of {v58 v59 v149 v152 v158 v161 v167 v170 v176 v177 v178 : FVec Ideal S8x512 .f32} {v144 : FVec Ideal S384x512 .f32}
    {v153 v162 v171 : FVec Ideal S48x512 .f32} (r : Fin 512) (j : Fin 128) :
    (k0_pay76 (F := Ideal) v58 v59 v144 v149 v152 v153 v158 v161 v162 v167 v170 v171 v176 v177 v178) (ix3 0 r j)
      = (k0_pay75 (F := Ideal) v58 v59 v144 v149 v152 v153 v158 v161 v162 v167 v170 v171 v176 v177 v178) (ix2 r (⟨j.val, by omega⟩ : Fin 384)) := by
  pointwise [k0_pay76]

theorem kw_of {v58 v59 v149 v152 v158 v161 v167 v170 v176 v177 v178 : FVec Ideal S8x512 .f32} {v144 : FVec Ideal S384x512 .f32}
    {v153 v162 v171 : FVec Ideal S48x512 .f32} (r : Fin 512) (j : Fin 128) :
    (k0_pay77 (F := Ideal) v58 v59 v144 v149 v152 v153 v158 v161 v162 v167 v170 v171 v176 v177 v178) (ix3 0 r j)
      = (k0_pay75 (F := Ideal) v58 v59 v144 v149 v152 v153 v158 v161 v162 v167 v170 v171 v176 v177 v178) (ix2 r (⟨256 + j.val, by omega⟩ : Fin 384)) := by
  pointwise [k0_pay77]

theorem ks_of {v58 v59 v149 v152 v158 v161 v167 v170 v176 v177 v178 : FVec Ideal S8x512 .f32} {v144 : FVec Ideal S384x512 .f32}
    {v153 v162 v171 : FVec Ideal S48x512 .f32} (r : Fin 512) (j : Fin 128) :
    (k0_pay78 (F := Ideal) v58 v59 v144 v149 v152 v153 v158 v161 v162 v167 v170 v171 v176 v177 v178) (ix3 0 r j)
      = (k0_pay75 (F := Ideal) v58 v59 v144 v149 v152 v153 v158 v161 v162 v167 v170 v171 v176 v177 v178) (ix2 r (⟨128 + j.val, by omega⟩ : Fin 384)) := by
  pointwise [k0_pay78]

end Cert.Kernel3Ideal.Pj

end
-- ==== Proof.PjBlock.lean ====
/- The kernel's blocks at a grid point, as rows of the arrays, and the arrays the run leaves. -/
module

public import proofs.«01_k».proof.Proof.PjKer

@[expose] public section

set_option maxRecDepth 16384

noncomputable section

namespace Cert.Kernel3Ideal.Pj

open Cert.Pj Cert.Kernel3Ideal Cert.Kernel3Ideal.Gen Idealize.ShloMosaic Idealize.ShloMosaic.TcCoe Idealize.SL.Sem
open scoped BigOperators

/-! The arguments the host prepares: the weights' plain and transposed parts, and the rotary frequencies. -/

/-- The weights with their leading axis dropped. -/
def wide (x : FVec Ideal S1x1024x5400 .f32) : FVec Ideal S1024x5400 .f32 := shapeCast S1024x5400 x shapeCasts_S1x1024x5400_S1024x5400

/-- The columns kept as they are: the recurrent mixer's, the merge gate's, the compression values'. -/
def plain (x : FVec Ideal S1x1024x5400 .f32) : FVec Ideal S1024x4224 .bf16 :=
  truncf .bf16 (concatenate S1024x4224 1
    [⟨S1024x2048, extractStridedSlice S1024x2048 ![0, 0] (wide x) slices_S1024x5400_S1024x2048_0_0⟩,
     ⟨S1024x2048, extractStridedSlice S1024x2048 ![0, 3352] (wide x) slices_S1024x5400_S1024x2048_0_3352⟩,
     ⟨S1024x128, extractStridedSlice S1024x128 ![0, 2688] (wide x) slices_S1024x5400_S1024x128_0_2688⟩]
    concatenates_S1024x2048_S1024x2048_S1024x128_S1024x4224_d1) bitsLt_bf16_f32

/-- The gates' columns, each group padded from twelve to sixteen. -/
def gates (x : FVec Ideal S1x1024x5400 .f32) : FVec Ideal S1024x32 .f32 :=
  shapeCast S1024x32 (pad S1024x2x16 ![0, 0, 0] ![0, 0, 4] ![0, 0, 0]
    (shapeCast S1024x2x12 (extractStridedSlice S1024x24 ![0, 3328] (wide x) slices_S1024x5400_S1024x24_0_3328) shapeCasts_S1024x24_S1024x2x12)
    (sitofp (F := Ideal) .f32 (constantI S_ 32 0#32)) pads_S1024x2x12_S1024x2x16_000_000_040 h_S_) shapeCasts_S1024x2x16_S1024x32

/-- The columns the kernel reads as rows: queries, the three kinds of keys, the two kinds of values, and the gates. -/
def turned (x : FVec Ideal S1x1024x5400 .f32) : FVec Ideal S1184x1024 .bf16 :=
  transpose S1184x1024 [1, 0] (truncf .bf16 (concatenate S1024x1184 1
    [⟨S1024x512, extractStridedSlice S1024x512 ![0, 2048] (wide x) slices_S1024x5400_S1024x512_0_2048⟩,
     ⟨S1024x128, extractStridedSlice S1024x128 ![0, 2560] (wide x) slices_S1024x5400_S1024x128_0_2560⟩,
     ⟨S1024x128, extractStridedSlice S1024x128 ![0, 2816] (wide x) slices_S1024x5400_S1024x128_0_2816⟩,
     ⟨S1024x128, extractStridedSlice S1024x128 ![0, 3072] (wide x) slices_S1024x5400_S1024x128_0_3072⟩,
     ⟨S1024x128, extractStridedSlice S1024x128 ![0, 2944] (wide x) slices_S1024x5400_S1024x128_0_2944⟩,
     ⟨S1024x128, extractStridedSlice S1024x128 ![0, 3200] (wide x) slices_S1024x5400_S1024x128_0_3200⟩,
     ⟨S1024x32, gates x⟩]
    concatenates_S1024x512_S1024x128_S1024x128_S1024x128_S1024x128_S1024x128_S1024x32_S1024x1184_d1) bitsLt_bf16_f32) transposes_S1024x1184_S1184x1024_1_0

/-- The rotary frequencies. -/
def freqs : FVec Ideal S8x1 .f32 :=
  shapeCast S8x1 (Host.powf (broadcastInDim S8 ![] bcast_S_S8 (constant (F := Ideal) S_ .f32 0x48F42400#32))
    (Host.divf (Host.negf (addf (broadcastInDim S8 ![] bcast_S_S8 (constant (F := Ideal) S_ .f32 0x00000000#32))
      (mulf (broadcastInDim S8 ![] bcast_S_S8 (constant (F := Ideal) S_ .f32 0x40000000#32)) (sitofp (F := Ideal) .f32 (iotaInDim S8 32 0)))))
      (broadcastInDim S8 ![] bcast_S_S8 (constant (F := Ideal) S_ .f32 0x41800000#32)))) shapeCasts_S8_S8x1

theorem wide_at (x : FVec Ideal S1x1024x5400 .f32) (k : Fin 1024) (n : Fin 5400) : wide x (ix2 k n) = x (ix3 0 k n) := by
  unfold wide
  pointwise

theorem plain_at (x : FVec Ideal S1x1024x5400 .f32) (k : Fin 1024) (n : Fin 4224) :
    plain x (ix2 k n) = widen (fun k n => x (ix3 0 k n)) k (ncol n) := by
  have hn := n.isLt
  pointwise [plain, wide_at]
  refine choice (fun h => ?_) (fun h => ?_)
  · exact widen_of (fun k n => x (ix3 0 k n)) k _ (by unfold ncol; split_ifs <;> omega)
  refine choice (fun h => ?_) (fun h => ?_)
  · exact widen_of (fun k n => x (ix3 0 k n)) k _ (by unfold ncol; split_ifs <;> omega)
  · exact widen_of (fun k n => x (ix3 0 k n)) k _ (by unfold ncol; split_ifs <;> omega)

theorem gates_at (x : FVec Ideal S1x1024x5400 .f32) (k : Fin 1024) (n : Fin 32) :
    gates x (ix2 k n) = widen (fun k n => x (ix3 0 k n)) k (tcol (1152 + n)) := by
  have hn := n.isLt
  pointwise [gates, wide_at]
  refine choice (fun h => ?_) (fun h => ?_)
  · exact widen_of (fun k n => x (ix3 0 k n)) k _ (by unfold tcol; split_ifs <;> omega)
  · refine Eq.trans ?_ (widen_past (fun k n => x (ix3 0 k n)) k (by unfold tcol; split_ifs <;> omega))
    exact sitofp_zero

theorem turned_at (x : FVec Ideal S1x1024x5400 .f32) (n : Fin 1184) (k : Fin 1024) :
    turned x (ix2 n k) = widen (fun k n => x (ix3 0 k n)) k (tcol n) := by
  have hn := n.isLt
  pointwise [turned, wide_at, gates_at]
  iterate 6
    refine choice (fun h => ?_) (fun h => ?_)
    · exact widen_of (fun k n => x (ix3 0 k n)) k _ (by unfold tcol; split_ifs <;> omega)
  exact congrArg (widen (fun k n => x (ix3 0 k n)) k) (congrArg tcol (by omega))

theorem freqs_at (i : Fin 8) : freqs (ix2 i 0) = freq i := by
  pointwise [freqs, freq]

variable (m : (ℓ : Loc nD τ sig) → Buf (Elt Ideal) ℓ) (c : Dev nD)

theorem v5_eq : (V m c main_v5 : FVec Ideal S1024x4224 .bf16) = plain (m ((c : Thread nD τ).loc main_arg3) : FVec Ideal S1x1024x5400 .f32) := by
  unfold_abbrev_sides
  simp only [hostOps0, hostOps0_1, hostOps0_2, List.flatten_cons, List.flatten_nil, List.append_nil, List.cons_append, List.nil_append]
  after_results
  rfl

theorem v18_eq : (V m c main_v18 : FVec Ideal S1184x1024 .bf16) = turned (m ((c : Thread nD τ).loc main_arg3) : FVec Ideal S1x1024x5400 .f32) := by
  unfold_abbrev_sides
  simp only [hostOps0, hostOps0_1, hostOps0_2, List.flatten_cons, List.flatten_nil, List.append_nil, List.cons_append, List.nil_append]
  after_results
  rfl

theorem v29_eq : (V m c main_v29 : FVec Ideal S8x1 .f32) = freqs := by
  unfold_abbrev_sides
  simp only [hostOps0, hostOps0_1, hostOps0_2, List.flatten_cons, List.flatten_nil, List.append_nil, List.cons_append, List.nil_append]
  after_results
  rfl

theorem v30_eq : (V m c main_v30 : IVec S8x1x4096 32)
    = shapeCast S8x1x4096 (m ((c : Thread nD τ).loc main_arg1) : IVec S8x4096 32) shapeCasts_S8x4096_S8x1x4096 := by
  unfold_abbrev_sides
  simp only [hostOps0, hostOps0_1, hostOps0_2, List.flatten_cons, List.flatten_nil, List.append_nil, List.cons_append, List.nil_append]
  after_results
  rfl

/-! Each window's block at a point, at an index: the token arrays' blocks are rows of the batch row and stretch of positions
the point names, the others are the arrays the host prepared. -/

theorem wide_pos (x : IVec S8x4096 32) (b : Fin 8) (t : Fin 4096) : (shapeCast S8x1x4096 x shapeCasts_S8x4096_S8x1x4096) (ix3 b 0 t) = x (ix2 b t) := by
  pointwise

theorem idx0 : ∀ t : Fin cfg0.N, win0_0.index t = ![t.val / 8, t.val % 8, 0] := by decide +kernel
theorem idx1 : ∀ t : Fin cfg0.N, win0_1.index t = ![t.val / 8, 0, t.val % 8] := by decide +kernel
theorem idx2 : ∀ t : Fin cfg0.N, win0_2.index t = ![0, 0] := by decide +kernel
theorem idx3 : ∀ t : Fin cfg0.N, win0_3.index t = ![0, 0] := by decide +kernel
theorem idx4 : ∀ t : Fin cfg0.N, win0_4.index t = ![0, 0] := by decide +kernel
theorem idx5 : ∀ t : Fin cfg0.N, win0_5.index t = ![0, 0] := by decide +kernel
theorem idx6 : ∀ t : Fin cfg0.N, win0_6.index t = ![t.val / 8, t.val % 8, 0] := by decide +kernel
theorem idx7 : ∀ t : Fin cfg0.N, win0_7.index t = ![t.val / 8, t.val % 8, 0] := by decide +kernel
theorem idx8 : ∀ t : Fin cfg0.N, win0_8.index t = ![t.val / 8, t.val % 8, 0] := by decide +kernel
theorem idx9 : ∀ t : Fin cfg0.N, win0_9.index t = ![t.val / 8, t.val % 8, 0] := by decide +kernel
theorem idx10 : ∀ t : Fin cfg0.N, win0_10.index t = ![t.val / 8, t.val % 8, 0] := by decide +kernel
theorem idx11 : ∀ t : Fin cfg0.N, win0_11.index t = ![t.val / 8, t.val % 8, 0] := by decide +kernel
theorem idx12 : ∀ t : Fin cfg0.N, win0_12.index t = ![t.val / 8, 0, t.val % 8] := by decide +kernel
theorem idx13 : ∀ t : Fin cfg0.N, win0_13.index t = ![t.val / 8, 0, t.val % 8] := by decide +kernel
theorem idx14 : ∀ t : Fin cfg0.N, win0_14.index t = ![t.val / 8, 0, t.val % 8] := by decide +kernel

theorem point : ∀ t : Fin cfg0.N, (grid0.coords t 1).val = t.val % 8 := by decide +kernel

/-- The token at a batch row and a position, of the arrays in memory. -/
def tok (b : Fin 8) (t : Fin 4096) : Tok where
  x k := m ((c : Thread nD τ).loc main_arg0) (ix3 b t k)
  g k := m ((c : Thread nD τ).loc main_arg2) (ix2 0 k)
  w := widen fun k n => m ((c : Thread nD τ).loc main_arg3) (ix3 0 k n)
  p := FloatOps.sitofp (F := Ideal) FTy.f32 (m ((c : Thread nD τ).loc main_arg1) (ix2 b t))
  f := freq

/-- Blocks that hold a token in row `r`, and the weights and frequencies as the host prepares them. -/
structure Holds (T : Tok) (r : Fin 512) (x0 : Vec Ideal S1x512x1024 .f32) (x1 : Vec Ideal S1x1x512 .i32) (x2 : Vec Ideal S1x1024 .f32)
    (x3 : Vec Ideal S8x1 .f32) (x4 : Vec Ideal S1024x4224 .bf16) (x5 : Vec Ideal S1184x1024 .bf16) : Prop where
  h0 : ∀ k, x0 (ix3 0 r k) = T.x k
  h1 : FloatOps.sitofp (F := Ideal) FTy.f32 (x1 (ix3 0 0 r)) = T.p
  h2 : ∀ k, x2 (ix2 0 k) = T.g k
  h3 : ∀ i, x3 (ix2 i 0) = T.f i
  h4 : ∀ k (n : Fin 4224), x4 (ix2 k n) = T.w k (ncol n)
  h5 : ∀ (n : Fin 1184) k, x5 (ix2 n k) = T.w k (tcol n)

theorem b0 (t : Fin cfg0.N) (r : Fin 512) (hb : t.val / 8 < 8) (hr : 512 * (t.val % 8) + r.val < 4096) (k : Fin 1024) : iblk m c 0 t (ix3 0 r k) = V m c main_arg0 (ix3 ⟨t.val / 8, hb⟩ ⟨512 * (t.val % 8) + r, hr⟩ k) := by
  blk_ext [iblk, idx0 t]

theorem b1 (t : Fin cfg0.N) (r : Fin 512) (hb : t.val / 8 < 8) (hr : 512 * (t.val % 8) + r.val < 4096) : iblk m c 1 t (ix3 0 0 r) = V m c main_v30 (ix3 ⟨t.val / 8, hb⟩ 0 ⟨512 * (t.val % 8) + r, hr⟩) := by
  blk_ext [iblk, idx1 t]

theorem b2 (t : Fin cfg0.N) (k : Fin 1024) : iblk m c 2 t (ix2 0 k) = V m c main_arg2 (ix2 0 k) := by
  blk_ext [iblk, idx2 t]

theorem b3 (t : Fin cfg0.N) (i : Fin 8) : iblk m c 3 t (ix2 i 0) = V m c main_v29 (ix2 i 0) := by
  blk_ext [iblk, idx3 t]

theorem b4 (t : Fin cfg0.N) (k : Fin 1024) (n : Fin 4224) : iblk m c 4 t (ix2 k n) = V m c main_v5 (ix2 k n) := by
  blk_ext [iblk, idx4 t]

theorem b5 (t : Fin cfg0.N) (n : Fin 1184) (k : Fin 1024) : iblk m c 5 t (ix2 n k) = V m c main_v18 (ix2 n k) := by
  blk_ext [iblk, idx5 t]

theorem holds (t : Fin cfg0.N) (r : Fin 512) (hb : t.val / 8 < 8) (hr : 512 * (t.val % 8) + r.val < 4096) :
    Holds (tok m c ⟨t.val / 8, hb⟩ ⟨512 * (t.val % 8) + r, hr⟩) r (iblk m c 0 t) (iblk m c 1 t) (iblk m c 2 t) (iblk m c 3 t) (iblk m c 4 t) (iblk m c 5 t) where
  h0 k := (b0 m c t r hb hr k).trans (congrFun (V_main_arg0 m c) _)
  h1 := congrArg _ ((b1 m c t r hb hr).trans ((congrFun (v30_eq m c) _).trans (wide_pos _ _ _)))
  h2 k := (b2 m c t k).trans (congrFun (V_main_arg2 m c) _)
  h3 i := (b3 m c t i).trans ((congrFun (v29_eq m c) _).trans (freqs_at i))
  h4 k n := (b4 m c t k n).trans ((congrFun (v5_eq m c) _).trans (plain_at _ k n))
  h5 n k := (b5 m c t n k).trans ((congrFun (v18_eq m c) _).trans (turned_at _ n k))

/-! Stretches of the prepared weights, loaded. -/

theorem cols_1024 (x : Vec Ideal S1024x4224 .bf16) (o : ℕ) (ho : o + 1024 ≤ 4224) (h : _) (k : Fin 1024) (j : Fin 1024) :
    View.ld x (Rect.unit (s := S1024x4224) ![0, o] S1024x1024.size h) (ix2 k j) = x (ix2 k ⟨o + j, by omega⟩) :=
  View.ld_unit_apply_of _ _ _ _ _ _ (fun a => by fin_cases a <;> simp [ix2])

theorem cols_128 (x : Vec Ideal S1024x4224 .bf16) (o : ℕ) (ho : o + 128 ≤ 4224) (h : _) (k : Fin 1024) (j : Fin 128) :
    View.ld x (Rect.unit (s := S1024x4224) ![0, o] S1024x128.size h) (ix2 k j) = x (ix2 k ⟨o + j, by omega⟩) :=
  View.ld_unit_apply_of _ _ _ _ _ _ (fun a => by fin_cases a <;> simp [ix2])

theorem rows_512 (x : Vec Ideal S1184x1024 .bf16) (o : ℕ) (ho : o + 512 ≤ 1184) (h : _) (j : Fin 512) (k : Fin 1024) :
    View.ld x (Rect.unit (s := S1184x1024) ![o, 0] S512x1024.size h) (ix2 j k) = x (ix2 ⟨o + j, by omega⟩ k) :=
  View.ld_unit_apply_of _ _ _ _ _ _ (fun a => by fin_cases a <;> simp [ix2])

theorem rows_384 (x : Vec Ideal S1184x1024 .bf16) (o : ℕ) (ho : o + 384 ≤ 1184) (h : _) (j : Fin 384) (k : Fin 1024) :
    View.ld x (Rect.unit (s := S1184x1024) ![o, 0] S384x1024.size h) (ix2 j k) = x (ix2 ⟨o + j, by omega⟩ k) :=
  View.ld_unit_apply_of _ _ _ _ _ _ (fun a => by fin_cases a <;> simp [ix2])

theorem rows_256 (x : Vec Ideal S1184x1024 .bf16) (o : ℕ) (ho : o + 256 ≤ 1184) (h : _) (j : Fin 256) (k : Fin 1024) :
    View.ld x (Rect.unit (s := S1184x1024) ![o, 0] S256x1024.size h) (ix2 j k) = x (ix2 ⟨o + j, by omega⟩ k) :=
  View.ld_unit_apply_of _ _ _ _ _ _ (fun a => by fin_cases a <;> simp [ix2])

theorem rows_32 (x : Vec Ideal S1184x1024 .bf16) (o : ℕ) (ho : o + 32 ≤ 1184) (h : _) (j : Fin 32) (k : Fin 1024) :
    View.ld x (Rect.unit (s := S1184x1024) ![o, 0] S32x1024.size h) (ix2 j k) = x (ix2 ⟨o + j, by omega⟩ k) :=
  View.ld_unit_apply_of _ _ _ _ _ _ (fun a => by fin_cases a <;> simp [ix2])

/-- A row kept in two halves of the columns. -/
theorem halves (p q : Vec Ideal S1x512x1024 .bf16) (G : ℕ → EReal) (r : Fin 512) (hp : ∀ j : Fin 1024, p (ix3 0 r j) = G (1024 + j))
    (hq : ∀ j : Fin 1024, q (ix3 0 r j) = G j) (j : Fin 2048) :
    View.canon (Val := Elt Ideal) [⟨r0_6, p⟩, ⟨r0_3, q⟩] (ix3 0 r j) = G j := by
  refine View.canon_eq_of_allAt _ _ _ (cover0_6 p q _) (View.allAt_cons_unit _ _ _ _ _ ?_ (View.allAt_cons_unit _ _ _ _ _ ?_ (View.allAt_nil _ _)))
  · intro x hx
    idx_vars x
    have e2 := hx 2
    have e1 := hx 1
    simp [ix3] at e1 e2
    obtain rfl : x0 = 0 := Subsingleton.elim _ _
    obtain rfl : r = x1 := Fin.ext e1
    exact (hp x2).trans (congrArg G e2.symm)
  · intro x hx
    idx_vars x
    have e2 := hx 2
    have e1 := hx 1
    simp [ix3] at e1 e2
    obtain rfl : x0 = 0 := Subsingleton.elim _ _
    obtain rfl : r = x1 := Fin.ext e1
    exact (hq x2).trans (congrArg G e2.symm)

/-- A key kept in two halves: the heads, and the blocks. -/
theorem key_halves (p q : Vec Ideal S1x512x128 .bf16) (G : ℕ → EReal) (r : Fin 512) (hp : ∀ j : Fin 128, p (ix3 0 r j) = G (128 + j))
    (hq : ∀ j : Fin 128, q (ix3 0 r j) = G j) (j : Fin 256) :
    View.canon (Val := Elt Ideal) [⟨r0_16, p⟩, ⟨r0_15, q⟩] (ix3 0 r j) = G j := by
  refine View.canon_eq_of_allAt _ _ _ (cover0_10 p q _) (View.allAt_cons_unit _ _ _ _ _ ?_ (View.allAt_cons_unit _ _ _ _ _ ?_ (View.allAt_nil _ _)))
  · intro x hx
    idx_vars x
    have e2 := hx 2
    have e1 := hx 1
    simp [ix3] at e1 e2
    obtain rfl : x0 = 0 := Subsingleton.elim _ _
    obtain rfl : r = x1 := Fin.ext e1
    exact (hp x2).trans (congrArg G e2.symm)
  · intro x hx
    idx_vars x
    have e2 := hx 2
    have e1 := hx 1
    simp [ix3] at e1 e2
    obtain rfl : x0 = 0 := Subsingleton.elim _ _
    obtain rfl : r = x1 := Fin.ext e1
    exact (hq x2).trans (congrArg G e2.symm)

section Rows

variable {T : Tok} {r : Fin 512} {x0 : Vec Ideal S1x512x1024 .f32} {x1 : Vec Ideal S1x1x512 .i32} {x2 : Vec Ideal S1x1024 .f32}
    {x3 : Vec Ideal S8x1 .f32} {x4 : Vec Ideal S1024x4224 .bf16} {x5 : Vec Ideal S1184x1024 .bf16} (H : Holds T r x0 x1 x2 x3 x4 x5) (i : grid0.Coords)

include H

theorem normed (k : Fin 1024) : k0_pay80 i x0 x1 x2 x3 x4 x5 (ix2 r k) = T.xn k := by
  unfold k0_pay80
  rw [View.ld_unit_lit (X := x0) _ (by decide), View.ld_unit_lit (X := x2) _ (by decide)]
  exact xn_at T x0 x2 r H.h0 H.h2 k

/-- The array of the keys, in the token's column. -/
theorem keys (j : Fin 384) :
    k0_pay75 (k0_pay81 i x0 x1 x2 x3 x4 x5) (k0_pay82 i x0 x1 x2 x3 x4 x5) (k0_pay84 i x0 x1 x2 x3 x4 x5) (k0_pay85 i x0 x1 x2 x3 x4 x5) (k0_pay86 i x0 x1 x2 x3 x4 x5) (k0_pay87 i x0 x1 x2 x3 x4 x5) (k0_pay88 i x0 x1 x2 x3 x4 x5) (k0_pay89 i x0 x1 x2 x3 x4 x5) (k0_pay90 i x0 x1 x2 x3 x4 x5) (k0_pay91 i x0 x1 x2 x3 x4 x5) (k0_pay92 i x0 x1 x2 x3 x4 x5) (k0_pay93 i x0 x1 x2 x3 x4 x5) (k0_pay94 i x0 x1 x2 x3 x4 x5) (k0_pay95 i x0 x1 x2 x3 x4 x5) (k0_pay96 i x0 x1 x2 x3 x4 x5) (ix2 r j)
      = T.rope (2560 + 128 * (j.val / 128) + 64 * (j.val / 64)) (j.val % 64) := by
  have hx := normed H i
  unfold k0_pay96 k0_pay95 k0_pay94 k0_pay93 k0_pay92 k0_pay91 k0_pay90 k0_pay89 k0_pay88 k0_pay87 k0_pay86 k0_pay85 k0_pay84 k0_pay82 k0_pay81
  rw [View.ld_unit_lit (X := x1) _ (by decide), View.ld_unit_lit (X := x3) _ (by decide)]
  exact keys_at T _ _ x3 x1 r hx H.h3 H.h1 (fun n k => (rows_384 x5 512 (by omega) _ n k).trans (H.h5 _ k)) j

theorem hg_row (j : Fin 2048) : out0_6 i x0 x1 x2 x3 x4 x5 (ix3 0 r j) = T.col j := by
  unfold out0_6
  rw [View.ld_unit_lit (X := x0) _ (by decide), View.ld_unit_lit (X := x2) _ (by decide)]
  refine halves _ _ T.col r (fun j => ?_) (fun j => ?_) j
  · exact nat_c T x0 x2 _ r (fun j => 1024 + j.val) H.h0 H.h2 (fun k j => (cols_1024 x4 1024 (by omega) _ k j).trans ((H.h4 k _).trans (congrArg (T.w k) (show ncol (1024 + j.val) = 1024 + j.val by unfold ncol; split_ifs <;> omega)))) j
  · exact nat_a T x0 x2 _ r (fun j => j.val) H.h0 H.h2 (fun k j => (cols_1024 x4 0 (by omega) _ k j).trans ((H.h4 k _).trans (congrArg (T.w k) (show ncol (0 + j.val) = j.val by unfold ncol; split_ifs <;> omega)))) j

theorem mg_row (j : Fin 2048) : out0_7 i x0 x1 x2 x3 x4 x5 (ix3 0 r j) = T.col (3352 + j) := by
  have hx := normed H i
  unfold out0_7
  rw [View.ld_unit_lit (X := x0) _ (by decide), View.ld_unit_lit (X := x2) _ (by decide)]
  refine halves _ _ (fun n => T.col (3352 + n)) r (fun j => ?_) (fun j => ?_) j
  · exact nat_d T _ _ r (fun j => 3352 + (1024 + j.val)) hx (fun k j => (cols_1024 x4 3072 (by omega) _ k j).trans ((H.h4 k _).trans (congrArg (T.w k) (show ncol (3072 + j.val) = 3352 + (1024 + j.val) by unfold ncol; split_ifs <;> omega)))) j
  · exact nat_b T x0 x2 _ r (fun j => 3352 + j.val) H.h0 H.h2 (fun k j => (cols_1024 x4 2048 (by omega) _ k j).trans ((H.h4 k _).trans (congrArg (T.w k) (show ncol (2048 + j.val) = 3352 + j.val by unfold ncol; split_ifs <;> omega)))) j

theorem vc_row (j : Fin 128) : out0_8 i x0 x1 x2 x3 x4 x5 (ix3 0 r j) = T.col (2688 + j) := by
  have hx := normed H i
  unfold out0_8
  refine (congrFun (View.canon_cons_unit_lit _ _ _ (by decide)) _).trans ?_
  exact vc_at T _ _ r (fun j => 2688 + j.val) hx (fun k j => (cols_128 x4 4096 (by omega) _ k j).trans ((H.h4 k _).trans (congrArg (T.w k) (show ncol (4096 + j.val) = 2688 + j.val by unfold ncol; split_ifs <;> omega)))) j

theorem kc_row (j : Fin 128) : out0_9 i x0 x1 x2 x3 x4 x5 (ix3 0 r j) = T.rope (2560 + 64 * (j.val / 64)) (j.val % 64) := by
  have hx := normed H i
  unfold out0_9
  refine (congrFun (View.canon_cons_unit_lit _ _ _ (by decide)) _).trans ((kc_of r j).trans ((keys H i _).trans ?_))
  exact congrArg₂ T.rope (by simp only; omega) (by simp only)

theorem kw_row (j : Fin 128) : out0_11 i x0 x1 x2 x3 x4 x5 (ix3 0 r j) = T.rope (3072 + 64 * (j.val / 64)) (j.val % 64) := by
  have hx := normed H i
  unfold out0_11
  refine (congrFun (View.canon_cons_unit_lit _ _ _ (by decide)) _).trans ((kw_of r j).trans ((keys H i _).trans ?_))
  exact congrArg₂ T.rope (by simp only; omega) (by simp only; omega)

theorem ks_row (j : Fin 256) : out0_10 i x0 x1 x2 x3 x4 x5 (ix3 0 r j) = T.key (512 * (i 1).val + r.val) j := by
  unfold out0_10
  refine key_halves _ _ (T.key (512 * (i 1).val + r.val)) r (fun j => ?_) (fun j => ?_) j
  · refine (member_at (i 1).val (i 1).isLt r j).trans ?_
    rw [Tok.key, if_neg (show ¬128 + j.val < 128 by omega), Nat.add_sub_cancel_left]
  · refine (ks_of r j).trans ((keys H i _).trans ?_)
    rw [Tok.key, if_pos j.isLt]
    exact congrArg₂ T.rope (by simp only; omega) (by simp only; omega)

theorem qt_row (j : Fin 512) : out0_12 i x0 x1 x2 x3 x4 x5 (ix3 0 j r)
    = T.rope (2048 + 64 * (j.val / 64)) (j.val % 64) * Ideal.ofBits .f32 0x3E38AA3B#32 := by
  have hx := normed H i
  unfold out0_12 k0_pay83 k0_pay82 k0_pay81
  rw [View.ld_unit_lit (X := x1) _ (by decide), View.ld_unit_lit (X := x3) _ (by decide)]
  refine (congrFun (View.canon_cons_unit_lit _ _ _ (by decide)) _).trans ?_
  exact query_at T _ _ x3 x1 r hx H.h3 H.h1 (fun n k => (rows_512 x5 0 (by omega) _ n k).trans ((H.h5 _ k).trans (by simp))) j

theorem vt_row (j : Fin 320) : out0_13 i x0 x1 x2 x3 x4 x5 (ix3 0 j r) = T.val j := by
  have hx := normed H i
  unfold out0_13
  refine (congrFun (View.canon_cons_unit_lit _ _ _ (by decide)) _).trans ?_
  exact v_at T _ _ r hx (fun n k => (rows_256 x5 896 (by omega) _ n k).trans (H.h5 _ k)) j

theorem gt_row (j : Fin 32) : out0_14 i x0 x1 x2 x3 x4 x5 (ix3 0 j r) = T.gate j := by
  have hx := normed H i
  unfold out0_14
  refine (congrFun (View.canon_cons_unit_lit _ _ _ (by decide)) _).trans ?_
  refine (gate_at T _ _ r (fun j => tcol (1152 + j.val)) hx (fun n k => (rows_32 x5 1152 (by omega) _ n k).trans (H.h5 _ k)) j).trans ?_
  exact congrArg (fun n => Ideal.logistic (T.col n)) (by unfold tcol; split_ifs <;> omega)

end Rows

/-! The arrays the run leaves: every token's part of each result. -/

theorem hg_array (b : Fin 8) (t : Fin 4096) (j : Fin 2048) :
    ((dats m 0 c).arrAt 6 cfg0.N : FVec Ideal S8x4096x2048 .bf16) (ix3 b t j) = (tok m c b t).col j := by
  have h : ∀ G : Fin 8 → Fin 4096 → Fin 2048 → EReal, (∀ b t j, G b t j = (tok m c b t).col j)
      → (dats m 0 c).arrAt 6 cfg0.N = (fun z : S8x4096x2048.Idx => G (z 0) (z 1) (z 2)) := by
    intro G hG
    refine (dats m 0 c).arrAt_eq_of_covers 6 _ (by decide +kernel) fun t hf y => ?_
    blk_simp
    rw [after0_6]
    have hN : t.val < 64 := t.isLt
    idx_vars y
    obtain rfl : y0 = 0 := Subsingleton.elim _ _
    refine (hg_row (holds m c t y1 (by omega) (by omega)) (grid0.coords t) y2).trans ?_
    have p0 : ((View.whole main_v31_0).slice (win0_6.rect t)).emb (ix3 0 y1 y2) 0 = (⟨t.val / 8, by omega⟩ : Fin 8) := by
      apply Fin.ext; blk_simp [idx6 t]; simp [ix3]
    have p1 : ((View.whole main_v31_0).slice (win0_6.rect t)).emb (ix3 0 y1 y2) 1 = (⟨512 * (t.val % 8) + y1, by omega⟩ : Fin 4096) := by
      apply Fin.ext; blk_simp [idx6 t]; simp [ix3]; try omega
    have p2 : ((View.whole main_v31_0).slice (win0_6.rect t)).emb (ix3 0 y1 y2) 2 = y2 := by
      apply Fin.ext; blk_simp [idx6 t]
    rw [p0, p1, p2, hG]
  exact congrFun (h (fun b t j => (tok m c b t).col j) fun _ _ _ => rfl) (ix3 b t j)

theorem mg_array (b : Fin 8) (t : Fin 4096) (j : Fin 2048) :
    ((dats m 0 c).arrAt 7 cfg0.N : FVec Ideal S8x4096x2048 .bf16) (ix3 b t j) = (tok m c b t).col (3352 + j.val) := by
  have h : ∀ G : Fin 8 → Fin 4096 → Fin 2048 → EReal, (∀ b t j, G b t j = (tok m c b t).col (3352 + j.val))
      → (dats m 0 c).arrAt 7 cfg0.N = (fun z : S8x4096x2048.Idx => G (z 0) (z 1) (z 2)) := by
    intro G hG
    refine (dats m 0 c).arrAt_eq_of_covers 7 _ (by decide +kernel) fun t hf y => ?_
    blk_simp
    rw [after0_7]
    have hN : t.val < 64 := t.isLt
    idx_vars y
    obtain rfl : y0 = 0 := Subsingleton.elim _ _
    refine (mg_row (holds m c t y1 (by omega) (by omega)) (grid0.coords t) y2).trans ?_
    have p0 : ((View.whole main_v31_1).slice (win0_7.rect t)).emb (ix3 0 y1 y2) 0 = (⟨t.val / 8, by omega⟩ : Fin 8) := by
      apply Fin.ext; blk_simp [idx7 t]; simp [ix3]
    have p1 : ((View.whole main_v31_1).slice (win0_7.rect t)).emb (ix3 0 y1 y2) 1 = (⟨512 * (t.val % 8) + y1, by omega⟩ : Fin 4096) := by
      apply Fin.ext; blk_simp [idx7 t]; simp [ix3]; try omega
    have p2 : ((View.whole main_v31_1).slice (win0_7.rect t)).emb (ix3 0 y1 y2) 2 = y2 := by
      apply Fin.ext; blk_simp [idx7 t]
    rw [p0, p1, p2, hG]
  exact congrFun (h (fun b t j => (tok m c b t).col (3352 + j.val)) fun _ _ _ => rfl) (ix3 b t j)

theorem vc_array (b : Fin 8) (t : Fin 4096) (j : Fin 128) :
    ((dats m 0 c).arrAt 8 cfg0.N : FVec Ideal S8x4096x128 .f32) (ix3 b t j) = (tok m c b t).col (2688 + j.val) := by
  have h : ∀ G : Fin 8 → Fin 4096 → Fin 128 → EReal, (∀ b t j, G b t j = (tok m c b t).col (2688 + j.val))
      → (dats m 0 c).arrAt 8 cfg0.N = (fun z : S8x4096x128.Idx => G (z 0) (z 1) (z 2)) := by
    intro G hG
    refine (dats m 0 c).arrAt_eq_of_covers 8 _ (by decide +kernel) fun t hf y => ?_
    blk_simp
    rw [after0_8]
    have hN : t.val < 64 := t.isLt
    idx_vars y
    obtain rfl : y0 = 0 := Subsingleton.elim _ _
    refine (vc_row (holds m c t y1 (by omega) (by omega)) (grid0.coords t) y2).trans ?_
    have p0 : ((View.whole main_v31_2).slice (win0_8.rect t)).emb (ix3 0 y1 y2) 0 = (⟨t.val / 8, by omega⟩ : Fin 8) := by
      apply Fin.ext; blk_simp [idx8 t]; simp [ix3]
    have p1 : ((View.whole main_v31_2).slice (win0_8.rect t)).emb (ix3 0 y1 y2) 1 = (⟨512 * (t.val % 8) + y1, by omega⟩ : Fin 4096) := by
      apply Fin.ext; blk_simp [idx8 t]; simp [ix3]; try omega
    have p2 : ((View.whole main_v31_2).slice (win0_8.rect t)).emb (ix3 0 y1 y2) 2 = y2 := by
      apply Fin.ext; blk_simp [idx8 t]
    rw [p0, p1, p2, hG]
  exact congrFun (h (fun b t j => (tok m c b t).col (2688 + j.val)) fun _ _ _ => rfl) (ix3 b t j)

theorem kc_array (b : Fin 8) (t : Fin 4096) (j : Fin 128) :
    ((dats m 0 c).arrAt 9 cfg0.N : FVec Ideal S8x4096x128 .f32) (ix3 b t j) = (tok m c b t).rope (2560 + 64 * (j.val / 64)) (j.val % 64) := by
  have h : ∀ G : Fin 8 → Fin 4096 → Fin 128 → EReal, (∀ b t j, G b t j = (tok m c b t).rope (2560 + 64 * (j.val / 64)) (j.val % 64))
      → (dats m 0 c).arrAt 9 cfg0.N = (fun z : S8x4096x128.Idx => G (z 0) (z 1) (z 2)) := by
    intro G hG
    refine (dats m 0 c).arrAt_eq_of_covers 9 _ (by decide +kernel) fun t hf y => ?_
    blk_simp
    rw [after0_9]
    have hN : t.val < 64 := t.isLt
    idx_vars y
    obtain rfl : y0 = 0 := Subsingleton.elim _ _
    refine (kc_row (holds m c t y1 (by omega) (by omega)) (grid0.coords t) y2).trans ?_
    have p0 : ((View.whole main_v31_3).slice (win0_9.rect t)).emb (ix3 0 y1 y2) 0 = (⟨t.val / 8, by omega⟩ : Fin 8) := by
      apply Fin.ext; blk_simp [idx9 t]; simp [ix3]
    have p1 : ((View.whole main_v31_3).slice (win0_9.rect t)).emb (ix3 0 y1 y2) 1 = (⟨512 * (t.val % 8) + y1, by omega⟩ : Fin 4096) := by
      apply Fin.ext; blk_simp [idx9 t]; simp [ix3]; try omega
    have p2 : ((View.whole main_v31_3).slice (win0_9.rect t)).emb (ix3 0 y1 y2) 2 = y2 := by
      apply Fin.ext; blk_simp [idx9 t]
    rw [p0, p1, p2, hG]
  exact congrFun (h (fun b t j => (tok m c b t).rope (2560 + 64 * (j.val / 64)) (j.val % 64)) fun _ _ _ => rfl) (ix3 b t j)

theorem ks_array (b : Fin 8) (t : Fin 4096) (j : Fin 256) :
    ((dats m 0 c).arrAt 10 cfg0.N : FVec Ideal S8x4096x256 .bf16) (ix3 b t j) = (tok m c b t).key t.val j := by
  have h : ∀ G : Fin 8 → Fin 4096 → Fin 256 → EReal, (∀ b t j, G b t j = (tok m c b t).key t.val j)
      → (dats m 0 c).arrAt 10 cfg0.N = (fun z : S8x4096x256.Idx => G (z 0) (z 1) (z 2)) := by
    intro G hG
    refine (dats m 0 c).arrAt_eq_of_covers 10 _ (by decide +kernel) fun t hf y => ?_
    blk_simp
    rw [after0_10]
    have hN : t.val < 64 := t.isLt
    idx_vars y
    obtain rfl : y0 = 0 := Subsingleton.elim _ _
    refine (ks_row (holds m c t y1 (by omega) (by omega)) (grid0.coords t) y2).trans ?_
    have p0 : ((View.whole main_v31_4).slice (win0_10.rect t)).emb (ix3 0 y1 y2) 0 = (⟨t.val / 8, by omega⟩ : Fin 8) := by
      apply Fin.ext; blk_simp [idx10 t]; simp [ix3]
    have p1 : ((View.whole main_v31_4).slice (win0_10.rect t)).emb (ix3 0 y1 y2) 1 = (⟨512 * (t.val % 8) + y1, by omega⟩ : Fin 4096) := by
      apply Fin.ext; blk_simp [idx10 t]; simp [ix3]; try omega
    have p2 : ((View.whole main_v31_4).slice (win0_10.rect t)).emb (ix3 0 y1 y2) 2 = y2 := by
      apply Fin.ext; blk_simp [idx10 t]
    rw [p0, p1, p2, hG, point t]
  exact congrFun (h (fun b t j => (tok m c b t).key t.val j) fun _ _ _ => rfl) (ix3 b t j)

theorem kw_array (b : Fin 8) (t : Fin 4096) (j : Fin 128) :
    ((dats m 0 c).arrAt 11 cfg0.N : FVec Ideal S8x4096x128 .bf16) (ix3 b t j) = (tok m c b t).rope (3072 + 64 * (j.val / 64)) (j.val % 64) := by
  have h : ∀ G : Fin 8 → Fin 4096 → Fin 128 → EReal, (∀ b t j, G b t j = (tok m c b t).rope (3072 + 64 * (j.val / 64)) (j.val % 64))
      → (dats m 0 c).arrAt 11 cfg0.N = (fun z : S8x4096x128.Idx => G (z 0) (z 1) (z 2)) := by
    intro G hG
    refine (dats m 0 c).arrAt_eq_of_covers 11 _ (by decide +kernel) fun t hf y => ?_
    blk_simp
    rw [after0_11]
    have hN : t.val < 64 := t.isLt
    idx_vars y
    obtain rfl : y0 = 0 := Subsingleton.elim _ _
    refine (kw_row (holds m c t y1 (by omega) (by omega)) (grid0.coords t) y2).trans ?_
    have p0 : ((View.whole main_v31_5).slice (win0_11.rect t)).emb (ix3 0 y1 y2) 0 = (⟨t.val / 8, by omega⟩ : Fin 8) := by
      apply Fin.ext; blk_simp [idx11 t]; simp [ix3]
    have p1 : ((View.whole main_v31_5).slice (win0_11.rect t)).emb (ix3 0 y1 y2) 1 = (⟨512 * (t.val % 8) + y1, by omega⟩ : Fin 4096) := by
      apply Fin.ext; blk_simp [idx11 t]; simp [ix3]; try omega
    have p2 : ((View.whole main_v31_5).slice (win0_11.rect t)).emb (ix3 0 y1 y2) 2 = y2 := by
      apply Fin.ext; blk_simp [idx11 t]
    rw [p0, p1, p2, hG]
  exact congrFun (h (fun b t j => (tok m c b t).rope (3072 + 64 * (j.val / 64)) (j.val % 64)) fun _ _ _ => rfl) (ix3 b t j)

theorem qt_array (b : Fin 8) (t : Fin 4096) (j : Fin 512) :
    ((dats m 0 c).arrAt 12 cfg0.N : FVec Ideal S8x512x4096 .bf16) (ix3 b j t) = (tok m c b t).rope (2048 + 64 * (j.val / 64)) (j.val % 64) * Ideal.ofBits .f32 0x3E38AA3B#32 := by
  have h : ∀ G : Fin 8 → Fin 4096 → Fin 512 → EReal, (∀ b t j, G b t j = (tok m c b t).rope (2048 + 64 * (j.val / 64)) (j.val % 64) * Ideal.ofBits .f32 0x3E38AA3B#32)
      → (dats m 0 c).arrAt 12 cfg0.N = (fun z : S8x512x4096.Idx => G (z 0) (z 2) (z 1)) := by
    intro G hG
    refine (dats m 0 c).arrAt_eq_of_covers 12 _ (by decide +kernel) fun t hf y => ?_
    blk_simp
    rw [after0_12]
    have hN : t.val < 64 := t.isLt
    idx_vars y
    obtain rfl : y0 = 0 := Subsingleton.elim _ _
    refine (qt_row (holds m c t y2 (by omega) (by omega)) (grid0.coords t) y1).trans ?_
    have p0 : ((View.whole main_v31_6).slice (win0_12.rect t)).emb (ix3 0 y1 y2) 0 = (⟨t.val / 8, by omega⟩ : Fin 8) := by
      apply Fin.ext; blk_simp [idx12 t]; simp [ix3]
    have p1 : ((View.whole main_v31_6).slice (win0_12.rect t)).emb (ix3 0 y1 y2) 2 = (⟨512 * (t.val % 8) + y2, by omega⟩ : Fin 4096) := by
      apply Fin.ext; blk_simp [idx12 t]; simp [ix3]; try omega
    have p2 : ((View.whole main_v31_6).slice (win0_12.rect t)).emb (ix3 0 y1 y2) 1 = y1 := by
      apply Fin.ext; blk_simp [idx12 t]
    rw [p0, p1, p2, hG]
  exact congrFun (h (fun b t j => (tok m c b t).rope (2048 + 64 * (j.val / 64)) (j.val % 64) * Ideal.ofBits .f32 0x3E38AA3B#32) fun _ _ _ => rfl) (ix3 b j t)

theorem vt_array (b : Fin 8) (t : Fin 4096) (j : Fin 320) :
    ((dats m 0 c).arrAt 13 cfg0.N : FVec Ideal S8x320x4096 .bf16) (ix3 b j t) = (tok m c b t).val j := by
  have h : ∀ G : Fin 8 → Fin 4096 → Fin 320 → EReal, (∀ b t j, G b t j = (tok m c b t).val j)
      → (dats m 0 c).arrAt 13 cfg0.N = (fun z : S8x320x4096.Idx => G (z 0) (z 2) (z 1)) := by
    intro G hG
    refine (dats m 0 c).arrAt_eq_of_covers 13 _ (by decide +kernel) fun t hf y => ?_
    blk_simp
    rw [after0_13]
    have hN : t.val < 64 := t.isLt
    idx_vars y
    obtain rfl : y0 = 0 := Subsingleton.elim _ _
    refine (vt_row (holds m c t y2 (by omega) (by omega)) (grid0.coords t) y1).trans ?_
    have p0 : ((View.whole main_v31_7).slice (win0_13.rect t)).emb (ix3 0 y1 y2) 0 = (⟨t.val / 8, by omega⟩ : Fin 8) := by
      apply Fin.ext; blk_simp [idx13 t]; simp [ix3]
    have p1 : ((View.whole main_v31_7).slice (win0_13.rect t)).emb (ix3 0 y1 y2) 2 = (⟨512 * (t.val % 8) + y2, by omega⟩ : Fin 4096) := by
      apply Fin.ext; blk_simp [idx13 t]; simp [ix3]; try omega
    have p2 : ((View.whole main_v31_7).slice (win0_13.rect t)).emb (ix3 0 y1 y2) 1 = y1 := by
      apply Fin.ext; blk_simp [idx13 t]
    rw [p0, p1, p2, hG]
  exact congrFun (h (fun b t j => (tok m c b t).val j) fun _ _ _ => rfl) (ix3 b j t)

theorem gt_array (b : Fin 8) (t : Fin 4096) (j : Fin 32) :
    ((dats m 0 c).arrAt 14 cfg0.N : FVec Ideal S8x32x4096 .f32) (ix3 b j t) = (tok m c b t).gate j := by
  have h : ∀ G : Fin 8 → Fin 4096 → Fin 32 → EReal, (∀ b t j, G b t j = (tok m c b t).gate j)
      → (dats m 0 c).arrAt 14 cfg0.N = (fun z : S8x32x4096.Idx => G (z 0) (z 2) (z 1)) := by
    intro G hG
    refine (dats m 0 c).arrAt_eq_of_covers 14 _ (by decide +kernel) fun t hf y => ?_
    blk_simp
    rw [after0_14]
    have hN : t.val < 64 := t.isLt
    idx_vars y
    obtain rfl : y0 = 0 := Subsingleton.elim _ _
    refine (gt_row (holds m c t y2 (by omega) (by omega)) (grid0.coords t) y1).trans ?_
    have p0 : ((View.whole main_v31_8).slice (win0_14.rect t)).emb (ix3 0 y1 y2) 0 = (⟨t.val / 8, by omega⟩ : Fin 8) := by
      apply Fin.ext; blk_simp [idx14 t]; simp [ix3]
    have p1 : ((View.whole main_v31_8).slice (win0_14.rect t)).emb (ix3 0 y1 y2) 2 = (⟨512 * (t.val % 8) + y2, by omega⟩ : Fin 4096) := by
      apply Fin.ext; blk_simp [idx14 t]; simp [ix3]; try omega
    have p2 : ((View.whole main_v31_8).slice (win0_14.rect t)).emb (ix3 0 y1 y2) 1 = y1 := by
      apply Fin.ext; blk_simp [idx14 t]
    rw [p0, p1, p2, hG]
  exact congrFun (h (fun b t j => (tok m c b t).gate j) fun _ _ _ => rfl) (ix3 b j t)

end Cert.Kernel3Ideal.Pj

end
-- ==== Proof.PjClaim.lean ====
/- The claims about the projection: the reference's run, and that kernel and reference agree over the extended reals. -/
module

public import proofs.«01_k».proof.Defs
public import proofs.«01_k».proof.Proof.Gen.Reference3Ideal.Run
public import proofs.«01_k».proof.Proof.PjRef
public import proofs.«01_k».proof.Proof.PjBlock

@[expose] public section

set_option maxRecDepth 16384

noncomputable section

namespace Cert.PjClaim

open Idealize.ShloMosaic Idealize.ShloMosaic.TcCoe Idealize.SL.Sem

/-- The reference runs, leaves its arguments, and declares no semaphore. -/
theorem frame_reference : Cert.quiescent_Reference3Ideal := fun m ρ _ =>
  (θ_run Cert.Reference3Ideal.defs _ _).mono
    (fun r h => ⟨fun c => (h c).2.2.2.2.2.2.2.2.2, sem_eq_zero_of_no_sems (by decide) r.2⟩) (Cert.Reference3Ideal.Value.run (F := Ideal) m ρ)

/-! Each result is one array on both sides where the arguments agree: at every token the projection in plain form. -/

section

variable (m : (ℓ : Loc Cert.Kernel3Ideal.nD Cert.Kernel3Ideal.τ Cert.Kernel3Ideal.sig) → Buf (Elt Ideal) ℓ) (c : Dev Cert.Kernel3Ideal.nD)
  (x0 : FVec Ideal Cert.Reference3Ideal.S8x4096x1024 .f32) (x1 : IVec Cert.Reference3Ideal.S8x4096 32)
  (x2 : FVec Ideal Cert.Reference3Ideal.S1x1024 .f32) (x3 : FVec Ideal Cert.Reference3Ideal.S1x1024x5400 .f32)
  (h0 : x0 = m ((c.tc : Thread Cert.Kernel3Ideal.nD Cert.Kernel3Ideal.τ).loc Cert.Kernel3Ideal.main_arg0))
  (h1 : x1 = m ((c.tc : Thread Cert.Kernel3Ideal.nD Cert.Kernel3Ideal.τ).loc Cert.Kernel3Ideal.main_arg1))
  (h2 : x2 = m ((c.tc : Thread Cert.Kernel3Ideal.nD Cert.Kernel3Ideal.τ).loc Cert.Kernel3Ideal.main_arg2))
  (h3 : x3 = m ((c.tc : Thread Cert.Kernel3Ideal.nD Cert.Kernel3Ideal.τ).loc Cert.Kernel3Ideal.main_arg3))

include h0 h1 h2 h3

/-- The two sides read one token. -/
theorem one_token (b : Fin 8) (t : Fin 4096) : Cert.Reference3Ideal.Pj.tok x0 x1 x2 x3 b t = Cert.Kernel3Ideal.Pj.tok m c b t := by
  subst h0 h1 h2 h3
  rfl

theorem hg : Cert.Reference3Ideal.Read.val_main_v195 (F := Ideal) x0 x2 x3 = (Cert.Kernel3Ideal.Gen.dats (F := Ideal) m 0 c).arrAt 6 Cert.Kernel3Ideal.cfg0.N := by
  funext z
  idx_vars z
  refine (Cert.Reference3Ideal.Pj.hg x0 x1 x2 x3 z0 z1 z2).trans ?_
  rw [one_token m c x0 x1 x2 x3 h0 h1 h2 h3]
  exact (Cert.Kernel3Ideal.Pj.hg_array m c z0 z1 z2).symm

theorem mg : Cert.Reference3Ideal.Read.val_main_v196 (F := Ideal) x0 x2 x3 = (Cert.Kernel3Ideal.Gen.dats (F := Ideal) m 0 c).arrAt 7 Cert.Kernel3Ideal.cfg0.N := by
  funext z
  idx_vars z
  refine (Cert.Reference3Ideal.Pj.mg x0 x1 x2 x3 z0 z1 z2).trans ?_
  rw [one_token m c x0 x1 x2 x3 h0 h1 h2 h3]
  exact (Cert.Kernel3Ideal.Pj.mg_array m c z0 z1 z2).symm

theorem vc : Cert.Reference3Ideal.Read.val_main_v22 (F := Ideal) x0 x2 x3 = (Cert.Kernel3Ideal.Gen.dats (F := Ideal) m 0 c).arrAt 8 Cert.Kernel3Ideal.cfg0.N := by
  funext z
  idx_vars z
  refine (Cert.Reference3Ideal.Pj.vc x0 x1 x2 x3 z0 z1 z2).trans ?_
  rw [one_token m c x0 x1 x2 x3 h0 h1 h2 h3]
  exact (Cert.Kernel3Ideal.Pj.vc_array m c z0 z1 z2).symm

theorem kc : Cert.Reference3Ideal.Read.val_main_v99 (F := Ideal) x0 x1 x2 x3 = (Cert.Kernel3Ideal.Gen.dats (F := Ideal) m 0 c).arrAt 9 Cert.Kernel3Ideal.cfg0.N := by
  funext z
  idx_vars z
  refine (Cert.Reference3Ideal.Pj.kc x0 x1 x2 x3 z0 z1 z2).trans ?_
  rw [one_token m c x0 x1 x2 x3 h0 h1 h2 h3]
  exact (Cert.Kernel3Ideal.Pj.kc_array m c z0 z1 z2).symm

theorem ks : Cert.Reference3Ideal.Read.val_main_v198 (F := Ideal) x0 x1 x2 x3 = (Cert.Kernel3Ideal.Gen.dats (F := Ideal) m 0 c).arrAt 10 Cert.Kernel3Ideal.cfg0.N := by
  funext z
  idx_vars z
  refine (Cert.Reference3Ideal.Pj.ks x0 x1 x2 x3 z0 z1 z2).trans ?_
  rw [one_token m c x0 x1 x2 x3 h0 h1 h2 h3]
  exact (Cert.Kernel3Ideal.Pj.ks_array m c z0 z1 z2).symm

theorem kw : Cert.Reference3Ideal.Read.val_main_v199 (F := Ideal) x0 x1 x2 x3 = (Cert.Kernel3Ideal.Gen.dats (F := Ideal) m 0 c).arrAt 11 Cert.Kernel3Ideal.cfg0.N := by
  funext z
  idx_vars z
  refine (Cert.Reference3Ideal.Pj.kw x0 x1 x2 x3 z0 z1 z2).trans ?_
  rw [one_token m c x0 x1 x2 x3 h0 h1 h2 h3]
  exact (Cert.Kernel3Ideal.Pj.kw_array m c z0 z1 z2).symm

theorem qt : Cert.Reference3Ideal.Read.val_main_v202 (F := Ideal) x0 x1 x2 x3 = (Cert.Kernel3Ideal.Gen.dats (F := Ideal) m 0 c).arrAt 12 Cert.Kernel3Ideal.cfg0.N := by
  funext z
  idx_vars z
  refine (Cert.Reference3Ideal.Pj.qt x0 x1 x2 x3 z0 z2 z1).trans ?_
  rw [one_token m c x0 x1 x2 x3 h0 h1 h2 h3]
  exact (Cert.Kernel3Ideal.Pj.qt_array m c z0 z2 z1).symm

theorem vt : Cert.Reference3Ideal.Read.val_main_v205 (F := Ideal) x0 x2 x3 = (Cert.Kernel3Ideal.Gen.dats (F := Ideal) m 0 c).arrAt 13 Cert.Kernel3Ideal.cfg0.N := by
  funext z
  idx_vars z
  refine (Cert.Reference3Ideal.Pj.vt x0 x1 x2 x3 z0 z2 z1).trans ?_
  rw [one_token m c x0 x1 x2 x3 h0 h1 h2 h3]
  exact (Cert.Kernel3Ideal.Pj.vt_array m c z0 z2 z1).symm

theorem gt : Cert.Reference3Ideal.Read.val_main_v213 (F := Ideal) x0 x2 x3 = (Cert.Kernel3Ideal.Gen.dats (F := Ideal) m 0 c).arrAt 14 Cert.Kernel3Ideal.cfg0.N := by
  funext z
  idx_vars z
  refine (Cert.Reference3Ideal.Pj.gt x0 x1 x2 x3 z0 z2 z1).trans ?_
  rw [one_token m c x0 x1 x2 x3 h0 h1 h2 h3]
  exact (Cert.Kernel3Ideal.Pj.gt_array m c z0 z2 z1).symm

end

/-- Kernel and reference over the extended reals. -/
theorem algebraic : Cert.algebraic_Kernel3Ideal_Reference3Ideal := by
  intro m ρ m' ρ' _ hagree
  refine ⟨fun c => (Cert.Kernel3Ideal.Gen.dats (F := Ideal) m 0 c).arrAt 6 Cert.Kernel3Ideal.cfg0.N,
    fun c => (Cert.Kernel3Ideal.Gen.dats (F := Ideal) m 0 c).arrAt 7 Cert.Kernel3Ideal.cfg0.N,
    fun c => (Cert.Kernel3Ideal.Gen.dats (F := Ideal) m 0 c).arrAt 8 Cert.Kernel3Ideal.cfg0.N,
    fun c => (Cert.Kernel3Ideal.Gen.dats (F := Ideal) m 0 c).arrAt 9 Cert.Kernel3Ideal.cfg0.N,
    fun c => (Cert.Kernel3Ideal.Gen.dats (F := Ideal) m 0 c).arrAt 10 Cert.Kernel3Ideal.cfg0.N,
    fun c => (Cert.Kernel3Ideal.Gen.dats (F := Ideal) m 0 c).arrAt 11 Cert.Kernel3Ideal.cfg0.N,
    fun c => (Cert.Kernel3Ideal.Gen.dats (F := Ideal) m 0 c).arrAt 12 Cert.Kernel3Ideal.cfg0.N,
    fun c => (Cert.Kernel3Ideal.Gen.dats (F := Ideal) m 0 c).arrAt 13 Cert.Kernel3Ideal.cfg0.N,
    fun c => (Cert.Kernel3Ideal.Gen.dats (F := Ideal) m 0 c).arrAt 14 Cert.Kernel3Ideal.cfg0.N,
    Cert.Kernel3Ideal.Value.run_blocks (F := Ideal) m ρ, ?_⟩
  refine (θ_run Cert.Reference3Ideal.defs _ _).mono (fun _ h c => ?_) (Cert.Reference3Ideal.Value.run (F := Ideal) m' ρ')
  obtain ⟨h0, h1, h2, h3⟩ := hagree c
  obtain ⟨r0, r1, r2, r3, r4, r5, r6, r7, r8, kept⟩ := h c
  refine ⟨r0.trans ?_, r1.trans ?_, r2.trans ?_, r3.trans ?_, r4.trans ?_, r5.trans ?_, r6.trans ?_, r7.trans ?_, r8.trans ?_, kept⟩
  · rw [Cert.Reference3Ideal.Read.val_main_v195_eq]
    exact hg m c _ _ _ _ h0 h1 h2 h3
  · rw [Cert.Reference3Ideal.Read.val_main_v196_eq]
    exact mg m c _ _ _ _ h0 h1 h2 h3
  · rw [Cert.Reference3Ideal.Read.val_main_v22_eq]
    exact vc m c _ _ _ _ h0 h1 h2 h3
  · rw [Cert.Reference3Ideal.Read.val_main_v99_eq]
    exact kc m c _ _ _ _ h0 h1 h2 h3
  · rw [Cert.Reference3Ideal.Read.val_main_v198_eq]
    exact ks m c _ _ _ _ h0 h1 h2 h3
  · rw [Cert.Reference3Ideal.Read.val_main_v199_eq]
    exact kw m c _ _ _ _ h0 h1 h2 h3
  · rw [Cert.Reference3Ideal.Read.val_main_v202_eq]
    exact qt m c _ _ _ _ h0 h1 h2 h3
  · rw [Cert.Reference3Ideal.Read.val_main_v205_eq]
    exact vt m c _ _ _ _ h0 h1 h2 h3
  · rw [Cert.Reference3Ideal.Read.val_main_v213_eq]
    exact gt m c _ _ _ _ h0 h1 h2 h3

end Cert.PjClaim

end
-- ==== Proof.CxSpec.lean ====
/- The compression of overlapping blocks of keys or of values in plain form: a two-layer perceptron of 32 positions, and its
   first layer split into two halves of 16 positions that neighbouring blocks share. -/
module

public import proofs.«01_k».proof.Proof.PjSpec

@[expose] public section

noncomputable section

namespace Cert.Cx

open Idealize.ShloMosaic
open scoped BigOperators

/-- An array of two axes with zeros past its ends. -/
def spread {a b : ℕ} (f : Fin a → Fin b → EReal) (i j : ℕ) : EReal := if h : i < a ∧ j < b then f ⟨i, h.1⟩ ⟨j, h.2⟩ else 0

theorem spread_of {a b : ℕ} (f : Fin a → Fin b → EReal) {i j i' j' : ℕ} (hi : i' < a) (hj : j' < b) (ei : i = i') (ej : j = j') :
    spread f i j = f ⟨i', hi⟩ ⟨j', hj⟩ := by
  subst ei ej
  rw [spread, dif_pos ⟨hi, hj⟩]

/-- The activation between the layers, in the form with the hyperbolic tangent. -/
def act (x : EReal) : EReal :=
  x * (Ideal.ofBits .f32 0x3F000000#32
    * (Ideal.ofBits .f32 0x3F800000#32 + Ideal.tanh (Ideal.ofBits .f32 0x3F4C422A#32 * (x + Ideal.ofBits .f32 0x3D372713#32 * (x * (x * x))))))

/-- One side of the compression in one batch row: the rows by position and lane (two groups of 64), the positions' encoding, and the two layers. -/
structure Side where
  T : ℕ → ℕ → EReal
  P : ℕ → ℕ → EReal
  W : ℕ → ℕ → EReal
  U : ℕ → ℕ → EReal

namespace Side

variable (S : Side)

/-- The first layer: block `n` of group `g` at hidden unit `u`. -/
def pre (g n u : ℕ) : EReal := ∑ k : Fin 2048, (S.T (16 * n + k / 64) (64 * g + k % 64) + S.P (k / 64) (k % 64)) * S.W k u

/-- The second layer. -/
def out (g n e : ℕ) : EReal := ∑ u : Fin 256, act (S.pre g n u) * S.U u e

/-- The first layer's weights of half `a`, a group's lanes kept and the other group's zero. -/
def part (a g c u : ℕ) : EReal := if c % 128 / 64 = g then S.W (64 * (16 * a + c / 128) + c % 64) u else 0

/-- Sixteen positions from block `n` on, through half `a` of the first layer. -/
def half (a g n u : ℕ) : EReal := ∑ c : Fin 2048, (S.T (16 * n + c / 128) (c % 128) + S.P (16 * a + c / 128) (c % 64)) * S.part a g c u

/-- The lanes of one group, out of sixteen positions of two groups. -/
theorem sum_group (F : ℕ → EReal) (g : ℕ) (hg : g < 2) :
    (∑ c ∈ Finset.range 2048, if c % 128 / 64 = g then F c else 0) = ∑ k ∈ Finset.range 1024, F (128 * (k / 64) + 64 * g + k % 64) := by
  rw [← Finset.sum_filter]
  refine Finset.sum_nbij' (fun c => 64 * (c / 128) + c % 64) (fun k => 128 * (k / 64) + 64 * g + k % 64) ?_ ?_ ?_ ?_ ?_
  · intro c hc
    simp only [Finset.mem_filter, Finset.mem_range] at hc ⊢
    omega
  · intro k hk
    simp only [Finset.mem_filter, Finset.mem_range] at hk ⊢
    omega
  · intro c hc
    simp only [Finset.mem_filter, Finset.mem_range] at hc ⊢
    omega
  · intro k hk
    simp only [Finset.mem_range] at hk ⊢
    omega
  · intro c hc
    simp only [Finset.mem_filter, Finset.mem_range] at hc ⊢
    congr 1
    omega

theorem half_eq (a g n u : ℕ) (hg : g < 2) :
    S.half a g n u = ∑ k ∈ Finset.range 1024, (S.T (16 * n + k / 64) (64 * g + k % 64) + S.P (16 * a + k / 64) (k % 64)) * S.W (1024 * a + k) u := by
  have h := sum_group (fun c => (S.T (16 * n + c / 128) (c % 128) + S.P (16 * a + c / 128) (c % 64)) * S.W (64 * (16 * a + c / 128) + c % 64) u) g hg
  rw [half, ← Finset.sum_range (fun c => (S.T (16 * n + c / 128) (c % 128) + S.P (16 * a + c / 128) (c % 64)) * S.part a g c u)]
  refine Eq.trans (Finset.sum_congr rfl fun c _ => ?_) (h.trans (Finset.sum_congr rfl fun k _ => ?_))
  · rw [part]
    split <;> simp
  · have e1 : (128 * (k / 64) + 64 * g + k % 64) / 128 = k / 64 := by omega
    have e2 : (128 * (k / 64) + 64 * g + k % 64) % 128 = 64 * g + k % 64 := by omega
    have e3 : (128 * (k / 64) + 64 * g + k % 64) % 64 = k % 64 := by omega
    have e4 : 64 * (16 * a + k / 64) + k % 64 = 1024 * a + k := by omega
    simp only [e1, e2, e3, e4]

/-- A block's first layer is its first sixteen positions through the first half, and the next block's through the second. -/
theorem halves (g n u : ℕ) (hg : g < 2) : S.half 0 g n u + S.half 1 g (n + 1) u = S.pre g n u := by
  rw [half_eq S 0 g n u hg, half_eq S 1 g (n + 1) u hg, pre,
    ← Finset.sum_range (fun k => (S.T (16 * n + k / 64) (64 * g + k % 64) + S.P (k / 64) (k % 64)) * S.W k u),
    show 2048 = 1024 + 1024 from rfl, Finset.sum_range_add]
  congr 1

end Side

end Cert.Cx

end
-- ==== Proof.CxRef.lean ====
/- The reference's compression of the keys and of the values, in plain form. -/
module

public import proofs.«01_k».proof.Proof.Gen.Reference4Ideal.Read
public import proofs.«01_k».proof.Proof.CxSpec

@[expose] public section

set_option maxRecDepth 16384

noncomputable section

namespace Cert.Reference4Ideal.Cx

open Cert.Pj Cert.Cx Cert.Reference4Ideal Cert.Reference4Ideal.Read Idealize.ShloMosaic Idealize.ShloMosaic.TcCoe
open scoped BigOperators

/-- One side's plain form, from the arrays. -/
def side (x : FVec Ideal S8x4096x128 .f32) (p : FVec Ideal S1x32x64 .f32) (w : FVec Ideal S1x2048x256 .f32) (u : FVec Ideal S1x256x64 .f32) (b : Fin 8) : Side where
  T := spread fun t j => x (ix3 b t j)
  P := spread fun l d => p (ix3 0 l d)
  W := spread fun k h => w (ix3 0 k h)
  U := spread fun h e => u (ix3 0 h e)

/-- The rows a block starts at and on, as the index array holds them. -/
theorem row_word (n : Fin 255) (l : Fin 32) :
    Scalar.select (IntOp.cmpi CmpIPredicate.slt (BitVec.ofNat 32 n.val * 16#32 + BitVec.ofNat 32 l.val) 0#32)
      (BitVec.ofNat 32 n.val * 16#32 + BitVec.ofNat 32 l.val + 4096#32) (BitVec.ofNat 32 n.val * 16#32 + BitVec.ofNat 32 l.val)
      = BitVec.ofNat 32 (16 * n.val + l.val) := by
  revert n l
  decide +kernel

theorem row_at (n : Fin 255) (l : Fin 32) : (val_main_v18 (F := Ideal)) (ix3 n l 0) = BitVec.ofNat 32 (16 * n.val + l.val) := by
  rw [← row_word n l]
  pointwise [val_main_v18, val_main_v17, val_main_v16, val_main_v15, val_main_v14, val_main_v13, val_main_v8, val_main_v7, val_main_v6, val_main_v5,
    val_main_v4, val_main_v3, val_main_v2, val_main_v1, val_main_v0, val_main_c, val_main_c_0, val_main_c_1]
  rfl

theorem small_nat (n : Fin 255) (l : Fin 32) : min (BitVec.ofNat 32 (16 * n.val + l.val)).toInt.toNat 4095 = 16 * n.val + l.val := by
  revert n l
  decide +kernel

/-- Rows taken by an index array along the second axis. -/
theorem take_at (x : FVec Ideal S8x4096x2x64 .f32) (ix : IVec S255x32x1 32) (b : Fin 8) (n : Fin 255) (l : Fin 32) (g : Fin 2) (d : Fin 64)
    (h : ix (ix3 n l 0) = BitVec.ofNat 32 (16 * n.val + l.val)) :
    Host.gather gather_S8x4096x2x64_S255x32x1_S8x255x32x2x64_034_1_n_n_1_2_81264 x ix (ix5 b n l g d)
      = x (ix4 b ⟨16 * n + l, by omega⟩ g d) := by
  unfold Host.gather
  refine congrArg x (funext fun a => Fin.ext ?_)
  have hs : (gather_S8x4096x2x64_S255x32x1_S8x255x32x2x64_034_1_n_n_1_2_81264).siIdx (ix5 b n l g d) ⟨0, by decide⟩ = ix3 n l 0 := by
    funext e
    fin_cases e <;> rfl
  fin_cases a
  · show 0 + 0 + b.val = b.val
    omega
  · show min (ix ((gather_S8x4096x2x64_S255x32x1_S8x255x32x2x64_034_1_n_n_1_2_81264).siIdx (ix5 b n l g d) ⟨0, _⟩)).toInt.toNat 4095 + 0 + 0 = 16 * n.val + l.val
    rw [hs, h, small_nat, Nat.add_zero]
  · show 0 + 0 + g.val = g.val
    omega
  · show 0 + 0 + d.val = d.val
    omega

section

variable (x : FVec Ideal S8x4096x128 .f32) (p : FVec Ideal S1x32x64 .f32) (w : FVec Ideal S1x2048x256 .f32) (u : FVec Ideal S1x256x64 .f32) (b : Fin 8)

theorem block_at (n : Fin 255) (l : Fin 32) (g : Fin 2) (d : Fin 64) :
    (val_main_v19 (F := Ideal) x) (ix5 b n l g d) = (side x p w u b).T (16 * n + l) (64 * g + d) := by
  refine (take_at _ _ b n l g d (row_at n l)).trans ?_
  pointwise [val_main_v12]
  exact (spread_of (fun t j => x (ix3 b t j)) (by omega) (by omega) (by omega) (by omega)).symm

theorem coded_at (n : Fin 255) (g : Fin 2) (k : Fin 2048) :
    (val_main_v24 (F := Ideal) x p) (ix4 b n g k)
      = (side x p w u b).T (16 * n + k / 64) (64 * g + k % 64) + (side x p w u b).P (k / 64) (k % 64) := by
  have h := block_at x p w u b
  have hP : ∀ (l : Fin 32) (d : Fin 64), p (ix3 0 l d) = (side x p w u b).P l d := fun l d => (spread_of (fun l d => p (ix3 0 l d)) l.isLt d.isLt rfl rfl).symm
  pointwise [val_main_v24, val_main_v23, val_main_v22, val_main_v21, val_main_v20, val_main_v9, h, hP]

theorem pre_at (n : Fin 255) (g : Fin 2) (v : Fin 256) :
    (val_main_v25 (F := Ideal) x p w) (ix4 b n g v) = (side x p w u b).pre g n v := by
  have h := coded_at x p w u b
  have hW : ∀ (k : Fin 2048) (v : Fin 256), w (ix3 0 k v) = (side x p w u b).W k v := fun k v => (spread_of (fun k v => w (ix3 0 k v)) k.isLt v.isLt rfl rfl).symm
  pointwise [val_main_v25, val_main_v10, h, hW, Side.pre]

theorem hidden_at (n : Fin 255) (g : Fin 2) (v : Fin 256) :
    (val_main_v38 (F := Ideal) x p w) (ix4 b n g v) = act ((side x p w u b).pre g n v) := by
  have h := pre_at x p w u b
  have hc : ∀ a : EReal, a * a * a = a * (a * a) := fun a => mul_assoc a a a
  pointwise [val_main_v38, val_main_v37, val_main_v36, val_main_v35, val_main_v34, val_main_v33, val_main_v32, val_main_v31, val_main_v30, val_main_v29,
    val_main_v28, val_main_v27, val_main_v26, val_main_cst, val_main_cst_2, val_main_cst_3, val_main_cst_4, h, act, hc]

theorem out_at (n : Fin 255) (g : Fin 2) (e : Fin 64) :
    (val_main_v39 (F := Ideal) x p w u) (ix4 b n g e) = (side x p w u b).out g n e := by
  have h := hidden_at x p w u b
  have hU : ∀ (v : Fin 256) (e : Fin 64), u (ix3 0 v e) = (side x p w u b).U v e := fun v e => (spread_of (fun v e => u (ix3 0 v e)) v.isLt e.isLt rfl rfl).symm
  pointwise [val_main_v39, val_main_v11, h, hU, Side.out]

/-- The values go the way of the keys. -/
theorem twin : val_main_v71 (F := Ideal) x p w u = val_main_v39 (F := Ideal) x p w u := rfl

/-- The compressed keys, with a row of zeros below. -/
theorem keys (n : Fin 256) (j : Fin 128) :
    (val_main_v78 (F := Ideal) x p w u) (ix3 b n j) = if n.val < 255 then (side x p w u b).out (j / 64) n (j % 64) else 0 := by
  have h := out_at x p w u b
  pointwise [val_main_v78, val_main_v77, val_main_v74, val_main_v73, val_main_v40, val_main_call0_v0, val_main_c_11, h]
  refine choice (fun h => ?_) (fun h => ?_)
  · exact (if_pos (by omega)).symm
  · exact sitofp_zero.trans (if_neg (by omega)).symm

/-- The compressed values, with a column of zeros past the last. -/
theorem vals (j : Fin 128) (n : Fin 256) :
    (val_main_v80 (F := Ideal) x p w u) (ix3 b j n) = if n.val < 255 then (side x p w u b).out (j / 64) n (j % 64) else 0 := by
  have h := out_at x p w u b
  pointwise [val_main_v80, val_main_v79, val_main_v76, val_main_v75, val_main_v72, twin, val_main_call1_v0, val_main_c_12, h]
  refine choice (fun h => ?_) (fun h => ?_)
  · exact (if_pos (by omega)).symm
  · exact sitofp_zero.trans (if_neg (by omega)).symm

end

end Cert.Reference4Ideal.Cx

end
-- ==== Proof.CxKer.lean ====
/- The compression kernel's stages, at an index, over the extended reals. -/
module

public import proofs.«01_k».proof.Proof.Gen.Kernel4Ideal.Value
public import proofs.«01_k».proof.Proof.CxSpec
public import Idealize.ShloMosaic.Lib.KernelVsHost

@[expose] public section

set_option maxRecDepth 16384

noncomputable section

namespace Cert.Kernel4Ideal.Cx

open Cert.Pj Cert.Cx Cert.Kernel4Ideal Cert.Kernel4Ideal.Gen Idealize.ShloMosaic Idealize.ShloMosaic.TcCoe Idealize.SL.Sem
open scoped BigOperators

/-- Rotating the rows one back reads the next row. -/
theorem next_row (x : S256x256.Idx → EReal) (n : Fin 256) (u : Fin 256) (hn : n.val < 255) :
    dynamicRotate 0 255#32 none x rotates_S256x256_d0 (ix2 n u) = x (ix2 ⟨n + 1, by omega⟩ u) := by
  refine dynamicRotate_apply (0 : Fin 2) 255#32 x _ _ _ fun b => ?_
  fin_cases b
  · show n.val + 1 = if (0 : Fin 2) = 0 then (n.val + 256 - 255 % 256) % 256 else n.val
    rw [if_pos rfl]
    omega
  · rfl

/-- Sixteen arrays of rows side by side. -/
def beside (l : ℕ → FVec Ideal S256x128 .f32) : FVec Ideal S256x2048 .f32 :=
  concatenate S256x2048 1
    [⟨S256x128, l 0⟩, ⟨S256x128, l 1⟩, ⟨S256x128, l 2⟩, ⟨S256x128, l 3⟩, ⟨S256x128, l 4⟩, ⟨S256x128, l 5⟩, ⟨S256x128, l 6⟩, ⟨S256x128, l 7⟩, ⟨S256x128, l 8⟩, ⟨S256x128, l 9⟩, ⟨S256x128, l 10⟩, ⟨S256x128, l 11⟩, ⟨S256x128, l 12⟩, ⟨S256x128, l 13⟩, ⟨S256x128, l 14⟩, ⟨S256x128, l 15⟩]
    concatenates_S256x128_S256x128_S256x128_S256x128_S256x128_S256x128_S256x128_S256x128_S256x128_S256x128_S256x128_S256x128_S256x128_S256x128_S256x128_S256x128_S256x2048_d1

/-- The rows with one half of the encoding. -/
def coded (r : FVec Ideal S256x2048 .f32) (v : Vec Ideal S1x2048 .f32) : FVec Ideal S256x2048 .bf16 :=
  truncf .bf16 (addf r (broadcastTo S256x2048 (shapeCast S1x2048 v shapeCasts_S1x2048_S1x2048) broadcasts_S1x2048_S256x2048)) bitsLt_bf16_f32

/-- The rows through one half of a group's weights. -/
def prod (r : FVec Ideal S256x2048 .bf16) (w : Vec Ideal S1x1x2048x256 .bf16) : FVec Ideal S256x256 .f32 :=
  matmul dot_S256x2048_S2048x256_S256x256_1_0_0_1_n_n none r (shapeCast S2048x256 w shapeCasts_S1x1x2048x256_S2048x256 : FVec Ideal S2048x256 .bf16) (constant S256x256 .f32 0x00000000#32)

theorem beside_at (l : ℕ → FVec Ideal S256x128 .f32) (R : ℕ → ℕ → EReal) (n : Fin 256) (h : ∀ i < 16, ∀ j : Fin 128, l i (ix2 n j) = R i j) (c : Fin 2048) :
    beside l (ix2 n c) = R (c / 128) (c % 128) := by
  have hc := c.isLt
  obtain ⟨h0, h1, h2, h3, h4, h5, h6, h7⟩ := And.intro (h 0 (by omega)) (And.intro (h 1 (by omega)) (And.intro (h 2 (by omega)) (And.intro (h 3 (by omega))
    (And.intro (h 4 (by omega)) (And.intro (h 5 (by omega)) (And.intro (h 6 (by omega)) (h 7 (by omega))))))))
  obtain ⟨h8, h9, h10, h11, h12, h13, h14, h15⟩ := And.intro (h 8 (by omega)) (And.intro (h 9 (by omega)) (And.intro (h 10 (by omega)) (And.intro (h 11 (by omega))
    (And.intro (h 12 (by omega)) (And.intro (h 13 (by omega)) (And.intro (h 14 (by omega)) (h 15 (by omega))))))))
  pointwise [beside, h0, h1, h2, h3, h4, h5, h6, h7, h8, h9, h10, h11, h12, h13, h14, h15]
  iterate 15
    refine choice (fun h => ?_) (fun h => ?_)
    · exact congrArg₂ R (by omega) (by omega)
  exact congrArg₂ R (by omega) (by omega)

theorem coded_at (r : FVec Ideal S256x2048 .f32) (v : Vec Ideal S1x2048 .f32) (n : Fin 256) (c : Fin 2048) : coded r v (ix2 n c) = r (ix2 n c) + v (ix2 0 c) := by
  pointwise [coded]

theorem prod_at (r : FVec Ideal S256x2048 .bf16) (w : Vec Ideal S1x1x2048x256 .bf16) (n u : Fin 256) :
    prod r w (ix2 n u) = ∑ c : Fin 2048, r (ix2 n c) * w (ix4 0 0 c u) := by
  pointwise [prod]

/-- The activation of a sum with the next row's. -/
theorem act_at (v51 v54 : FVec Ideal S256x256 .f32) (n u : Fin 256) (hn : n.val < 255) (a b : EReal) (ha : v51 (ix2 n u) = a)
    (hb : v54 (ix2 ⟨n + 1, by omega⟩ u) = b) : k0_pay21 v51 v54 (ix2 n u) = act (a + b) := by
  have hr := (next_row v54 n u hn).trans hb
  unfold k0_pay21
  generalize dynamicRotate 0 255#32 none v54 rotates_S256x256_d0 = w at hr ⊢
  pointwise [ha, hr, act]

/-- A group's hidden units at a block: the block's half and the next block's. -/
theorem hidden_at (r : FVec Ideal S256x2048 .f32) (p0 p1 : Vec Ideal S1x2048 .f32) (w0 w1 : Vec Ideal S1x1x2048x256 .bf16) (S : Side) (g : ℕ) (hg : g < 2)
    (hr : ∀ (n : Fin 256) (c : Fin 2048), r (ix2 n c) = S.T (16 * n + c / 128) (c % 128))
    (hp0 : ∀ c : Fin 2048, p0 (ix2 0 c) = S.P (16 * 0 + c / 128) (c % 64)) (hp1 : ∀ c : Fin 2048, p1 (ix2 0 c) = S.P (16 * 1 + c / 128) (c % 64))
    (hw0 : ∀ (c : Fin 2048) (u : Fin 256), w0 (ix4 0 0 c u) = S.part 0 g c u) (hw1 : ∀ (c : Fin 2048) (u : Fin 256), w1 (ix4 0 0 c u) = S.part 1 g c u)
    (n : Fin 256) (hn : n.val < 255) (u : Fin 256) :
    k0_pay22 (coded r p0) (coded r p1) w0 w1 (ix2 n u) = act (S.pre g n u) := by
  rw [← S.halves g n u hg]
  refine act_at (prod (coded r p0) w0) (prod (coded r p1) w1) n u hn _ _ ?_ ?_
  · rw [prod_at]
    exact Finset.sum_congr rfl fun c _ => by rw [coded_at, hr, hp0, hw0]
  · rw [prod_at]
    exact Finset.sum_congr rfl fun c _ => by rw [coded_at, hr, hp1, hw1]

theorem below_small (n : Fin 256) : IntOp.cmpi CmpIPredicate.slt (BitVec.ofNat 32 n.val) 255#32 = if n.val < 255 then 1#1 else 0#1 := by
  revert n
  decide +kernel

theorem below (n : Fin 256) (a b : EReal) (h : n.val < 255 → a = b) :
    Scalar.select (IntOp.cmpi CmpIPredicate.slt (BitVec.ofNat 32 n.val) 255#32) a 0 = if n.val < 255 then b else 0 := by
  rw [below_small n]
  split
  · exact h (by assumption)
  · rfl

/-- The keys' second layer: both groups, in the lanes each writes. -/
theorem keys_at (v92 v70 : FVec Ideal S256x256 .bf16) (v181 v194 : Vec Ideal S1x256x128 .bf16) (S : Side) (n : Fin 256) (j : Fin 128)
    (h0 : n.val < 255 → ∀ u : Fin 256, v70 (ix2 n u) = act (S.pre 0 n u)) (h1 : n.val < 255 → ∀ u : Fin 256, v92 (ix2 n u) = act (S.pre 1 n u))
    (w0 : ∀ u : Fin 256, v181 (ix3 0 u j) = if j.val / 64 = 0 then S.U u (j % 64) else 0)
    (w1 : ∀ u : Fin 256, v194 (ix3 0 u j) = if j.val / 64 = 1 then S.U u (j % 64) else 0) :
    k0_pay3 k0_pay4 v92 (k0_pay43 v70 v181) v194 (ix3 0 n j) = if n.val < 255 then S.out (j / 64) n (j % 64) else 0 := by
  have hj := j.isLt
  pointwise [k0_pay3, k0_pay4, k0_pay43]
  refine below n _ _ fun hn => ?_
  simp only [h0 hn, h1 hn, w0, w1, Side.out]
  rcases (show j.val / 64 = 0 ∨ j.val / 64 = 1 by omega) with e | e
  · simp [e]
  · simp [e]

/-- The values' second layer, turned. -/
theorem vals_at (v157 : FVec Ideal S256x256 .bf16) (v185 : Vec Ideal S64x256 .bf16) (S : Side) (g : ℕ) (n : Fin 256) (e : Fin 64)
    (h : n.val < 255 → ∀ u : Fin 256, v157 (ix2 n u) = act (S.pre g n u)) (w : ∀ u : Fin 256, v185 (ix2 e u) = S.U u e) :
    k0_pay1 k0_pay5 v157 v185 (ix3 0 e n) = if n.val < 255 then S.out g n e else 0 := by
  pointwise [k0_pay1, k0_pay5]
  refine below n _ _ fun hn => ?_
  exact Finset.sum_congr rfl fun u _ => by rw [h hn u, w u, mul_comm]

end Cert.Kernel4Ideal.Cx

end
-- ==== Proof.CxRun.lean ====
/- The compression kernel's writes at a grid point, as the stages applied to what the body reads. -/
module

public import proofs.«01_k».proof.Proof.CxKer

@[expose] public section

set_option maxRecDepth 16384

noncomputable section

namespace Cert.Kernel4Ideal.Cx

open Cert.Pj Cert.Cx Cert.Kernel4Ideal Cert.Kernel4Ideal.Gen Idealize.ShloMosaic Idealize.ShloMosaic.TcCoe Idealize.SL.Sem
open scoped BigOperators

theorem lane_in (l : ℕ) : ∀ a, S1x256x128.size a = 0 ∨ (![0, l % 16, 0] : Fin 3 → ℕ) a + (![1, 16, 1] : Fin 3 → ℕ) a * (S1x256x128.size a - 1) < S1x4096x128.size a := by
  have h : ∀ m : Fin 16, ∀ a, S1x256x128.size a = 0 ∨ (![0, m.val, 0] : Fin 3 → ℕ) a + (![1, 16, 1] : Fin 3 → ℕ) a * (S1x256x128.size a - 1) < S1x4096x128.size a := by decide
  exact h ⟨l % 16, Nat.mod_lt _ (by omega)⟩

theorem code_in (i : ℕ) : ∀ a, (![i % 2, 0] : Fin 2 → ℕ) a + S1x2048.size a ≤ S2x2048.size a := by
  have h : ∀ m : Fin 2, ∀ a, (![m.val, 0] : Fin 2 → ℕ) a + S1x2048.size a ≤ S2x2048.size a := by decide
  exact h ⟨i % 2, Nat.mod_lt _ (by omega)⟩

theorem layer_in (g i : ℕ) : ∀ a, (![g % 2, i % 2, 0, 0] : Fin 4 → ℕ) a + S1x1x2048x256.size a ≤ S2x2x2048x256.size a := by
  have h : ∀ p q : Fin 2, ∀ a, (![p.val, q.val, 0, 0] : Fin 4 → ℕ) a + S1x1x2048x256.size a ≤ S2x2x2048x256.size a := by decide
  exact h ⟨g % 2, Nat.mod_lt _ (by omega)⟩ ⟨i % 2, Nat.mod_lt _ (by omega)⟩

theorem wide_in (g : ℕ) : ∀ a, (![g % 2, 0, 0] : Fin 3 → ℕ) a + S1x256x128.size a ≤ S2x256x128.size a := by
  have h : ∀ m : Fin 2, ∀ a, (![m.val, 0, 0] : Fin 3 → ℕ) a + S1x256x128.size a ≤ S2x256x128.size a := by decide
  exact h ⟨g % 2, Nat.mod_lt _ (by omega)⟩

/-- Every sixteenth position from `l` on. -/
def lane (a : Memref sig .tc .vmem S1x4096x128 .f32) (h : a.IsWhole) (x : Vec Ideal S1x4096x128 .f32) (l : ℕ) : FVec Ideal S256x128 .f32 :=
  shapeCast S256x128 (View.readAt (Elt Ideal) a.view (⟨![0, l % 16, 0], S1x256x128.size, ![1, 16, 1], lane_in l⟩ : LoadRect S1x4096x128) (h.unread x)) shapeCasts_S1x256x128_S256x128

/-- One half of the encoding. -/
def code (a : Memref sig .tc .vmem S2x2048 .f32) (h : a.IsWhole) (x : Vec Ideal S2x2048 .f32) (i : ℕ) : Vec Ideal S1x2048 .f32 :=
  View.readAt (Elt Ideal) a.view (Rect.unit (s := S2x2048) ![i % 2, 0] S1x2048.size (code_in i)).toLoadRect (h.unread x)

/-- One half of a group's first layer. -/
def layer (a : Memref sig .tc .vmem S2x2x2048x256 .bf16) (h : a.IsWhole) (x : Vec Ideal S2x2x2048x256 .bf16) (g i : ℕ) : Vec Ideal S1x1x2048x256 .bf16 :=
  View.readAt (Elt Ideal) a.view (Rect.unit (s := S2x2x2048x256) ![g % 2, i % 2, 0, 0] S1x1x2048x256.size (layer_in g i)).toLoadRect (h.unread x)

/-- A group's second layer for the keys. -/
def wide (a : Memref sig .tc .vmem S2x256x128 .bf16) (h : a.IsWhole) (x : Vec Ideal S2x256x128 .bf16) (g : ℕ) : Vec Ideal S1x256x128 .bf16 :=
  View.readAt (Elt Ideal) a.view (Rect.unit (s := S2x256x128) ![g % 2, 0, 0] S1x256x128.size (wide_in g)).toLoadRect (h.unread x)

/-- The second layer for the values. -/
def tall (a : Memref sig .tc .vmem S64x256 .bf16) (h : a.IsWhole) (x : Vec Ideal S64x256 .bf16) : Vec Ideal S64x256 .bf16 :=
  View.readAt (Elt Ideal) a.view (Rect.unit (s := S64x256) ![0, 0] S64x256.size inb_S64x256_S64x256_0_0).toLoadRect (h.unread x)

section

variable (a : Memref sig .tc .vmem S1x4096x128 .f32) (ha : a.IsWhole) (x : Vec Ideal S1x4096x128 .f32)
  (p : Memref sig .tc .vmem S2x2048 .f32) (hp : p.IsWhole) (y : Vec Ideal S2x2048 .f32)
  (w : Memref sig .tc .vmem S2x2x2048x256 .bf16) (hw : w.IsWhole) (z : Vec Ideal S2x2x2048x256 .bf16)

/-- A group's hidden units. -/
def hid (g : ℕ) : FVec Ideal S256x256 .bf16 :=
  k0_pay22 (coded (beside (lane a ha x)) (code p hp y 0)) (coded (beside (lane a ha x)) (code p hp y 1)) (layer w hw z g 0) (layer w hw z g 1)

end

variable (c : Dev nD) (i : grid0.Coords) (a1 : Memref sig .tc .vmem S1x4096x128 .f32) (h1 : a1.IsWhole) (a2 : Memref sig .tc .vmem S1x4096x128 .f32) (h2 : a2.IsWhole)
  (a3 : Memref sig .tc .vmem S2x2048 .f32) (h3 : a3.IsWhole) (a4 : Memref sig .tc .vmem S2x2048 .f32) (h4 : a4.IsWhole)
  (a5 : Memref sig .tc .vmem S2x2x2048x256 .bf16) (h5 : a5.IsWhole) (a6 : Memref sig .tc .vmem S2x2x2048x256 .bf16) (h6 : a6.IsWhole)
  (a7 : Memref sig .tc .vmem S2x256x128 .bf16) (h7 : a7.IsWhole) (a8 : Memref sig .tc .vmem S64x256 .bf16) (h8 : a8.IsWhole)
  (a9 : Memref sig .tc .vmem S1x256x128 .bf16) (h9 : a9.IsWhole) (a10 : Memref sig .tc .vmem S1x128x256 .bf16) (h10 : a10.IsWhole)
  (x0 x1 : Vec Ideal S1x4096x128 .f32) (x2 x3 : Vec Ideal S2x2048 .f32) (x4 x5 : Vec Ideal S2x2x2048x256 .bf16) (x6 : Vec Ideal S2x256x128 .bf16)
  (x7 : Vec Ideal S64x256 .bf16)

set_option maxRecDepth 100000 in
set_option maxHeartbeats 0 in
/-- The keys' write. -/
theorem found_keys :
    (kernelRun0_A c i a1 h1 a2 h2 a3 h3 a4 h4 a5 h5 a6 h6 a7 h7 a8 h8 a9 h9 a10 h10 x0 x1 x2 x3 x4 x5 x6 x7).1
      = [⟨Rect.unit ![0, 0, 0] S1x256x128.size inb_S1x256x128_S1x256x128_0_0_0,
          k0_pay3 k0_pay4 (hid a1 h1 x0 a3 h3 x2 a5 h5 x4 1) (k0_pay43 (hid a1 h1 x0 a3 h3 x2 a5 h5 x4 0) (wide a7 h7 x6 0)) (wide a7 h7 x6 1)⟩] := by
  unfold kernelRun0_A
  dsimp only
  rfl

set_option maxRecDepth 100000 in
set_option maxHeartbeats 0 in
/-- The values' writes, one for each group. -/
theorem found_vals :
    (kernelRun0_A c i a1 h1 a2 h2 a3 h3 a4 h4 a5 h5 a6 h6 a7 h7 a8 h8 a9 h9 a10 h10 x0 x1 x2 x3 x4 x5 x6 x7).2.1
      = [⟨Rect.unit ![0, 64, 0] ![1, 64, 256] inb_S1x128x256_S1x64x256_0_64_0, k0_pay1 k0_pay5 (hid a2 h2 x1 a4 h4 x3 a6 h6 x5 1) (tall a8 h8 x7)⟩,
         ⟨Rect.unit ![0, 0, 0] ![1, 64, 256] inb_S1x128x256_S1x64x256_0_0_0, k0_pay1 k0_pay5 (hid a2 h2 x1 a4 h4 x3 a6 h6 x5 0) (tall a8 h8 x7)⟩] := by
  unfold kernelRun0_A
  dsimp only
  rfl

end Cert.Kernel4Ideal.Cx

end
-- ==== Proof.CxHost.lean ====
/- The arrays the host prepares for the compression kernel: the encodings for both groups at once, and each group's layers. -/
module

public import proofs.«01_k».proof.Proof.CxKer

@[expose] public section

set_option maxRecDepth 16384

noncomputable section

namespace Cert.Kernel4Ideal.Cx

open Cert.Pj Cert.Cx Cert.Kernel4Ideal Cert.Kernel4Ideal.Gen Idealize.ShloMosaic Idealize.ShloMosaic.TcCoe Idealize.SL.Sem
open scoped BigOperators

/-- The encoding, repeated for the two groups and cut into two halves. -/
def codes (p : FVec Ideal S1x32x64 .f32) : FVec Ideal S2x2048 .f32 :=
  shapeCast S2x2048 (shapeCast S32x128 (broadcastInDim S1x32x2x64 ![0, 1, 2, 3] bcast_S1x32x1x64_S1x32x2x64_0_1_2_3
    (shapeCast S1x32x1x64 (shapeCast S32x64 p shapeCasts_S1x32x64_S32x64) shapeCasts_S32x64_S1x32x1x64)) shapeCasts_S1x32x2x64_S32x128) shapeCasts_S32x128_S2x2048

/-- The first layer by position and lane. -/
def lanes (w : FVec Ideal S1x2048x256 .f32) : FVec Ideal S32x64x256 .f32 :=
  shapeCast S32x64x256 (shapeCast S2048x256 w shapeCasts_S1x2048x256_S2048x256) shapeCasts_S2048x256_S32x64x256

/-- The first layer, once with each group's lanes kept and the other's zero. -/
def layers (w : FVec Ideal S1x2048x256 .f32) : FVec Ideal S2x2x2048x256 .bf16 :=
  truncf .bf16 (shapeCast S2x2x2048x256 (concatenate S2x32x128x256 0
    [⟨S1x32x128x256, broadcastInDim S1x32x128x256 ![1, 2, 3] bcast_S32x128x256_S1x32x128x256_1_2_3
        (pad S32x128x256 ![0, 0, 0] ![0, 64, 0] ![0, 0, 0] (lanes w) (sitofp (F := Ideal) .f32 (constantI S_ 32 0#32)) pads_S32x64x256_S32x128x256_000_0640_000 h_S_)⟩,
     ⟨S1x32x128x256, broadcastInDim S1x32x128x256 ![1, 2, 3] bcast_S32x128x256_S1x32x128x256_1_2_3
        (pad S32x128x256 ![0, 64, 0] ![0, 0, 0] ![0, 0, 0] (lanes w) (sitofp (F := Ideal) .f32 (constantI S_ 32 0#32)) pads_S32x64x256_S32x128x256_000_6400_000 h_S_)⟩]
    concatenates_S1x32x128x256_S1x32x128x256_S2x32x128x256_d0) shapeCasts_S2x32x128x256_S2x2x2048x256) bitsLt_bf16_f32

/-- The second layer with its leading axis dropped. -/
def last (u : FVec Ideal S1x256x64 .f32) : FVec Ideal S256x64 .f32 := shapeCast S256x64 u shapeCasts_S1x256x64_S256x64

/-- The second layer for the keys, once in each group's lanes. -/
def wides (u : FVec Ideal S1x256x64 .f32) : FVec Ideal S2x256x128 .bf16 :=
  truncf .bf16 (concatenate S2x256x128 0
    [⟨S1x256x128, broadcastInDim S1x256x128 ![1, 2] bcast_S256x128_S1x256x128_1_2
        (pad S256x128 ![0, 0] ![0, 64] ![0, 0] (last u) (sitofp (F := Ideal) .f32 (constantI S_ 32 0#32)) pads_S256x64_S256x128_000_0640 h_S_)⟩,
     ⟨S1x256x128, broadcastInDim S1x256x128 ![1, 2] bcast_S256x128_S1x256x128_1_2
        (pad S256x128 ![0, 64] ![0, 0] ![0, 0] (last u) (sitofp (F := Ideal) .f32 (constantI S_ 32 0#32)) pads_S256x64_S256x128_000_6400 h_S_)⟩]
    concatenates_S1x256x128_S1x256x128_S2x256x128_d0) bitsLt_bf16_f32

/-- The second layer for the values, turned. -/
def turned (u : FVec Ideal S1x256x64 .f32) : FVec Ideal S64x256 .bf16 :=
  truncf .bf16 (transpose S64x256 [1, 0] (last u) transposes_S256x64_S64x256_1_0) bitsLt_bf16_f32

theorem codes_at (p : FVec Ideal S1x32x64 .f32) (i : Fin 2) (c : Fin 2048) :
    codes p (ix2 i c) = spread (fun l d => p (ix3 0 l d)) (16 * i + c / 128) (c % 64) := by
  pointwise [codes]
  exact (spread_of (fun l d => p (ix3 0 l d)) _ _ (by omega) (by omega)).symm

theorem lanes_at (w : FVec Ideal S1x2048x256 .f32) (l : Fin 32) (d : Fin 64) (u : Fin 256) :
    lanes w (ix3 l d u) = spread (fun k u => w (ix3 0 k u)) (64 * l + d) u := by
  pointwise [lanes]
  exact (spread_of (fun k u => w (ix3 0 k u)) _ _ (by omega) (by omega)).symm

theorem layers_at (w : FVec Ideal S1x2048x256 .f32) (g a : Fin 2) (c : Fin 2048) (u : Fin 256) :
    layers w (ix4 g a c u) = if c.val % 128 / 64 = g.val then spread (fun k u => w (ix3 0 k u)) (64 * (16 * a + c / 128) + c % 64) u else 0 := by
  have hg := g.isLt
  have ha := a.isLt
  have hc := c.isLt
  have hu := u.isLt
  pointwise [layers, lanes_at]
  refine choice (fun h => ?_) (fun h => ?_)
  · refine choice (fun h' => ?_) (fun h' => ?_)
    · rw [if_pos (by omega)]
      exact congrArg₂ (spread fun k u => w (ix3 0 k u)) (by omega) (by omega)
    · rw [if_neg (by omega)]
      exact Cert.Pj.sitofp_zero
  · refine choice (fun h' => ?_) (fun h' => ?_)
    · rw [if_pos (by omega)]
      exact congrArg₂ (spread fun k u => w (ix3 0 k u)) (by omega) (by omega)
    · rw [if_neg (by omega)]
      exact Cert.Pj.sitofp_zero

theorem last_at (u : FVec Ideal S1x256x64 .f32) (v : Fin 256) (e : Fin 64) : last u (ix2 v e) = spread (fun v e => u (ix3 0 v e)) v e := by
  pointwise [last]
  exact (spread_of (fun v e => u (ix3 0 v e)) _ _ (by omega) (by omega)).symm

theorem wides_at (u : FVec Ideal S1x256x64 .f32) (g : Fin 2) (v : Fin 256) (j : Fin 128) :
    wides u (ix3 g v j) = if j.val / 64 = g.val then spread (fun v e => u (ix3 0 v e)) v (j % 64) else 0 := by
  have hg := g.isLt
  have hj := j.isLt
  pointwise [wides, last_at]
  refine choice (fun h => ?_) (fun h => ?_)
  · refine choice (fun h' => ?_) (fun h' => ?_)
    · rw [if_pos (by omega)]
      exact congrArg₂ (spread fun v e => u (ix3 0 v e)) (by omega) (by omega)
    · rw [if_neg (by omega)]
      exact Cert.Pj.sitofp_zero
  · refine choice (fun h' => ?_) (fun h' => ?_)
    · rw [if_pos (by omega)]
      exact congrArg₂ (spread fun v e => u (ix3 0 v e)) (by omega) (by omega)
    · rw [if_neg (by omega)]
      exact Cert.Pj.sitofp_zero

theorem turned_at (u : FVec Ideal S1x256x64 .f32) (e : Fin 64) (v : Fin 256) : turned u (ix2 e v) = spread (fun v e => u (ix3 0 v e)) v e := by
  pointwise [turned, last_at]

end Cert.Kernel4Ideal.Cx

end
-- ==== Proof.CxArr.lean ====
/- The compression kernel's blocks at a grid point, as the arguments in memory. -/
module

public import proofs.«01_k».proof.Proof.CxHost

@[expose] public section

set_option maxRecDepth 16384

noncomputable section

namespace Cert.Kernel4Ideal.Cx

open Cert.Pj Cert.Cx Cert.Kernel4Ideal Cert.Kernel4Ideal.Gen Idealize.ShloMosaic Idealize.ShloMosaic.TcCoe Idealize.SL.Sem
open scoped BigOperators

variable (m : (ℓ : Loc nD τ sig) → Buf (Elt Ideal) ℓ) (c : Dev nD)

theorem v4_eq : (V m c main_v4 : FVec Ideal S2x2048 .f32) = codes (m ((c : Thread nD τ).loc main_arg2) : FVec Ideal S1x32x64 .f32) := by
  unfold_abbrev_sides
  simp only [hostOps0, hostOps0_1, hostOps0_2, hostOps0_3, hostOps0_4, hostOps0_5, hostOps0_6, hostOps0_7, hostOps0_8, hostOps0_9, hostOps0_10, hostOps0_11, hostOps0_12,
    List.flatten_cons, List.flatten_nil, List.append_nil, List.cons_append, List.nil_append]
  after_results
  rfl

theorem v9_eq : (V m c main_v9 : FVec Ideal S2x2048 .f32) = codes (m ((c : Thread nD τ).loc main_arg3) : FVec Ideal S1x32x64 .f32) := by
  unfold_abbrev_sides
  simp only [hostOps0, hostOps0_1, hostOps0_2, hostOps0_3, hostOps0_4, hostOps0_5, hostOps0_6, hostOps0_7, hostOps0_8, hostOps0_9, hostOps0_10, hostOps0_11, hostOps0_12,
    List.flatten_cons, List.flatten_nil, List.append_nil, List.cons_append, List.nil_append]
  after_results
  rfl

theorem v18_eq : (V m c main_v18 : FVec Ideal S2x2x2048x256 .bf16) = layers (m ((c : Thread nD τ).loc main_arg4) : FVec Ideal S1x2048x256 .f32) := by
  unfold_abbrev_sides
  simp only [hostOps0, hostOps0_1, hostOps0_2, hostOps0_3, hostOps0_4, hostOps0_5, hostOps0_6, hostOps0_7, hostOps0_8, hostOps0_9, hostOps0_10, hostOps0_11, hostOps0_12,
    List.flatten_cons, List.flatten_nil, List.append_nil, List.cons_append, List.nil_append]
  after_results
  rfl

theorem v27_eq : (V m c main_v27 : FVec Ideal S2x2x2048x256 .bf16) = layers (m ((c : Thread nD τ).loc main_arg6) : FVec Ideal S1x2048x256 .f32) := by
  unfold_abbrev_sides
  simp only [hostOps0, hostOps0_1, hostOps0_2, hostOps0_3, hostOps0_4, hostOps0_5, hostOps0_6, hostOps0_7, hostOps0_8, hostOps0_9, hostOps0_10, hostOps0_11, hostOps0_12,
    List.flatten_cons, List.flatten_nil, List.append_nil, List.cons_append, List.nil_append]
  after_results
  rfl

theorem v34_eq : (V m c main_v34 : FVec Ideal S2x256x128 .bf16) = wides (m ((c : Thread nD τ).loc main_arg5) : FVec Ideal S1x256x64 .f32) := by
  unfold_abbrev_sides
  simp only [hostOps0, hostOps0_1, hostOps0_2, hostOps0_3, hostOps0_4, hostOps0_5, hostOps0_6, hostOps0_7, hostOps0_8, hostOps0_9, hostOps0_10, hostOps0_11, hostOps0_12,
    List.flatten_cons, List.flatten_nil, List.append_nil, List.cons_append, List.nil_append]
  after_results
  rfl

theorem v37_eq : (V m c main_v37 : FVec Ideal S64x256 .bf16) = turned (m ((c : Thread nD τ).loc main_arg7) : FVec Ideal S1x256x64 .f32) := by
  unfold_abbrev_sides
  simp only [hostOps0, hostOps0_1, hostOps0_2, hostOps0_3, hostOps0_4, hostOps0_5, hostOps0_6, hostOps0_7, hostOps0_8, hostOps0_9, hostOps0_10, hostOps0_11, hostOps0_12,
    List.flatten_cons, List.flatten_nil, List.append_nil, List.cons_append, List.nil_append]
  after_results
  rfl

theorem idx0 : ∀ t : Fin cfg0.N, win0_0.index t = ![t.val, 0, 0] := by decide +kernel
theorem idx1 : ∀ t : Fin cfg0.N, win0_1.index t = ![t.val, 0, 0] := by decide +kernel
theorem idx2 : ∀ t : Fin cfg0.N, win0_2.index t = ![0, 0] := by decide +kernel
theorem idx3 : ∀ t : Fin cfg0.N, win0_3.index t = ![0, 0] := by decide +kernel
theorem idx4 : ∀ t : Fin cfg0.N, win0_4.index t = ![0, 0, 0, 0] := by decide +kernel
theorem idx5 : ∀ t : Fin cfg0.N, win0_5.index t = ![0, 0, 0, 0] := by decide +kernel
theorem idx6 : ∀ t : Fin cfg0.N, win0_6.index t = ![0, 0, 0] := by decide +kernel
theorem idx7 : ∀ t : Fin cfg0.N, win0_7.index t = ![0, 0] := by decide +kernel
theorem idx8 : ∀ t : Fin cfg0.N, win0_8.index t = ![t.val, 0, 0] := by decide +kernel
theorem idx9 : ∀ t : Fin cfg0.N, win0_9.index t = ![t.val, 0, 0] := by decide +kernel

theorem b0 (t : Fin cfg0.N) (hb : t.val < 8) (r : Fin 4096) (j : Fin 128) : iblk m c 0 t (ix3 0 r j) = V m c main_arg0 (ix3 ⟨t.val, hb⟩ r j) := by
  blk_ext [iblk, idx0 t]

theorem b1 (t : Fin cfg0.N) (hb : t.val < 8) (r : Fin 4096) (j : Fin 128) : iblk m c 1 t (ix3 0 r j) = V m c main_arg1 (ix3 ⟨t.val, hb⟩ r j) := by
  blk_ext [iblk, idx1 t]

theorem b2 (t : Fin cfg0.N) (i : Fin 2) (k : Fin 2048) : iblk m c 2 t (ix2 i k) = V m c main_v4 (ix2 i k) := by
  blk_ext [iblk, idx2 t]

theorem b3 (t : Fin cfg0.N) (i : Fin 2) (k : Fin 2048) : iblk m c 3 t (ix2 i k) = V m c main_v9 (ix2 i k) := by
  blk_ext [iblk, idx3 t]

theorem b4 (t : Fin cfg0.N) (g a : Fin 2) (k : Fin 2048) (u : Fin 256) : iblk m c 4 t (ix4 g a k u) = V m c main_v18 (ix4 g a k u) := by
  blk_ext [iblk, idx4 t]

theorem b5 (t : Fin cfg0.N) (g a : Fin 2) (k : Fin 2048) (u : Fin 256) : iblk m c 5 t (ix4 g a k u) = V m c main_v27 (ix4 g a k u) := by
  blk_ext [iblk, idx5 t]

theorem b6 (t : Fin cfg0.N) (g : Fin 2) (u : Fin 256) (j : Fin 128) : iblk m c 6 t (ix3 g u j) = V m c main_v34 (ix3 g u j) := by
  blk_ext [iblk, idx6 t]

theorem b7 (t : Fin cfg0.N) (e : Fin 64) (u : Fin 256) : iblk m c 7 t (ix2 e u) = V m c main_v37 (ix2 e u) := by
  blk_ext [iblk, idx7 t]

/-- One side's plain form, from its four arrays. -/
def sideOf (x : FVec Ideal S8x4096x128 .f32) (p : FVec Ideal S1x32x64 .f32) (w : FVec Ideal S1x2048x256 .f32) (u : FVec Ideal S1x256x64 .f32) (b : Fin 8) : Side where
  T := spread fun t j => x (ix3 b t j)
  P := spread fun l d => p (ix3 0 l d)
  W := spread fun k h => w (ix3 0 k h)
  U := spread fun h e => u (ix3 0 h e)

/-- The keys' side, of the arrays in memory. -/
def keySide (b : Fin 8) : Side :=
  sideOf (m ((c : Thread nD τ).loc main_arg0)) (m ((c : Thread nD τ).loc main_arg2)) (m ((c : Thread nD τ).loc main_arg4)) (m ((c : Thread nD τ).loc main_arg5)) b

/-- The values' side, of the arrays in memory. -/
def valSide (b : Fin 8) : Side :=
  sideOf (m ((c : Thread nD τ).loc main_arg1)) (m ((c : Thread nD τ).loc main_arg3)) (m ((c : Thread nD τ).loc main_arg6)) (m ((c : Thread nD τ).loc main_arg7)) b

/-- Blocks that hold one side: its rows, its encoding, and its first layer. -/
structure Feeds (S : Side) (x : Vec Ideal S1x4096x128 .f32) (p : Vec Ideal S2x2048 .f32) (w : Vec Ideal S2x2x2048x256 .bf16) : Prop where
  rows : ∀ (t : Fin 4096) (j : Fin 128), x (ix3 0 t j) = S.T t j
  code : ∀ (i : Fin 2) (k : Fin 2048), p (ix2 i k) = S.P (16 * i + k / 128) (k % 64)
  layer : ∀ (g a : Fin 2) (k : Fin 2048) (u : Fin 256), w (ix4 g a k u) = S.part a g k u

theorem feeds_keys (t : Fin cfg0.N) (hb : t.val < 8) : Feeds (keySide m c ⟨t.val, hb⟩) (iblk m c 0 t) (iblk m c 2 t) (iblk m c 4 t) where
  rows r j := (b0 m c t hb r j).trans ((congrFun (V_main_arg0 m c) _).trans
    (spread_of (fun r j => (m ((c : Thread nD τ).loc main_arg0) : FVec Ideal S8x4096x128 .f32) (ix3 ⟨t.val, hb⟩ r j)) r.isLt j.isLt rfl rfl).symm)
  code i k := (b2 m c t i k).trans ((congrFun (v4_eq m c) _).trans (codes_at _ i k))
  layer g a k u := (b4 m c t g a k u).trans ((congrFun (v18_eq m c) _).trans (layers_at _ g a k u))

theorem feeds_vals (t : Fin cfg0.N) (hb : t.val < 8) : Feeds (valSide m c ⟨t.val, hb⟩) (iblk m c 1 t) (iblk m c 3 t) (iblk m c 5 t) where
  rows r j := (b1 m c t hb r j).trans ((congrFun (V_main_arg1 m c) _).trans
    (spread_of (fun r j => (m ((c : Thread nD τ).loc main_arg1) : FVec Ideal S8x4096x128 .f32) (ix3 ⟨t.val, hb⟩ r j)) r.isLt j.isLt rfl rfl).symm)
  code i k := (b3 m c t i k).trans ((congrFun (v9_eq m c) _).trans (codes_at _ i k))
  layer g a k u := (b5 m c t g a k u).trans ((congrFun (v27_eq m c) _).trans (layers_at _ g a k u))

theorem wide_keys (t : Fin cfg0.N) (b : Fin 8) (g : Fin 2) (u : Fin 256) (j : Fin 128) :
    iblk m c 6 t (ix3 g u j) = if j.val / 64 = g.val then (keySide m c b).U u (j % 64) else 0 :=
  (b6 m c t g u j).trans ((congrFun (v34_eq m c) _).trans (wides_at _ g u j))

theorem tall_vals (t : Fin cfg0.N) (b : Fin 8) (e : Fin 64) (u : Fin 256) : iblk m c 7 t (ix2 e u) = (valSide m c b).U u e :=
  (b7 m c t e u).trans ((congrFun (v37_eq m c) _).trans (turned_at _ e u))

end Cert.Kernel4Ideal.Cx

end
-- ==== Proof.CxLoad.lean ====
/- What the compression kernel's body reads from its blocks, at an index, and the blocks it leaves. -/
module

public import proofs.«01_k».proof.Proof.CxRun
public import proofs.«01_k».proof.Proof.CxArr
public import Idealize.ShloMosaic.Lib.Pipeline.ValueKit

@[expose] public section

set_option maxRecDepth 16384

noncomputable section

namespace Cert.Kernel4Ideal.Cx

open Cert.Pj Cert.Cx Cert.Kernel4Ideal Cert.Kernel4Ideal.Gen Idealize.ShloMosaic Idealize.ShloMosaic.TcCoe Idealize.SL.Sem
open scoped BigOperators

theorem cast_lane (x : S1x256x128.Idx → EReal) (n : Fin 256) (j : Fin 128) : shapeCast S256x128 x shapeCasts_S1x256x128_S256x128 (ix2 n j) = x (ix3 0 n j) := by
  pointwise

section

variable (a : Memref sig .tc .vmem S1x4096x128 .f32) (ha : a.IsWhole) (x : Vec Ideal S1x4096x128 .f32)
  (p : Memref sig .tc .vmem S2x2048 .f32) (hp : p.IsWhole) (y : Vec Ideal S2x2048 .f32)
  (w : Memref sig .tc .vmem S2x2x2048x256 .bf16) (hw : w.IsWhole) (z : Vec Ideal S2x2x2048x256 .bf16)
  (d : Memref sig .tc .vmem S2x256x128 .bf16) (hd : d.IsWhole) (q : Vec Ideal S2x256x128 .bf16)
  (e : Memref sig .tc .vmem S64x256 .bf16) (he : e.IsWhole) (v : Vec Ideal S64x256 .bf16)

theorem lane_at (l : ℕ) (hl : l < 16) (n : Fin 256) (j : Fin 128) : lane a ha x l (ix2 n j) = x (ix3 0 ⟨16 * n + l, by omega⟩ j) := by
  unfold lane
  rw [cast_lane, View.readAt_apply, ha.read_unread]
  refine congrArg x (funext fun b => Fin.ext ?_)
  fin_cases b
  · rfl
  · show l % 16 + 16 * n.val = 16 * n.val + l
    omega
  · show 0 + 1 * j.val = j.val
    omega

theorem code_at (i : ℕ) (hi : i < 2) (k : Fin 2048) : code p hp y i (ix2 0 k) = y (ix2 ⟨i, hi⟩ k) := by
  unfold code
  rw [View.readAt_eq_ld, hp.read_unread]
  refine View.ld_unit_apply_of _ _ _ _ _ _ fun b => ?_
  fin_cases b <;> simp [ix2, Nat.mod_eq_of_lt hi]

theorem layer_at (g i : ℕ) (hg : g < 2) (hi : i < 2) (k : Fin 2048) (u : Fin 256) : layer w hw z g i (ix4 0 0 k u) = z (ix4 ⟨g, hg⟩ ⟨i, hi⟩ k u) := by
  unfold layer
  rw [View.readAt_eq_ld, hw.read_unread]
  refine View.ld_unit_apply_of _ _ _ _ _ _ fun b => ?_
  fin_cases b <;> simp [ix4, Nat.mod_eq_of_lt hg, Nat.mod_eq_of_lt hi]

theorem wide_at (g : ℕ) (hg : g < 2) (u : Fin 256) (j : Fin 128) : wide d hd q g (ix3 0 u j) = q (ix3 ⟨g, hg⟩ u j) := by
  unfold wide
  rw [View.readAt_eq_ld, hd.read_unread]
  refine View.ld_unit_apply_of _ _ _ _ _ _ fun b => ?_
  fin_cases b <;> simp [ix3, Nat.mod_eq_of_lt hg]

theorem tall_eq : tall e he v = v := by
  unfold tall
  rw [View.readAt_eq_ld, he.read_unread]
  exact View.ld_unit_lit _ _ (by decide)

variable {x y z} {S : Side}

/-- A group's hidden units are the side's. -/
theorem hid_at (H : Feeds S x y z) (g : ℕ) (hg : g < 2) (n : Fin 256) (hn : n.val < 255) (u : Fin 256) :
    hid a ha x p hp y w hw z g (ix2 n u) = act (S.pre g n u) := by
  refine hidden_at _ _ _ _ _ S g hg (fun n k => ?_) (fun k => ?_) (fun k => ?_) (fun k u => ?_) (fun k u => ?_) n hn u
  · refine beside_at (lane a ha x) (fun l j => S.T (16 * n + l) j) n (fun l hl j => ?_) k
    rw [lane_at a ha x l hl, H.rows]
  · exact (code_at p hp y 0 (by omega) k).trans (H.code _ k)
  · exact (code_at p hp y 1 (by omega) k).trans (H.code _ k)
  · exact (layer_at w hw z g 0 hg (by omega) k u).trans (H.layer _ _ k u)
  · exact (layer_at w hw z g 1 hg (by omega) k u).trans (H.layer _ _ k u)

end

variable (c : Dev nD) (i : grid0.Coords) (a1 : Memref sig .tc .vmem S1x4096x128 .f32) (h1 : a1.IsWhole) (a2 : Memref sig .tc .vmem S1x4096x128 .f32) (h2 : a2.IsWhole)
  (a3 : Memref sig .tc .vmem S2x2048 .f32) (h3 : a3.IsWhole) (a4 : Memref sig .tc .vmem S2x2048 .f32) (h4 : a4.IsWhole)
  (a5 : Memref sig .tc .vmem S2x2x2048x256 .bf16) (h5 : a5.IsWhole) (a6 : Memref sig .tc .vmem S2x2x2048x256 .bf16) (h6 : a6.IsWhole)
  (a7 : Memref sig .tc .vmem S2x256x128 .bf16) (h7 : a7.IsWhole) (a8 : Memref sig .tc .vmem S64x256 .bf16) (h8 : a8.IsWhole)
  (a9 : Memref sig .tc .vmem S1x256x128 .bf16) (h9 : a9.IsWhole) (a10 : Memref sig .tc .vmem S1x128x256 .bf16) (h10 : a10.IsWhole)
  (x0 x1 : Vec Ideal S1x4096x128 .f32) (x2 x3 : Vec Ideal S2x2048 .f32) (x4 x5 : Vec Ideal S2x2x2048x256 .bf16) (x6 : Vec Ideal S2x256x128 .bf16)
  (x7 : Vec Ideal S64x256 .bf16)

/-- The keys' block at a point. -/
theorem keys_block (S : Side) (H : Feeds S x0 x2 x4)
    (hq : ∀ (g : Fin 2) (u : Fin 256) (j : Fin 128), x6 (ix3 g u j) = if j.val / 64 = g.val then S.U u (j % 64) else 0) (n : Fin 256) (j : Fin 128) :
    out0_A_8 c i a1 h1 a2 h2 a3 h3 a4 h4 a5 h5 a6 h6 a7 h7 a8 h8 a9 h9 a10 h10 x0 x1 x2 x3 x4 x5 x6 x7 (ix3 0 n j)
      = if n.val < 255 then S.out (j / 64) n (j % 64) else 0 := by
  have hc := cover0_A_8 c i a1 h1 a2 h2 a3 h3 a4 h4 a5 h5 a6 h6 a7 h7 a8 h8 a9 h9 a10 h10 x0 x1 x2 x3 x4 x5 x6 x7 (ix3 0 n j)
  unfold out0_A_8
  rw [found_keys] at hc ⊢
  refine (View.read_writes_apply_eq_canon _ _ _ _ hc).trans ((congrFun (View.canon_cons_unit_lit _ _ _ (by decide)) _).trans ?_)
  refine keys_at _ _ _ _ S n j (fun hn u => hid_at _ _ _ _ _ _ H 0 (by omega) n hn u) (fun hn u => hid_at _ _ _ _ _ _ H 1 (by omega) n hn u) (fun u => ?_) (fun u => ?_)
  · exact (wide_at a7 h7 x6 0 (by omega) u j).trans (hq _ u j)
  · exact (wide_at a7 h7 x6 1 (by omega) u j).trans (hq _ u j)

/-- The values' block at a point, from its two writes. -/
theorem vals_block (S : Side) (H : Feeds S x1 x3 x5) (hv : ∀ (e : Fin 64) (u : Fin 256), x7 (ix2 e u) = S.U u e) (j : Fin 128) (n : Fin 256) :
    out0_A_9 c i a1 h1 a2 h2 a3 h3 a4 h4 a5 h5 a6 h6 a7 h7 a8 h8 a9 h9 a10 h10 x0 x1 x2 x3 x4 x5 x6 x7 (ix3 0 j n)
      = if n.val < 255 then S.out (j / 64) n (j % 64) else 0 := by
  have hc := cover0_A_9 c i a1 h1 a2 h2 a3 h3 a4 h4 a5 h5 a6 h6 a7 h7 a8 h8 a9 h9 a10 h10 x0 x1 x2 x3 x4 x5 x6 x7 (ix3 0 j n)
  unfold out0_A_9
  rw [found_vals] at hc ⊢
  refine (View.read_writes_apply_eq_canon _ _ _ _ hc).trans ?_
  refine View.canon_eq_of_allAt _ _ _ hc (View.allAt_cons_unit _ _ _ _ _ ?_ (View.allAt_cons_unit _ _ _ _ _ ?_ (View.allAt_nil _ _)))
  · intro z hz
    idx_vars z
    have e2 := hz 2
    have e1 := hz 1
    simp [ix3] at e1 e2
    obtain rfl : z0 = 0 := Subsingleton.elim _ _
    obtain rfl : n = z2 := Fin.ext e2
    refine (vals_at _ _ S 1 n z1 (fun hn u => hid_at _ _ _ _ _ _ H 1 (by omega) n hn u) (fun u => by rw [tall_eq, hv])).trans ?_
    rw [show j.val / 64 = 1 by omega, show j.val % 64 = z1.val by omega]
  · intro z hz
    idx_vars z
    have e2 := hz 2
    have e1 := hz 1
    simp [ix3] at e1 e2
    obtain rfl : z0 = 0 := Subsingleton.elim _ _
    obtain rfl : n = z2 := Fin.ext e2
    refine (vals_at _ _ S 0 n z1 (fun hn u => hid_at _ _ _ _ _ _ H 0 (by omega) n hn u) (fun u => by rw [tall_eq, hv])).trans ?_
    rw [show j.val / 64 = 0 by omega, show j.val % 64 = z1.val by omega]

variable (m : (ℓ : Loc nD τ sig) → Buf (Elt Ideal) ℓ)

/-- The array of compressed keys after the run. -/
theorem keys_array (b : Fin 8) (n : Fin 256) (j : Fin 128) :
    ((dats m 0 c).arrAt 8 cfg0.N : FVec Ideal S8x256x128 .bf16) (ix3 b n j) = if n.val < 255 then (keySide m c b).out (j / 64) n (j % 64) else 0 := by
  have h : ∀ G : Fin 8 → Fin 256 → Fin 128 → EReal, (∀ b n j, G b n j = if n.val < 255 then (keySide m c b).out (j / 64) n (j % 64) else 0)
      → (dats m 0 c).arrAt 8 cfg0.N = (fun z : S8x256x128.Idx => G (z 0) (z 1) (z 2)) := by
    intro G hG
    refine (dats m 0 c).arrAt_eq_of_covers 8 _ (by decide +kernel) fun t hf y => ?_
    blk_simp
    rw [after0_8]
    unfold outsAt0
    have hN : t.val < 8 := t.isLt
    idx_vars y
    obtain rfl : y0 = 0 := Subsingleton.elim _ _
    refine (keys_block c (grid0.coords t) _ _ _ _ _ _ _ _ _ _ _ _ _ _ _ _ _ _ _ _ _ _ _ _ _ _ _ _ _ (feeds_keys m c t hN) (wide_keys m c t _) y1 y2).trans ?_
    have p0 : ((View.whole main_v38_0).slice (win0_8.rect t)).emb (ix3 0 y1 y2) 0 = (⟨t.val, hN⟩ : Fin 8) := by
      apply Fin.ext; blk_simp [idx8 t]; simp [ix3]
    have p1 : ((View.whole main_v38_0).slice (win0_8.rect t)).emb (ix3 0 y1 y2) 1 = y1 := by
      apply Fin.ext; blk_simp [idx8 t]
    have p2 : ((View.whole main_v38_0).slice (win0_8.rect t)).emb (ix3 0 y1 y2) 2 = y2 := by
      apply Fin.ext; blk_simp [idx8 t]
    rw [p0, p1, p2, hG]
  exact congrFun (h (fun b n j => if n.val < 255 then (keySide m c b).out (j / 64) n (j % 64) else 0) fun _ _ _ => rfl) (ix3 b n j)

/-- The array of compressed values after the run. -/
theorem vals_array (b : Fin 8) (j : Fin 128) (n : Fin 256) :
    ((dats m 0 c).arrAt 9 cfg0.N : FVec Ideal S8x128x256 .bf16) (ix3 b j n) = if n.val < 255 then (valSide m c b).out (j / 64) n (j % 64) else 0 := by
  have h : ∀ G : Fin 8 → Fin 128 → Fin 256 → EReal, (∀ b j n, G b j n = if n.val < 255 then (valSide m c b).out (j / 64) n (j % 64) else 0)
      → (dats m 0 c).arrAt 9 cfg0.N = (fun z : S8x128x256.Idx => G (z 0) (z 1) (z 2)) := by
    intro G hG
    refine (dats m 0 c).arrAt_eq_of_covers 9 _ (by decide +kernel) fun t hf y => ?_
    blk_simp
    rw [after0_9]
    unfold outsAt0
    have hN : t.val < 8 := t.isLt
    idx_vars y
    obtain rfl : y0 = 0 := Subsingleton.elim _ _
    refine (vals_block c (grid0.coords t) _ _ _ _ _ _ _ _ _ _ _ _ _ _ _ _ _ _ _ _ _ _ _ _ _ _ _ _ _ (feeds_vals m c t hN) (tall_vals m c t _) y1 y2).trans ?_
    have p0 : ((View.whole main_v38_1).slice (win0_9.rect t)).emb (ix3 0 y1 y2) 0 = (⟨t.val, hN⟩ : Fin 8) := by
      apply Fin.ext; blk_simp [idx9 t]; simp [ix3]
    have p1 : ((View.whole main_v38_1).slice (win0_9.rect t)).emb (ix3 0 y1 y2) 1 = y1 := by
      apply Fin.ext; blk_simp [idx9 t]
    have p2 : ((View.whole main_v38_1).slice (win0_9.rect t)).emb (ix3 0 y1 y2) 2 = y2 := by
      apply Fin.ext; blk_simp [idx9 t]
    rw [p0, p1, p2, hG]
  exact congrFun (h (fun b j n => if n.val < 255 then (valSide m c b).out (j / 64) n (j % 64) else 0) fun _ _ _ => rfl) (ix3 b j n)

end Cert.Kernel4Ideal.Cx

end
-- ==== Proof.CxClaim.lean ====
/- The claims about the compression: the reference's run, and that kernel and reference agree over the extended reals. -/
module

public import proofs.«01_k».proof.Defs
public import proofs.«01_k».proof.Proof.Gen.Reference4Ideal.Run
public import proofs.«01_k».proof.Proof.CxRef
public import proofs.«01_k».proof.Proof.CxLoad

@[expose] public section

set_option maxRecDepth 16384

noncomputable section

namespace Cert.CxClaim

open Idealize.ShloMosaic Idealize.ShloMosaic.TcCoe Idealize.SL.Sem

/-- The reference runs, leaves its arguments, and declares no semaphore. -/
theorem frame_reference : Cert.quiescent_Reference4Ideal := fun m ρ _ =>
  (θ_run Cert.Reference4Ideal.defs _ _).mono
    (fun r h => ⟨fun c => (h c).2.2, sem_eq_zero_of_no_sems (by decide) r.2⟩) (Cert.Reference4Ideal.Value.run (F := Ideal) m ρ)

section

variable (m : (ℓ : Loc Cert.Kernel4Ideal.nD Cert.Kernel4Ideal.τ Cert.Kernel4Ideal.sig) → Buf (Elt Ideal) ℓ) (c : Dev Cert.Kernel4Ideal.nD)
  (x : FVec Ideal Cert.Reference4Ideal.S8x4096x128 .f32) (p : FVec Ideal Cert.Reference4Ideal.S1x32x64 .f32)
  (w : FVec Ideal Cert.Reference4Ideal.S1x2048x256 .f32) (u : FVec Ideal Cert.Reference4Ideal.S1x256x64 .f32)

/-- The compressed keys are one array on both sides where the arguments agree. -/
theorem keys (hx : x = m ((c.tc : Thread Cert.Kernel4Ideal.nD Cert.Kernel4Ideal.τ).loc Cert.Kernel4Ideal.main_arg0))
    (hp : p = m ((c.tc : Thread Cert.Kernel4Ideal.nD Cert.Kernel4Ideal.τ).loc Cert.Kernel4Ideal.main_arg2))
    (hw : w = m ((c.tc : Thread Cert.Kernel4Ideal.nD Cert.Kernel4Ideal.τ).loc Cert.Kernel4Ideal.main_arg4))
    (hu : u = m ((c.tc : Thread Cert.Kernel4Ideal.nD Cert.Kernel4Ideal.τ).loc Cert.Kernel4Ideal.main_arg5)) :
    Cert.Reference4Ideal.Read.val_main_v78 (F := Ideal) x p w u = (Cert.Kernel4Ideal.Gen.dats (F := Ideal) m 0 c).arrAt 8 Cert.Kernel4Ideal.cfg0.N := by
  funext z
  idx_vars z
  refine (Cert.Reference4Ideal.Cx.keys x p w u z0 z1 z2).trans ?_
  have h : Cert.Reference4Ideal.Cx.side x p w u z0 = Cert.Kernel4Ideal.Cx.keySide m c z0 := by
    subst hx hp hw hu
    rfl
  rw [h]
  exact (Cert.Kernel4Ideal.Cx.keys_array c m z0 z1 z2).symm

/-- The compressed values are one array on both sides where the arguments agree. -/
theorem vals (hx : x = m ((c.tc : Thread Cert.Kernel4Ideal.nD Cert.Kernel4Ideal.τ).loc Cert.Kernel4Ideal.main_arg1))
    (hp : p = m ((c.tc : Thread Cert.Kernel4Ideal.nD Cert.Kernel4Ideal.τ).loc Cert.Kernel4Ideal.main_arg3))
    (hw : w = m ((c.tc : Thread Cert.Kernel4Ideal.nD Cert.Kernel4Ideal.τ).loc Cert.Kernel4Ideal.main_arg6))
    (hu : u = m ((c.tc : Thread Cert.Kernel4Ideal.nD Cert.Kernel4Ideal.τ).loc Cert.Kernel4Ideal.main_arg7)) :
    Cert.Reference4Ideal.Read.val_main_v80 (F := Ideal) x p w u = (Cert.Kernel4Ideal.Gen.dats (F := Ideal) m 0 c).arrAt 9 Cert.Kernel4Ideal.cfg0.N := by
  funext z
  idx_vars z
  refine (Cert.Reference4Ideal.Cx.vals x p w u z0 z1 z2).trans ?_
  have h : Cert.Reference4Ideal.Cx.side x p w u z0 = Cert.Kernel4Ideal.Cx.valSide m c z0 := by
    subst hx hp hw hu
    rfl
  rw [h]
  exact (Cert.Kernel4Ideal.Cx.vals_array c m z0 z1 z2).symm

end

/-- Kernel and reference over the extended reals. -/
theorem algebraic : Cert.algebraic_Kernel4Ideal_Reference4Ideal := by
  intro m ρ m' ρ' _ hagree
  refine ⟨fun c => (Cert.Kernel4Ideal.Gen.dats (F := Ideal) m 0 c).arrAt 8 Cert.Kernel4Ideal.cfg0.N,
    fun c => (Cert.Kernel4Ideal.Gen.dats (F := Ideal) m 0 c).arrAt 9 Cert.Kernel4Ideal.cfg0.N,
    Cert.Kernel4Ideal.Value.run_blocks (F := Ideal) m ρ, ?_⟩
  refine (θ_run Cert.Reference4Ideal.defs _ _).mono (fun _ h c => ?_) (Cert.Reference4Ideal.Value.run (F := Ideal) m' ρ')
  obtain ⟨h0, h1, h2, h3, h4, h5, h6, h7⟩ := hagree c
  obtain ⟨r0, r1, kept⟩ := h c
  refine ⟨r0.trans ?_, r1.trans ?_, kept⟩
  · rw [Cert.Reference4Ideal.Read.val_main_v78_eq]
    exact keys m c _ _ _ _ h0 h2 h4 h5
  · rw [Cert.Reference4Ideal.Read.val_main_v80_eq]
    exact vals m c _ _ _ _ h1 h3 h6 h7

end Cert.CxClaim

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Step
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.HgClaim
public import proofs.«01_k».proof.Proof.TlClaim
public import proofs.«01_k».proof.Proof.PjClaim
public import proofs.«01_k».proof.Proof.CxClaim
public import Idealize.ShloMosaic.Adequacy
public import Idealize.ShloMosaic.Init

@[expose] public section

noncomputable section

namespace Cert.Proof

open Idealize.ShloMosaic Idealize.SL.Sem Cert.Kernel

/-- The claim: the runs of the programs, that each ideal kernel is its kernel, and that it computes what its reference computes. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  fun m ρ _ => Cert.Kernel.Gen.frame m ρ, fun m ρ _ => Cert.KernelIdeal.Gen.frame m ρ, Cert.HgClaim.frame_reference,
  fun m ρ _ => Cert.Kernel2.Gen.frame m ρ, fun m ρ _ => Cert.Kernel2Ideal.Gen.frame m ρ, Cert.TlClaim.frame_reference,
  fun m ρ _ => Cert.Kernel3.Gen.frame m ρ, fun m ρ _ => Cert.Kernel3Ideal.Gen.frame m ρ, Cert.PjClaim.frame_reference,
  fun m ρ _ => Cert.Kernel4.Gen.frame m ρ, fun m ρ _ => Cert.Kernel4Ideal.Gen.frame m ρ, Cert.CxClaim.frame_reference,
  trivial, Cert.HgClaim.algebraic, trivial, Cert.TlClaim.algebraic, trivial, Cert.PjClaim.algebraic,
  trivial, Cert.CxClaim.algebraic⟩

end Cert.Proof

end
